-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attention_arguments [hPre_attention_arguments : Cert.Pre_attention_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_attention_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_attention_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_attention_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_attention_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_attention_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attention_arguments [hPre_attention_arguments : Cert.Pre_attention_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attention_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_attention_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_attention_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_attention_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_attention_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_rotary_columns [hPre_rotary_columns : Cert.Pre_rotary_columns.Facts] (m : (ℓ : Loc Cert.PrepIdeal.nD Cert.PrepIdeal.τ Cert.PrepIdeal.sig) → Buf (Elt Ideal) ℓ) : Prop :=
  ∀ c : Dev Cert.PrepIdeal.nD,
    (Cert.Pre_rotary_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).1 = (fun _ => 1#1)
    ∧ (Cert.Pre_rotary_columns.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))).2 = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_rotary_columns [hPre_rotary_columns : Cert.Pre_rotary_columns.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_rotary_columns.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5))).1 = (fun _ => 1#1)
    ∧ (Cert.Pre_rotary_columns.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4)) (m ((c.tc : Thread Cert.PrepReferenceIdeal.nD Cert.PrepReferenceIdeal.τ).loc Cert.PrepReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_attention_arguments [hKernelIdeal : Cert.KernelIdeal.Facts] [hPre_attention_arguments : Cert.Pre_attention_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attention_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_attention_arguments [hReferenceIdeal : Cert.ReferenceIdeal.Facts] [hPre_attention_arguments : Cert.Pre_attention_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attention_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepIdeal_pre_rotary_columns [hPrepIdeal : Cert.PrepIdeal.Facts] [hPre_rotary_columns : Cert.Pre_rotary_columns.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_rotary_columns m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def quiescent_PrepReferenceIdeal_pre_rotary_columns [hPrepReferenceIdeal : Cert.PrepReferenceIdeal.Facts] [hPre_rotary_columns : Cert.Pre_rotary_columns.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_rotary_columns m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4)
      ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0)

def preserves_Kernel_KernelIdeal : Prop :=
  True

def algebraic_KernelIdeal_ReferenceIdeal_pre_attention_arguments [hKernelIdeal : Cert.KernelIdeal.Facts] [hReferenceIdeal : Cert.ReferenceIdeal.Facts] [hPre_attention_arguments : Cert.Pre_attention_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attention_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v38) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v13) = v0 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v6) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def preserves_Prep_PrepIdeal : Prop :=
  True

def algebraic_PrepIdeal_PrepReferenceIdeal_pre_rotary_columns [hPrepIdeal : Cert.PrepIdeal.Facts] [hPrepReferenceIdeal : Cert.PrepReferenceIdeal.Facts] [hPre_rotary_columns : Cert.Pre_rotary_columns.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_rotary_columns m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)
      ∧ m' ((c.tc : Thread Cert.PrepReferenceIdeal.nD Cert.PrepReferenceIdeal.τ).loc Cert.PrepReferenceIdeal.main_arg5) = m ((c.tc : Thread Cert.PrepIdeal.nD Cert.PrepIdeal.τ).loc Cert.PrepIdeal.main_arg5)) →
    ∃ (v0 : (c : Dev Cert.PrepIdeal.nD) → Buf (Elt Ideal) ((c.tc : Thread Cert.PrepIdeal.nD Cert.PrepIdeal.τ).loc Cert.PrepIdeal.main_v33_0)) (v1 : (c : Dev Cert.PrepIdeal.nD) → Buf (Elt Ideal) ((c.tc : Thread Cert.PrepIdeal.nD Cert.PrepIdeal.τ).loc Cert.PrepIdeal.main_v33_1)) (v2 : (c : Dev Cert.PrepIdeal.nD) → Buf (Elt Ideal) ((c.tc : Thread Cert.PrepIdeal.nD Cert.PrepIdeal.τ).loc Cert.PrepIdeal.main_v33_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v33_0) = v0 c
          ∧ r.2.mem ((c.tc : Thread Cert.PrepIdeal.nD Cert.PrepIdeal.τ).loc Cert.PrepIdeal.main_v33_1) = v1 c
          ∧ r.2.mem ((c.tc : Thread Cert.PrepIdeal.nD Cert.PrepIdeal.τ).loc Cert.PrepIdeal.main_v33_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v91) = v0 c
          ∧ r.2.mem ((c.tc : Thread Cert.PrepReferenceIdeal.nD Cert.PrepReferenceIdeal.τ).loc Cert.PrepReferenceIdeal.main_v93) = v1 c
          ∧ r.2.mem ((c.tc : Thread Cert.PrepReferenceIdeal.nD Cert.PrepReferenceIdeal.τ).loc Cert.PrepReferenceIdeal.main_v96) = v2 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4)
          ∧ r.2.mem ((c.tc : Thread Cert.PrepReferenceIdeal.nD Cert.PrepReferenceIdeal.τ).loc Cert.PrepReferenceIdeal.main_arg5) = m' ((c.tc : Thread Cert.PrepReferenceIdeal.nD Cert.PrepReferenceIdeal.τ).loc Cert.PrepReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hOutProj : Cert.OutProj.Facts) (hOutProjIdeal : Cert.OutProjIdeal.Facts) (hOutProjReferenceIdeal : Cert.OutProjReferenceIdeal.Facts) (hPrep : Cert.Prep.Facts) (hPrepIdeal : Cert.PrepIdeal.Facts) (hPrepReferenceIdeal : Cert.PrepReferenceIdeal.Facts) (hPre_attention_arguments : Cert.Pre_attention_arguments.Facts) (hPre_rotary_columns : Cert.Pre_rotary_columns.Facts),
    quiescent_Kernel (hKernel := hKernel)
    ∧ quiescent_KernelIdeal (hKernelIdeal := hKernelIdeal)
    ∧ quiescent_KernelIdeal_pre_attention_arguments (hKernelIdeal := hKernelIdeal) (hPre_attention_arguments := hPre_attention_arguments)
    ∧ quiescent_ReferenceIdeal (hReferenceIdeal := hReferenceIdeal)
    ∧ quiescent_ReferenceIdeal_pre_attention_arguments (hReferenceIdeal := hReferenceIdeal) (hPre_attention_arguments := hPre_attention_arguments)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Prep (hPrep := hPrep)
    ∧ quiescent_PrepIdeal (hPrepIdeal := hPrepIdeal)
    ∧ quiescent_PrepIdeal_pre_rotary_columns (hPrepIdeal := hPrepIdeal) (hPre_rotary_columns := hPre_rotary_columns)
    ∧ quiescent_PrepReferenceIdeal (hPrepReferenceIdeal := hPrepReferenceIdeal)
    ∧ quiescent_PrepReferenceIdeal_pre_rotary_columns (hPrepReferenceIdeal := hPrepReferenceIdeal) (hPre_rotary_columns := hPre_rotary_columns)
    ∧ preserves_Kernel_KernelIdeal
    ∧ algebraic_KernelIdeal_ReferenceIdeal_pre_attention_arguments (hKernelIdeal := hKernelIdeal) (hReferenceIdeal := hReferenceIdeal) (hPre_attention_arguments := hPre_attention_arguments)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal (hInProjIdeal := hInProjIdeal) (hInProjReferenceIdeal := hInProjReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Prep_PrepIdeal
    ∧ algebraic_PrepIdeal_PrepReferenceIdeal_pre_rotary_columns (hPrepIdeal := hPrepIdeal) (hPrepReferenceIdeal := hPrepReferenceIdeal) (hPre_rotary_columns := hPre_rotary_columns)
-- ==== Pre_attention_arguments.lean ====
abbrev S2x8x256x16384 : Shape := ⟨4, ![2, 8, 256, 16384]⟩
abbrev S2x8x16384x256 : Shape := ⟨4, ![2, 8, 16384, 256]⟩
abbrev S2x8x128x16384 : Shape := ⟨4, ![2, 8, 128, 16384]⟩
abbrev S_ : Shape := ⟨0, ![]⟩
abbrev S2x8x16384x1 : Shape := ⟨4, ![2, 8, 16384, 1]⟩
abbrev S2x8x16384 : Shape := ⟨3, ![2, 8, 16384]⟩
abbrev S2x8x64x16384 : Shape := ⟨4, ![2, 8, 64, 16384]⟩

class Facts : Prop where
  bcast_S_S2x8x256x16384 : S_.BroadcastsInDim S2x8x256x16384 (![] : Fin 0 → Fin S2x8x256x16384.rank)
  bcast_S_S2x8x16384x256 : S_.BroadcastsInDim S2x8x16384x256 (![] : Fin 0 → Fin S2x8x16384x256.rank)
  bcast_S_S2x8x128x16384 : S_.BroadcastsInDim S2x8x128x16384 (![] : Fin 0 → Fin S2x8x128x16384.rank)
  slices_S2x8x16384x256_S2x8x16384x1_0_0_0_192 : S2x8x16384x256.Slices ![0, 0, 0, 192] S2x8x16384x1
  shapeCasts_S2x8x16384x1_S2x8x16384 : S2x8x16384x1.ShapeCasts S2x8x16384
  bcast_S_S2x8x16384 : S_.BroadcastsInDim S2x8x16384 (![] : Fin 0 → Fin S2x8x16384.rank)
  slices_S2x8x256x16384_S2x8x64x16384_0_0_192_0 : S2x8x256x16384.Slices ![0, 0, 192, 0] S2x8x64x16384
  bcast_S_S2x8x64x16384 : S_.BroadcastsInDim S2x8x64x16384 (![] : Fin 0 → Fin S2x8x64x16384.rank)

variable [Facts]

def fn {F : FTy → Type} [FloatOps F] (main_arg0 : FVec F S2x8x256x16384 .bf16) (main_arg1 : FVec F S2x8x16384x256 .bf16) (main_arg2 : FVec F S2x8x128x16384 .bf16) : IVec S2x8x256x16384 1 × IVec S2x8x16384x256 1 × IVec S2x8x128x16384 1 × IVec S2x8x16384 1 × IVec S2x8x64x16384 1 :=
  let main_v0 : FVec F S2x8x256x16384 .bf16 := Host.absf main_arg0
  let main_cst : FVec F S_ .bf16 := constant S_ .bf16 0x7F80#16
  let main_v1 : FVec F S2x8x256x16384 .bf16 := broadcastInDim S2x8x256x16384 ![] bcast_S_S2x8x256x16384 main_cst
  let main_v2 : IVec S2x8x256x16384 1 := cmpf .olt main_v0 main_v1
  let main_v3 : FVec F S2x8x16384x256 .bf16 := Host.absf main_arg1
  let main_cst_0 : FVec F S_ .bf16 := constant S_ .bf16 0x7F80#16
  let main_v4 : FVec F S2x8x16384x256 .bf16 := broadcastInDim S2x8x16384x256 ![] bcast_S_S2x8x16384x256 main_cst_0
  let main_v5 : IVec S2x8x16384x256 1 := cmpf .olt main_v3 main_v4
  let main_v6 : FVec F S2x8x128x16384 .bf16 := Host.absf main_arg2
  let main_cst_1 : FVec F S_ .bf16 := constant S_ .bf16 0x7F80#16
  let main_v7 : FVec F S2x8x128x16384 .bf16 := broadcastInDim S2x8x128x16384 ![] bcast_S_S2x8x128x16384 main_cst_1
  let main_v8 : IVec S2x8x128x16384 1 := cmpf .olt main_v6 main_v7
  let main_v9 : FVec F S2x8x16384x1 .bf16 := (extractStridedSlice S2x8x16384x1 ![0, 0, 0, 192] · slices_S2x8x16384x256_S2x8x16384x1_0_0_0_192) main_arg1
  let main_v10 : FVec F S2x8x16384 .bf16 := shapeCast S2x8x16384 main_v9 shapeCasts_S2x8x16384x1_S2x8x16384
  let main_cst_2 : FVec F S_ .bf16 := constant S_ .bf16 0x3F80#16
  let main_v11 : FVec F S2x8x16384 .bf16 := broadcastInDim S2x8x16384 ![] bcast_S_S2x8x16384 main_cst_2
  let main_v12 : IVec S2x8x16384 1 := cmpf .oeq main_v10 main_v11
  let main_v13 : FVec F S2x8x64x16384 .bf16 := (extractStridedSlice S2x8x64x16384 ![0, 0, 192, 0] · slices_S2x8x256x16384_S2x8x64x16384_0_0_192_0) main_arg0
  let main_cst_3 : FVec F S_ .bf16 := constant S_ .bf16 0x0000#16
  let main_v14 : FVec F S2x8x64x16384 .bf16 := broadcastInDim S2x8x64x16384 ![] bcast_S_S2x8x64x16384 main_cst_3
  let main_v15 : IVec S2x8x64x16384 1 := cmpf .oeq main_v13 main_v14
  (main_v2, main_v5, main_v8, main_v12, main_v15)
-- ==== Pre_rotary_columns.lean ====
abbrev S32768x5888 : Shape := ⟨2, ![32768, 5888]⟩
abbrev S2x16384 : Shape := ⟨2, ![2, 16384]⟩
abbrev S512 : Shape := ⟨1, ![512]⟩
abbrev S512x1536 : Shape := ⟨2, ![512, 1536]⟩
abbrev S512x2048 : Shape := ⟨2, ![512, 2048]⟩
abbrev S32768x32 : Shape := ⟨2, ![32768, 32]⟩

class Facts : Prop where
  slices_S32768x5888_S32768x32_0_5696 : S32768x5888.Slices ![0, 5696] S32768x32
  slices_S32768x5888_S32768x32_0_5664 : S32768x5888.Slices ![0, 5664] S32768x32
  slices_S32768x5888_S32768x32_0_5728 : S32768x5888.Slices ![0, 5728] S32768x32
  slices_S32768x5888_S32768x32_0_5632 : S32768x5888.Slices ![0, 5632] S32768x32

variable [Facts]

def fn {F : FTy → Type} [FloatOps F] (main_arg0 : FVec F S32768x5888 .f32) (main_arg1 : IVec S2x16384 32) (main_arg2 : FVec F S512 .f32) (main_arg3 : FVec F S512x1536 .f32) (main_arg4 : FVec F S512 .f32) (main_arg5 : FVec F S512x2048 .f32) : IVec S32768x32 1 × IVec S32768x32 1 :=
  let main_v0 : FVec F S32768x32 .f32 := (extractStridedSlice S32768x32 ![0, 5696] · slices_S32768x5888_S32768x32_0_5696) main_arg0
  let main_v1 : FVec F S32768x32 .f32 := (extractStridedSlice S32768x32 ![0, 5664] · slices_S32768x5888_S32768x32_0_5664) main_arg0
  let main_v2 : IVec S32768x32 1 := cmpf .oeq main_v0 main_v1
  let main_v3 : FVec F S32768x32 .f32 := (extractStridedSlice S32768x32 ![0, 5728] · slices_S32768x5888_S32768x32_0_5728) main_arg0
  let main_v4 : FVec F S32768x32 .f32 := (extractStridedSlice S32768x32 ![0, 5632] · slices_S32768x5888_S32768x32_0_5632) main_arg0
  let main_v5 : IVec S32768x32 1 := cmpf .oeq main_v3 main_v4
  (main_v2, main_v5)
-- ==== Kernel.lean ====
abbrev S2x8x256x16384 : Shape := ⟨4, ![2, 8, 256, 16384]⟩
abbrev S2x8x16384x256 : Shape := ⟨4, ![2, 8, 16384, 256]⟩
abbrev S2x8x128x16384 : Shape := ⟨4, ![2, 8, 128, 16384]⟩
abbrev S2x16384x1024 : Shape := ⟨3, ![2, 16384, 1024]⟩
abbrev S1x1x256x2048 : Shape := ⟨4, ![1, 1, 256, 2048]⟩
abbrev S1x1x16384x256 : Shape := ⟨4, ![1, 1, 16384, 256]⟩
abbrev S1x1x128x16384 : Shape := ⟨4, ![1, 1, 128, 16384]⟩
abbrev S1x2048x128 : Shape := ⟨3, ![1, 2048, 128]⟩
abbrev S256x2048 : Shape := ⟨2, ![256, 2048]⟩
abbrev S1x2048 : Shape := ⟨2, ![1, 2048]⟩
abbrev S128x2048 : Shape := ⟨2, ![128, 2048]⟩
abbrev S8x2048 : Shape := ⟨2, ![8, 2048]⟩
abbrev S2048x2048 : Shape := ⟨2, ![2048, 2048]⟩
abbrev S16x2048 : Shape := ⟨2, ![16, 2048]⟩
abbrev S1x1x256x256 : Shape := ⟨4, ![1, 1, 256, 256]⟩
abbrev S256x256 : Shape := ⟨2, ![256, 256]⟩
abbrev S256 : Shape := ⟨1, ![256]⟩
abbrev S1x256 : Shape := ⟨2, ![1, 256]⟩
abbrev S32x8x256 : Shape := ⟨3, ![32, 8, 256]⟩
abbrev S8x256 : Shape := ⟨2, ![8, 256]⟩
abbrev S1x512 : Shape := ⟨2, ![1, 512]⟩
abbrev S1x768 : Shape := ⟨2, ![1, 768]⟩
abbrev S1x1024 : Shape := ⟨2, ![1, 1024]⟩
abbrev S1x1280 : Shape := ⟨2, ![1, 1280]⟩
abbrev S1x1536 : Shape := ⟨2, ![1, 1536]⟩
abbrev S1x1792 : Shape := ⟨2, ![1, 1792]⟩
abbrev S1x1x2048 : Shape := ⟨3, ![1, 1, 2048]⟩
abbrev S1 : Shape := ⟨1, ![1]⟩
abbrev S1x1x1 : Shape := ⟨3, ![1, 1, 1]⟩
abbrev S1x1x128x256 : Shape := ⟨4, ![1, 1, 128, 256]⟩
abbrev S128x256 : Shape := ⟨2, ![128, 256]⟩
abbrev S2048 : Shape := ⟨1, ![2048]⟩
abbrev S2048x128 : Shape := ⟨2, ![2048, 128]⟩

abbrev nBuf : Space → Nat
  | .hbm => 4
  | .vmem => 16
  | .smem => 0
  | _ => 0

abbrev bufTy : (tb : Table) → Fin (tcTables nBuf tb) → BufTy
  | .hbm, ⟨0, _⟩ => ⟨S2x8x256x16384, .bf16⟩
  | .hbm, ⟨1, _⟩ => ⟨S2x8x16384x256, .bf16⟩
  | .hbm, ⟨2, _⟩ => ⟨S2x8x128x16384, .bf16⟩
  | .hbm, ⟨3, _⟩ => ⟨S2x16384x1024, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x1x16384x256, .bf16⟩
  | .local _ .vmem, ⟨3, _⟩ => ⟨S1x1x16384x256, .bf16⟩
  | .local _ .vmem, ⟨4, _⟩ => ⟨S1x1x128x16384, .bf16⟩
  | .local _ .vmem, ⟨5, _⟩ => ⟨S1x1x128x16384, .bf16⟩
  | .local _ .vmem, ⟨6, _⟩ => ⟨S1x2048x128, .bf16⟩
  | .local _ .vmem, ⟨7, _⟩ => ⟨S1x2048x128, .bf16⟩
  | .local _ .vmem, ⟨8, _⟩ => ⟨S256x2048, .bf16⟩
  | .local _ .vmem, ⟨9, _⟩ => ⟨S1x2048, .f32⟩
  | .local _ .vmem, ⟨10, _⟩ => ⟨S128x2048, .f32⟩
  | .local _ .vmem, ⟨11, _⟩ => ⟨S8x2048, .f32⟩
  | .local _ .vmem, ⟨12, _⟩ => ⟨S2048x2048, .bf16⟩
  | .local _ .vmem, ⟨13, _⟩ => ⟨S2048x2048, .bf16⟩
  | .local _ .vmem, ⟨14, _⟩ => ⟨S8x2048, .f32⟩
  | .local _ .vmem, ⟨15, _⟩ => ⟨S8x2048, .f32⟩
  | _, _ => ⟨S2x8x256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 8], ![false, false, false]⟩

def k0_mult1 : BitVec 32 :=
  let c0_i32_13 : BitVec 32 := 0#32
  c0_i32_13
def k0_off1 (c0_i32_14 : BitVec 32) : Fin 4 → Nat :=
  let c0_15 : Index := 0#32
  let c0_16 : Index := 0#32
  let c0_i32_13 : BitVec 32 := 0#32
  let v20 : BitVec 32 := c0_i32_13
  let v21 : BitVec 32 := Scalar.addi v20 c0_i32_14
  let v22 : Index := Scalar.indexCast v21
  let c0_17 : Index := 0#32
  ![0, 0, v22.toNat, 0]
def k0_mult2 : BitVec 32 :=
  let c0_i32_2438 : BitVec 32 := 0#32
  c0_i32_2438
def k0_off2 (c0_i32_2439 : BitVec 32) : Fin 4 → Nat :=
  let c0_2440 : Index := 0#32
  let c0_2441 : Index := 0#32
  let c0_i32_2438 : BitVec 32 := 0#32
  let v3251 : BitVec 32 := c0_i32_2438
  let v3252 : BitVec 32 := Scalar.addi v3251 c0_i32_2439
  let v3253 : Index := Scalar.indexCast v3252
  let c0_2442 : Index := 0#32
  ![0, 0, v3253.toNat, 0]
@[reducible] def k0_t1_loop : Scf.Loop 32 :=
  let c0_i32_725 : BitVec 32 := 0#32
  let c3_i32 : BitVec 32 := 3#32
  let v1137 : BitVec 32 := Scalar.addi c0_i32_725 c3_i32
  let c1_i32 : BitVec 32 := 1#32
  ⟨c0_i32_725, v1137, c1_i32⟩
def k0_mult3 (k0_t1 : Fin k0_t1_loop.trips) : BitVec 32 :=
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c2048_i32 : BitVec 32 := 2048#32
  let v3235 : BitVec 32 := Scalar.muli v3234 c2048_i32
  v3235
def k0_off3 (k0_t1 : Fin k0_t1_loop.trips) (c0_i32_2431 : BitVec 32) : Fin 4 → Nat :=
  let c0_2432 : Index := 0#32
  let c0_2433 : Index := 0#32
  let c0_2434 : Index := 0#32
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c2048_i32 : BitVec 32 := 2048#32
  let v3235 : BitVec 32 := Scalar.muli v3234 c2048_i32
  let v3236 : BitVec 32 := v3235
  let v3237 : BitVec 32 := Scalar.addi v3236 c0_i32_2431
  let v3238 : Index := Scalar.indexCast v3237
  ![0, 0, 0, v3238.toNat]
def k0_mult4 (k0_t1 : Fin k0_t1_loop.trips) : BitVec 32 :=
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c1_i32_2917 : BitVec 32 := 1#32
  let v3723 : BitVec 32 := Scalar.addi v3234 c1_i32_2917
  let c2048_i32_2918 : BitVec 32 := 2048#32
  let v3724 : BitVec 32 := Scalar.muli v3723 c2048_i32_2918
  v3724
def k0_off4 (k0_t1 : Fin k0_t1_loop.trips) (c0_i32_2919 : BitVec 32) : Fin 4 → Nat :=
  let c0_2920 : Index := 0#32
  let c0_2921 : Index := 0#32
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c1_i32_2917 : BitVec 32 := 1#32
  let v3723 : BitVec 32 := Scalar.addi v3234 c1_i32_2917
  let c2048_i32_2918 : BitVec 32 := 2048#32
  let v3724 : BitVec 32 := Scalar.muli v3723 c2048_i32_2918
  let v3725 : BitVec 32 := v3724
  let v3726 : BitVec 32 := Scalar.addi v3725 c0_i32_2919
  let v3727 : Index := Scalar.indexCast v3726
  let c0_2922 : Index := 0#32
  ![0, 0, v3727.toNat, 0]
def k0_mult5 (k0_t1 : Fin k0_t1_loop.trips) : BitVec 32 :=
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c1_i32_2917 : BitVec 32 := 1#32
  let v3723 : BitVec 32 := Scalar.addi v3234 c1_i32_2917
  let c2048_i32_4871 : BitVec 32 := 2048#32
  let v6471 : BitVec 32 := Scalar.muli v3723 c2048_i32_4871
  v6471
def k0_off5 (k0_t1 : Fin k0_t1_loop.trips) (c0_i32_4872 : BitVec 32) : Fin 4 → Nat :=
  let c0_4873 : Index := 0#32
  let c0_4874 : Index := 0#32
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c1_i32_2917 : BitVec 32 := 1#32
  let v3723 : BitVec 32 := Scalar.addi v3234 c1_i32_2917
  let c2048_i32_4871 : BitVec 32 := 2048#32
  let v6471 : BitVec 32 := Scalar.muli v3723 c2048_i32_4871
  let v6472 : BitVec 32 := v6471
  let v6473 : BitVec 32 := Scalar.addi v6472 c0_i32_4872
  let v6474 : Index := Scalar.indexCast v6473
  let c0_4875 : Index := 0#32
  ![0, 0, v6474.toNat, 0]
def k0_mult6 (k0_t1 : Fin k0_t1_loop.trips) : BitVec 32 :=
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c1_i32_3642 : BitVec 32 := 1#32
  let v4836 : BitVec 32 := Scalar.addi v3234 c1_i32_3642
  let c2048_i32_3643 : BitVec 32 := 2048#32
  let v4837 : BitVec 32 := Scalar.muli v4836 c2048_i32_3643
  v4837
def k0_off6 (k0_t1 : Fin k0_t1_loop.trips) (c0_i32_3644 : BitVec 32) : Fin 4 → Nat :=
  let c0_3645 : Index := 0#32
  let c0_3646 : Index := 0#32
  let c0_3647 : Index := 0#32
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c1_i32_3642 : BitVec 32 := 1#32
  let v4836 : BitVec 32 := Scalar.addi v3234 c1_i32_3642
  let c2048_i32_3643 : BitVec 32 := 2048#32
  let v4837 : BitVec 32 := Scalar.muli v4836 c2048_i32_3643
  let v4838 : BitVec 32 := v4837
  let v4839 : BitVec 32 := Scalar.addi v4838 c0_i32_3644
  let v4840 : Index := Scalar.indexCast v4839
  ![0, 0, 0, v4840.toNat]
def k0_mult7 (k0_t1 : Fin k0_t1_loop.trips) : BitVec 32 :=
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c2_i32_4130 : BitVec 32 := 2#32
  let v5325 : BitVec 32 := Scalar.addi v3234 c2_i32_4130
  let c2048_i32_4131 : BitVec 32 := 2048#32
  let v5326 : BitVec 32 := Scalar.muli v5325 c2048_i32_4131
  v5326
def k0_off7 (k0_t1 : Fin k0_t1_loop.trips) (c0_i32_4132 : BitVec 32) : Fin 4 → Nat :=
  let c0_4133 : Index := 0#32
  let c0_4134 : Index := 0#32
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c2_i32_4130 : BitVec 32 := 2#32
  let v5325 : BitVec 32 := Scalar.addi v3234 c2_i32_4130
  let c2048_i32_4131 : BitVec 32 := 2048#32
  let v5326 : BitVec 32 := Scalar.muli v5325 c2048_i32_4131
  let v5327 : BitVec 32 := v5326
  let v5328 : BitVec 32 := Scalar.addi v5327 c0_i32_4132
  let v5329 : Index := Scalar.indexCast v5328
  let c0_4135 : Index := 0#32
  ![0, 0, v5329.toNat, 0]
def k0_mult8 (k0_t1 : Fin k0_t1_loop.trips) : BitVec 32 :=
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c2_i32_4130 : BitVec 32 := 2#32
  let v5325 : BitVec 32 := Scalar.addi v3234 c2_i32_4130
  let c2048_i32_4871 : BitVec 32 := 2048#32
  let v6471 : BitVec 32 := Scalar.muli v5325 c2048_i32_4871
  v6471
def k0_off8 (k0_t1 : Fin k0_t1_loop.trips) (c0_i32_4872 : BitVec 32) : Fin 4 → Nat :=
  let c0_4873 : Index := 0#32
  let c0_4874 : Index := 0#32
  let c2_i32 : BitVec 32 := 2#32
  let c0_i32_725 : BitVec 32 := 0#32
  let c1_i32 : BitVec 32 := 1#32
  let arg15 : BitVec 32 := Scf.iv c0_i32_725 c1_i32 k0_t1
  let v3234 : BitVec 32 := Scalar.muli c2_i32 arg15
  let c2_i32_4130 : BitVec 32 := 2#32
  let v5325 : BitVec 32 := Scalar.addi v3234 c2_i32_4130
  let c2048_i32_4871 : BitVec 32 := 2048#32
  let v6471 : BitVec 32 := Scalar.muli v5325 c2048_i32_4871
  let v6472 : BitVec 32 := v6471
  let v6473 : BitVec 32 := Scalar.addi v6472 c0_i32_4872
  let v6474 : Index := Scalar.indexCast v6473
  let c0_4875 : Index := 0#32
  ![0, 0, v6474.toNat, 0]
def k0_mult9 : BitVec 32 :=
  let c12288_i32 : BitVec 32 := 12288#32
  c12288_i32
def k0_off9 (c0_i32_727 : BitVec 32) : Fin 4 → Nat :=
  let c0_728 : Index := 0#32
  let c0_729 : Index := 0#32
  let c0_730 : Index := 0#32
  let c12288_i32 : BitVec 32 := 12288#32
  let v1138 : BitVec 32 := c12288_i32
  let v1139 : BitVec 32 := Scalar.addi v1138 c0_i32_727
  let v1140 : Index := Scalar.indexCast v1139
  ![0, 0, 0, v1140.toNat]
def k0_mult10 : BitVec 32 :=
  let c14336_i32 : BitVec 32 := 14336#32
  c14336_i32
def k0_off10 (c0_i32_1213 : BitVec 32) : Fin 4 → Nat :=
  let c0_1214 : Index := 0#32
  let c0_1215 : Index := 0#32
  let c14336_i32 : BitVec 32 := 14336#32
  let v1625 : BitVec 32 := c14336_i32
  let v1626 : BitVec 32 := Scalar.addi v1625 c0_i32_1213
  let v1627 : Index := Scalar.indexCast v1626
  let c0_1216 : Index := 0#32
  ![0, 0, v1627.toNat, 0]
def k0_mult11 : BitVec 32 :=
  let c14336_i32_2447 : BitVec 32 := 14336#32
  c14336_i32_2447
def k0_off11 (c0_i32_2448 : BitVec 32) : Fin 4 → Nat :=
  let c0_2449 : Index := 0#32
  let c0_2450 : Index := 0#32
  let c14336_i32_2447 : BitVec 32 := 14336#32
  let v3267 : BitVec 32 := c14336_i32_2447
  let v3268 : BitVec 32 := Scalar.addi v3267 c0_i32_2448
  let v3269 : Index := Scalar.indexCast v3268
  let c0_2451 : Index := 0#32
  ![0, 0, v3269.toNat, 0]
def k0_mult12 : BitVec 32 :=
  let c14336_i32_1936 : BitVec 32 := 14336#32
  c14336_i32_1936
def k0_off12 (c0_i32_1937 : BitVec 32) : Fin 4 → Nat :=
  let c0_1938 : Index := 0#32
  let c0_1939 : Index := 0#32
  let c0_1940 : Index := 0#32
  let c14336_i32_1936 : BitVec 32 := 14336#32
  let v2736 : BitVec 32 := c14336_i32_1936
  let v2737 : BitVec 32 := Scalar.addi v2736 c0_i32_1937
  let v2738 : Index := Scalar.indexCast v2737
  ![0, 0, 0, v2738.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x128x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S2x8x256x16384 : Shape := ⟨4, ![2, 8, 256, 16384]⟩
abbrev S2x8x16384x256 : Shape := ⟨4, ![2, 8, 16384, 256]⟩
abbrev S2x8x128x16384 : Shape := ⟨4, ![2, 8, 128, 16384]⟩
abbrev S2x8x192x16384 : Shape := ⟨4, ![2, 8, 192, 16384]⟩
abbrev S2x8x16384x192 : Shape := ⟨4, ![2, 8, 16384, 192]⟩
abbrev S2x8x16384x16384 : Shape := ⟨4, ![2, 8, 16384, 16384]⟩
abbrev S_ : Shape := ⟨0, ![]⟩
abbrev S2x8x16384 : Shape := ⟨3, ![2, 8, 16384]⟩
abbrev S2x8x16384x1 : Shape := ⟨4, ![2, 8, 16384, 1]⟩
abbrev S2x16384x8x128 : Shape := ⟨4, ![2, 16384, 8, 128]⟩
abbrev S2x16384x1024 : Shape := ⟨3, ![2, 16384, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x8x256x16384, .bf16⟩
  | .hbm, ⟨1, _⟩ => ⟨S2x8x16384x256, .bf16⟩
  | .hbm, ⟨2, _⟩ => ⟨S2x8x128x16384, .bf16⟩
  | .hbm, ⟨3, _⟩ => ⟨S2x8x192x16384, .bf16⟩
  | .hbm, ⟨4, _⟩ => ⟨S2x8x192x16384, .f32⟩
  | .hbm, ⟨5, _⟩ => ⟨S2x8x16384x192, .bf16⟩
  | .hbm, ⟨6, _⟩ => ⟨S2x8x16384x192, .f32⟩
  | .hbm, ⟨7, _⟩ => ⟨S2x8x16384x16384, .f32⟩
  | .hbm, ⟨8, _⟩ => ⟨S_, .f32⟩
  | .hbm, ⟨9, _⟩ => ⟨S2x8x16384, .f32⟩
  | .hbm, ⟨10, _⟩ => ⟨S2x8x16384x1, .f32⟩
  | .hbm, ⟨11, _⟩ => ⟨S2x8x16384x16384, .f32⟩
  | .hbm, ⟨12, _⟩ => ⟨S2x8x16384x16384, .f32⟩
  | .hbm, ⟨13, _⟩ => ⟨S_, .f32⟩
  | .hbm, ⟨14, _⟩ => ⟨S2x8x16384x16384, .f32⟩
  | .hbm, ⟨15, _⟩ => ⟨S2x8x16384x16384, .f32⟩
  | .hbm, ⟨16, _⟩ => ⟨S_, .f32⟩
  | .hbm, ⟨17, _⟩ => ⟨S2x8x16384, .f32⟩
  | .hbm, ⟨18, _⟩ => ⟨S2x8x16384x1, .f32⟩
  | .hbm, ⟨19, _⟩ => ⟨S2x8x16384x16384, .f32⟩
  | .hbm, ⟨20, _⟩ => ⟨S2x8x16384x16384, .f32⟩
  | .hbm, ⟨21, _⟩ => ⟨S2x8x128x16384, .f32⟩
  | .hbm, ⟨22, _⟩ => ⟨S2x8x128x16384, .f32⟩
  | .hbm, ⟨23, _⟩ => ⟨S2x16384x8x128, .f32⟩
  | .hbm, ⟨24, _⟩ => ⟨S2x16384x1024, .f32⟩
  | .hbm, ⟨25, _⟩ => ⟨S2x16384x1024, .bf16⟩
  | _, _ => ⟨S2x8x256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Ffn.lean ====
abbrev S32768x2048 : Shape := ⟨2, ![32768, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 7
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048, .f32⟩
  | .hbm, ⟨3, _⟩ => ⟨S2x2048x5632, .bf16⟩
  | .hbm, ⟨4, _⟩ => ⟨S2x2048x5632, .bf16⟩
  | .hbm, ⟨5, _⟩ => ⟨S2x5632x2048, .bf16⟩
  | .hbm, ⟨6, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S32768x2048 : Shape := ⟨2, ![32768, 2048]⟩
abbrev S1x2048 : Shape := ⟨2, ![1, 2048]⟩
abbrev S2x2048x5632 : Shape := ⟨3, ![2, 2048, 5632]⟩
abbrev S2x5632x2048 : Shape := ⟨3, ![2, 5632, 2048]⟩
abbrev S_ : Shape := ⟨0, ![]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S32768x5632 : Shape := ⟨2, ![32768, 5632]⟩

abbrev nBuf : Space → Nat
  | .hbm => 59
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S1x2048, .f32⟩
  | .hbm, ⟨3, _⟩ => ⟨S2x2048x5632, .bf16⟩
  | .hbm, ⟨4, _⟩ => ⟨S2x2048x5632, .bf16⟩
  | .hbm, ⟨5, _⟩ => ⟨S2x5632x2048, .bf16⟩
  | .hbm, ⟨6, _⟩ => ⟨S32768x2048, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S1x2048x5632, .bf16⟩
  | .hbm, ⟨22, _⟩ => ⟨S2048x5632, .bf16⟩
  | .hbm, ⟨23, _⟩ => ⟨S2048x5632, .f32⟩
  | .hbm, ⟨24, _⟩ => ⟨S1x2048x5632, .bf16⟩
  | .hbm, ⟨25, _⟩ => ⟨S2048x5632, .bf16⟩
  | .hbm, ⟨26, _⟩ => ⟨S2048x5632, .f32⟩
  | .hbm, ⟨27, _⟩ => ⟨S1x5632x2048, .bf16⟩
  | .hbm, ⟨28, _⟩ => ⟨S5632x2048, .bf16⟩
  | .hbm, ⟨29, _⟩ => ⟨S5632x2048, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S_, .f32⟩
  | .hbm, ⟨34, _⟩ => ⟨S32768x5632, .f32⟩
  | .hbm, ⟨35, _⟩ => ⟨S32768x5632, .f32⟩
  | .hbm, ⟨36, _⟩ => ⟨S_, .f32⟩
  | .hbm, ⟨37, _⟩ => ⟨S32768x5632, .f32⟩
  | .hbm, ⟨38, _⟩ => ⟨S32768x5632, .f32⟩
  | .hbm, ⟨39, _⟩ => ⟨S32768x5632, .f32⟩
  | .hbm, ⟨40, _⟩ => ⟨S32768x5632, .f32⟩
  | .hbm, ⟨41, _⟩ => ⟨S32768x5632, .f32⟩
  | .hbm, ⟨42, _⟩ => ⟨S32768x2048, .f32⟩
  | .hbm, ⟨43, _⟩ => ⟨S32768x2048, .f32⟩
  | .hbm, ⟨44, _⟩ => ⟨S32768x2048, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x2048, .f32⟩
  | .hbm, ⟨56, _⟩ => ⟨S32768x2048, .f32⟩
  | .hbm, ⟨57, _⟩ => ⟨S32768x2048, .f32⟩
  | .hbm, ⟨58, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== InProj.lean ====
abbrev S32768x2048 : Shape := ⟨2, ![32768, 2048]⟩
abbrev S1x2048 : Shape := ⟨2, ![1, 2048]⟩
abbrev S2048x5888 : Shape := ⟨2, ![2048, 5888]⟩
abbrev S32768x5888 : Shape := ⟨2, ![32768, 5888]⟩
abbrev S512x2048 : Shape := ⟨2, ![512, 2048]⟩
abbrev S512x2944 : Shape := ⟨2, ![512, 2944]⟩
abbrev S512 : Shape := ⟨1, ![512]⟩
abbrev S512x1 : Shape := ⟨2, ![512, 1]⟩
abbrev S2048x2944 : Shape := ⟨2, ![2048, 2944]⟩

abbrev nBuf : Space → Nat
  | .hbm => 4
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5888, .bf16⟩
  | .hbm, ⟨3, _⟩ => ⟨S32768x5888, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x5888, .bf16⟩
  | .local _ .vmem, ⟨4, _⟩ => ⟨S512x2944, .f32⟩
  | .local _ .vmem, ⟨5, _⟩ => ⟨S512x2944, .f32⟩
  | .local _ .vmem, ⟨6, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![64, 2], ![false, false]⟩

def k0_mult1 (i : grid0.Coords) : BitVec 32 :=
  let arg1 : BitVec 32 := BitVec.ofNat 32 (i 1).val
  let c2944_i32 : BitVec 32 := 2944#32
  let v3 : BitVec 32 := Scalar.muli arg1 c2944_i32
  v3
def k0_off1 (i : grid0.Coords) : Fin 2 → Nat :=
  let c0_2 : Index := 0#32
  let arg1 : BitVec 32 := BitVec.ofNat 32 (i 1).val
  let c2944_i32 : BitVec 32 := 2944#32
  let v3 : BitVec 32 := Scalar.muli arg1 c2944_i32
  let v4 : BitVec 32 := v3
  let v6 : Index := Scalar.indexCast v4
  ![0, v6.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x2944 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjReferenceIdeal.lean ====
abbrev S32768x2048 : Shape := ⟨2, ![32768, 2048]⟩
abbrev S1x2048 : Shape := ⟨2, ![1, 2048]⟩
abbrev S2048x5888 : Shape := ⟨2, ![2048, 5888]⟩
abbrev S_ : Shape := ⟨0, ![]⟩
abbrev S32768 : Shape := ⟨1, ![32768]⟩
abbrev S32768x1 : Shape := ⟨2, ![32768, 1]⟩
abbrev S32768x5888 : Shape := ⟨2, ![32768, 5888]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x5888, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S2048x5888, .f32⟩
  | .hbm, ⟨19, _⟩ => ⟨S32768x5888, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S32768x2048 : Shape := ⟨2, ![32768, 2048]⟩
abbrev S32768x1024 : Shape := ⟨2, ![32768, 1024]⟩
abbrev S2x2048x2048 : Shape := ⟨3, ![2, 2048, 2048]⟩
abbrev S512x2048 : Shape := ⟨2, ![512, 2048]⟩
abbrev S512x1024 : Shape := ⟨2, ![512, 1024]⟩
abbrev S1x2048x2048 : Shape := ⟨3, ![1, 2048, 2048]⟩
abbrev S1x1024x2048 : Shape := ⟨3, ![1, 1024, 2048]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2x2048x2048, .bf16⟩
  | .hbm, ⟨4, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x2048x2048, .bf16⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjReferenceIdeal.lean ====
abbrev S32768x2048 : Shape := ⟨2, ![32768, 2048]⟩
abbrev S32768x1024 : Shape := ⟨2, ![32768, 1024]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2x2048x2048, .bf16⟩
  | .hbm, ⟨4, _⟩ => ⟨S32768x2048, .bf16⟩
  | .hbm, ⟨5, _⟩ => ⟨S32768x2048, .f32⟩
  | .hbm, ⟨6, _⟩ => ⟨S1x2048x2048, .bf16⟩
  | .hbm, ⟨7, _⟩ => ⟨S2048x2048, .bf16⟩
  | .hbm, ⟨8, _⟩ => ⟨S2048x2048, .f32⟩
  | .hbm, ⟨9, _⟩ => ⟨S32768x2048, .f32⟩
  | .hbm, ⟨10, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Prep.lean ====
abbrev S32768x5888 : Shape := ⟨2, ![32768, 5888]⟩
abbrev S2x16384 : Shape := ⟨2, ![2, 16384]⟩
abbrev S512 : Shape := ⟨1, ![512]⟩
abbrev S512x1536 : Shape := ⟨2, ![512, 1536]⟩
abbrev S512x2048 : Shape := ⟨2, ![512, 2048]⟩
abbrev S32 : Shape := ⟨1, ![32]⟩
abbrev S_ : Shape := ⟨0, ![]⟩
abbrev S2x16384x1 : Shape := ⟨3, ![2, 16384, 1]⟩
abbrev S1x1x32 : Shape := ⟨3, ![1, 1, 32]⟩
abbrev S2x16384x32 : Shape := ⟨3, ![2, 16384, 32]⟩
abbrev S2x16384x128 : Shape := ⟨3, ![2, 16384, 128]⟩
abbrev S32768x128 : Shape := ⟨2, ![32768, 128]⟩
abbrev S1x512 : Shape := ⟨2, ![1, 512]⟩
abbrev S512x8x192 : Shape := ⟨3, ![512, 8, 192]⟩
abbrev S512x8x64 : Shape := ⟨3, ![512, 8, 64]⟩
abbrev S512x8x32 : Shape := ⟨3, ![512, 8, 32]⟩
abbrev S512x8x256 : Shape := ⟨3, ![512, 8, 256]⟩
abbrev S2x8x256x16384 : Shape := ⟨4, ![2, 8, 256, 16384]⟩
abbrev S2x8x16384x256 : Shape := ⟨4, ![2, 8, 16384, 256]⟩
abbrev S2x8x128x16384 : Shape := ⟨4, ![2, 8, 128, 16384]⟩
abbrev S512x512 : Shape := ⟨2, ![512, 512]⟩
abbrev S512x128 : Shape := ⟨2, ![512, 128]⟩
abbrev S1x8x256x512 : Shape := ⟨4, ![1, 8, 256, 512]⟩
abbrev S1x8x512x256 : Shape := ⟨4, ![1, 8, 512, 256]⟩
abbrev S1x8x128x512 : Shape := ⟨4, ![1, 8, 128, 512]⟩
abbrev S512x1 : Shape := ⟨2, ![512, 1]⟩
abbrev S512x256 : Shape := ⟨2, ![512, 256]⟩
abbrev S256x512 : Shape := ⟨2, ![256, 512]⟩
abbrev S1x1x256x512 : Shape := ⟨4, ![1, 1, 256, 512]⟩
abbrev S1x1x512x128 : Shape := ⟨4, ![1, 1, 512, 128]⟩
abbrev S128x512 : Shape := ⟨2, ![128, 512]⟩
abbrev S1x1x128x512 : Shape := ⟨4, ![1, 1, 128, 512]⟩

abbrev nBuf : Space → Nat
  | .hbm => 47
  | .vmem => 18
  | .smem => 0
  | _ => 0

abbrev bufTy : (tb : Table) → Fin (tcTables nBuf tb) → BufTy
  | .hbm, ⟨0, _⟩ => ⟨S32768x5888, .f32⟩
  | .hbm, ⟨1, _⟩ => ⟨S2x16384, .i32⟩
  | .hbm, ⟨2, _⟩ => ⟨S512, .f32⟩
  | .hbm, ⟨3, _⟩ => ⟨S512x1536, .f32⟩
  | .hbm, ⟨4, _⟩ => ⟨S512, .f32⟩
  | .hbm, ⟨5, _⟩ => ⟨S512x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2x16384, .f32⟩
  | .hbm, ⟨23, _⟩ => ⟨S2x16384x1, .f32⟩
  | .hbm, ⟨24, _⟩ => ⟨S1x1x32, .f32⟩
  | .hbm, ⟨25, _⟩ => ⟨S2x16384x32, .f32⟩
  | .hbm, ⟨26, _⟩ => ⟨S2x16384x32, .f32⟩
  | .hbm, ⟨27, _⟩ => ⟨S2x16384x32, .f32⟩
  | .hbm, ⟨28, _⟩ => ⟨S2x16384x32, .f32⟩
  | .hbm, ⟨29, _⟩ => ⟨S2x16384x32, .f32⟩
  | .hbm, ⟨30, _⟩ => ⟨S2x16384x32, .f32⟩
  | .hbm, ⟨31, _⟩ => ⟨S2x16384x128, .f32⟩
  | .hbm, ⟨32, _⟩ => ⟨S32768x128, .f32⟩
  | .hbm, ⟨33, _⟩ => ⟨S1x512, .f32⟩
  | .hbm, ⟨34, _⟩ => ⟨S1x512, .f32⟩
  | .hbm, ⟨35, _⟩ => ⟨S512x1536, .bf16⟩
  | .hbm, ⟨36, _⟩ => ⟨S512x8x192, .bf16⟩
  | .hbm, ⟨37, _⟩ => ⟨S512x8x64, .bf16⟩
  | .hbm, ⟨38, _⟩ => ⟨S512x8x32, .bf16⟩
  | .hbm, ⟨39, _⟩ => ⟨S512x8x32, .bf16⟩
  | .hbm, ⟨40, _⟩ => ⟨S512x8x64, .bf16⟩
  | .hbm, ⟨41, _⟩ => ⟨S512x8x256, .bf16⟩
  | .hbm, ⟨42, _⟩ => ⟨S512x2048, .bf16⟩
  | .hbm, ⟨43, _⟩ => ⟨S512x2048, .bf16⟩
  | .hbm, ⟨44, _⟩ => ⟨S2x8x256x16384, .bf16⟩
  | .hbm, ⟨45, _⟩ => ⟨S2x8x16384x256, .bf16⟩
  | .hbm, ⟨46, _⟩ => ⟨S2x8x128x16384, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x512, .f32⟩
  | .local _ .vmem, ⟨9, _⟩ => ⟨S1x512, .f32⟩
  | .local _ .vmem, ⟨10, _⟩ => ⟨S512x2048, .bf16⟩
  | .local _ .vmem, ⟨11, _⟩ => ⟨S512x2048, .bf16⟩
  | .local _ .vmem, ⟨12, _⟩ => ⟨S1x8x256x512, .bf16⟩
  | .local _ .vmem, ⟨13, _⟩ => ⟨S1x8x256x512, .bf16⟩
  | .local _ .vmem, ⟨14, _⟩ => ⟨S1x8x512x256, .bf16⟩
  | .local _ .vmem, ⟨15, _⟩ => ⟨S1x8x512x256, .bf16⟩
  | .local _ .vmem, ⟨16, _⟩ => ⟨S1x8x128x512, .bf16⟩
  | .local _ .vmem, ⟨17, _⟩ => ⟨S1x8x128x512, .bf16⟩
  | _, _ => ⟨S32768x5888, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33_0 : Ref sig .tc := ⟨.hbm, 44, rfl⟩
abbrev main_v33_1 : Ref sig .tc := ⟨.hbm, 45, rfl⟩
abbrev main_v33_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c10_i32 : BitVec 32 := 10#32
  let c0_i32 : BitVec 32 := 0#32
  ![v1.toNat, c10_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c44_i32 : BitVec 32 := 44#32
  let c0_i32 : BitVec 32 := 0#32
  ![v1.toNat, c44_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PrepReferenceIdeal.lean ====
abbrev S32768x5888 : Shape := ⟨2, ![32768, 5888]⟩
abbrev S2x16384 : Shape := ⟨2, ![2, 16384]⟩
abbrev S512 : Shape := ⟨1, ![512]⟩
abbrev S512x1536 : Shape := ⟨2, ![512, 1536]⟩
abbrev S512x2048 : Shape := ⟨2, ![512, 2048]⟩
abbrev S32 : Shape := ⟨1, ![32]⟩
abbrev S_ : Shape := ⟨0, ![]⟩
abbrev S2x16384x1 : Shape := ⟨3, ![2, 16384, 1]⟩
abbrev S1x1x32 : Shape := ⟨3, ![1, 1, 32]⟩
abbrev S2x16384x32 : Shape := ⟨3, ![2, 16384, 32]⟩
abbrev S2x16384x5888 : Shape := ⟨3, ![2, 16384, 5888]⟩
abbrev S2x16384x512 : Shape := ⟨3, ![2, 16384, 512]⟩
abbrev S2x16384x64 : Shape := ⟨3, ![2, 16384, 64]⟩
abbrev S1x1x512 : Shape := ⟨3, ![1, 1, 512]⟩
abbrev S2x16384x1536 : Shape := ⟨3, ![2, 16384, 1536]⟩
abbrev S2x16384x8x192 : Shape := ⟨4, ![2, 16384, 8, 192]⟩
abbrev S2x16384x8x64 : Shape := ⟨4, ![2, 16384, 8, 64]⟩
abbrev S2x16384x1x32 : Shape := ⟨4, ![2, 16384, 1, 32]⟩
abbrev S2x16384x8x32 : Shape := ⟨4, ![2, 16384, 8, 32]⟩
abbrev S2x16384x8x128 : Shape := ⟨4, ![2, 16384, 8, 128]⟩
abbrev S2x16384x2048 : Shape := ⟨3, ![2, 16384, 2048]⟩
abbrev S2x16384x8x256 : Shape := ⟨4, ![2, 16384, 8, 256]⟩
abbrev S2x16384x1x64 : Shape := ⟨4, ![2, 16384, 1, 64]⟩
abbrev S2x16384x8x1 : Shape := ⟨4, ![2, 16384, 8, 1]⟩
abbrev S2x16384x8x63 : Shape := ⟨4, ![2, 16384, 8, 63]⟩
abbrev S2x8x256x16384 : Shape := ⟨4, ![2, 8, 256, 16384]⟩
abbrev S2x8x16384x256 : Shape := ⟨4, ![2, 8, 16384, 256]⟩
abbrev S2x8x128x16384 : Shape := ⟨4, ![2, 8, 128, 16384]⟩

abbrev nBuf : Space → Nat
  | .hbm => 117
  | .vmem => 0
  | .smem => 0
  | _ => 0

abbrev bufTy : (tb : Table) → Fin (tcTables nBuf tb) → BufTy
  | .hbm, ⟨0, _⟩ => ⟨S32768x5888, .f32⟩
  | .hbm, ⟨1, _⟩ => ⟨S2x16384, .i32⟩
  | .hbm, ⟨2, _⟩ => ⟨S512, .f32⟩
  | .hbm, ⟨3, _⟩ => ⟨S512x1536, .f32⟩
  | .hbm, ⟨4, _⟩ => ⟨S512, .f32⟩
  | .hbm, ⟨5, _⟩ => ⟨S512x2048, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S2x16384, .f32⟩
  | .hbm, ⟨23, _⟩ => ⟨S2x16384x1, .f32⟩
  | .hbm, ⟨24, _⟩ => ⟨S1x1x32, .f32⟩
  | .hbm, ⟨25, _⟩ => ⟨S2x16384x32, .f32⟩
  | .hbm, ⟨26, _⟩ => ⟨S2x16384x32, .f32⟩
  | .hbm, ⟨27, _⟩ => ⟨S2x16384x32, .f32⟩
  | .hbm, ⟨28, _⟩ => ⟨S2x16384x32, .f32⟩
  | .hbm, ⟨29, _⟩ => ⟨S2x16384x32, .f32⟩
  | .hbm, ⟨30, _⟩ => ⟨S2x16384x5888, .f32⟩
  | .hbm, ⟨31, _⟩ => ⟨S2x16384x512, .f32⟩
  | .hbm, ⟨32, _⟩ => ⟨S2x16384x512, .f32⟩
  | .hbm, ⟨33, _⟩ => ⟨S2x16384x64, .f32⟩
  | .hbm, ⟨34, _⟩ => ⟨S2x16384x512, .f32⟩
  | .hbm, ⟨35, _⟩ => ⟨S_, .f32⟩
  | .hbm, ⟨36, _⟩ => ⟨S2x16384, .f32⟩
  | .hbm, ⟨37, _⟩ => ⟨S2x16384x1, .f32⟩
  | .hbm, ⟨38, _⟩ => ⟨S_, .f32⟩
  | .hbm, ⟨39, _⟩ => ⟨S2x16384x1, .f32⟩
  | .hbm, ⟨40, _⟩ => ⟨S2x16384x1, .f32⟩
  | .hbm, ⟨41, _⟩ => ⟨S_, .f32⟩
  | .hbm, ⟨42, _⟩ => ⟨S2x16384x1, .f32⟩
  | .hbm, ⟨43, _⟩ => ⟨S2x16384x1, .f32⟩
  | .hbm, ⟨44, _⟩ => ⟨S2x16384x1, .f32⟩
  | .hbm, ⟨45, _⟩ => ⟨S2x16384x512, .f32⟩
  | .hbm, ⟨46, _⟩ => ⟨S2x16384x512, .f32⟩
  | .hbm, ⟨47, _⟩ => ⟨S1x1x512, .f32⟩
  | .hbm, ⟨48, _⟩ => ⟨S2x16384x512, .f32⟩
  | .hbm, ⟨49, _⟩ => ⟨S2x16384x512, .f32⟩
  | .hbm, ⟨50, _⟩ => ⟨S2x16384x1536, .f32⟩
  | .hbm, ⟨51, _⟩ => ⟨S2x16384x8x192, .f32⟩
  | .hbm, ⟨52, _⟩ => ⟨S2x16384x8x64, .f32⟩
  | .hbm, ⟨53, _⟩ => ⟨S2x16384x1x32, .f32⟩
  | .hbm, ⟨54, _⟩ => ⟨S2x16384x1x32, .f32⟩
  | .hbm, ⟨55, _⟩ => ⟨S2x16384x8x32, .f32⟩
  | .hbm, ⟨56, _⟩ => ⟨S2x16384x8x32, .f32⟩
  | .hbm, ⟨57, _⟩ => ⟨S2x16384x8x32, .f32⟩
  | .hbm, ⟨58, _⟩ => ⟨S2x16384x8x32, .f32⟩
  | .hbm, ⟨59, _⟩ => ⟨S2x16384x8x32, .f32⟩
  | .hbm, ⟨60, _⟩ => ⟨S2x16384x8x32, .f32⟩
  | .hbm, ⟨61, _⟩ => ⟨S2x16384x8x32, .f32⟩
  | .hbm, ⟨62, _⟩ => ⟨S2x16384x8x32, .f32⟩
  | .hbm, ⟨63, _⟩ => ⟨S2x16384x8x32, .f32⟩
  | .hbm, ⟨64, _⟩ => ⟨S2x16384x8x32, .f32⟩
  | .hbm, ⟨65, _⟩ => ⟨S2x16384x8x32, .f32⟩
  | .hbm, ⟨66, _⟩ => ⟨S2x16384x8x32, .f32⟩
  | .hbm, ⟨67, _⟩ => ⟨S2x16384x8x64, .f32⟩
  | .hbm, ⟨68, _⟩ => ⟨S2x16384x8x128, .f32⟩
  | .hbm, ⟨69, _⟩ => ⟨S2x16384x8x192, .f32⟩
  | .hbm, ⟨70, _⟩ => ⟨S_, .f32⟩
  | .hbm, ⟨71, _⟩ => ⟨S2x16384x8x192, .f32⟩
  | .hbm, ⟨72, _⟩ => ⟨S2x16384x8x192, .f32⟩
  | .hbm, ⟨73, _⟩ => ⟨S2x16384x512, .f32⟩
  | .hbm, ⟨74, _⟩ => ⟨S_, .f32⟩
  | .hbm, ⟨75, _⟩ => ⟨S2x16384, .f32⟩
  | .hbm, ⟨76, _⟩ => ⟨S2x16384x1, .f32⟩
  | .hbm, ⟨77, _⟩ => ⟨S_, .f32⟩
  | .hbm, ⟨78, _⟩ => ⟨S2x16384x1, .f32⟩
  | .hbm, ⟨79, _⟩ => ⟨S2x16384x1, .f32⟩
  | .hbm, ⟨80, _⟩ => ⟨S_, .f32⟩
  | .hbm, ⟨81, _⟩ => ⟨S2x16384x1, .f32⟩
  | .hbm, ⟨82, _⟩ => ⟨S2x16384x1, .f32⟩
  | .hbm, ⟨83, _⟩ => ⟨S2x16384x1, .f32⟩
  | .hbm, ⟨84, _⟩ => ⟨S2x16384x512, .f32⟩
  | .hbm, ⟨85, _⟩ => ⟨S2x16384x512, .f32⟩
  | .hbm, ⟨86, _⟩ => ⟨S1x1x512, .f32⟩
  | .hbm, ⟨87, _⟩ => ⟨S2x16384x512, .f32⟩
  | .hbm, ⟨88, _⟩ => ⟨S2x16384x512, .f32⟩
  | .hbm, ⟨89, _⟩ => ⟨S2x16384x2048, .f32⟩
  | .hbm, ⟨90, _⟩ => ⟨S2x16384x8x256, .f32⟩
  | .hbm, ⟨91, _⟩ => ⟨S2x16384x32, .f32⟩
  | .hbm, ⟨92, _⟩ => ⟨S2x16384x32, .f32⟩
  | .hbm, ⟨93, _⟩ => ⟨S2x16384x32, .f32⟩
  | .hbm, ⟨94, _⟩ => ⟨S2x16384x32, .f32⟩
  | .hbm, ⟨95, _⟩ => ⟨S2x16384x32, .f32⟩
  | .hbm, ⟨96, _⟩ => ⟨S2x16384x32, .f32⟩
  | .hbm, ⟨97, _⟩ => ⟨S2x16384x32, .f32⟩
  | .hbm, ⟨98, _⟩ => ⟨S2x16384x32, .f32⟩
  | .hbm, ⟨99, _⟩ => ⟨S2x16384x64, .f32⟩
  | .hbm, ⟨100, _⟩ => ⟨S2x16384x1x64, .f32⟩
  | .hbm, ⟨101, _⟩ => ⟨S2x16384x8x64, .f32⟩
  | .hbm, ⟨102, _⟩ => ⟨S_, .f32⟩
  | .hbm, ⟨103, _⟩ => ⟨S2x16384x8x1, .f32⟩
  | .hbm, ⟨104, _⟩ => ⟨S_, .f32⟩
  | .hbm, ⟨105, _⟩ => ⟨S2x16384x8x64, .f32⟩
  | .hbm, ⟨106, _⟩ => ⟨S2x16384x8x256, .f32⟩
  | .hbm, ⟨107, _⟩ => ⟨S2x16384x8x128, .f32⟩
  | .hbm, ⟨108, _⟩ => ⟨S2x16384x8x63, .f32⟩
  | .hbm, ⟨109, _⟩ => ⟨S2x16384x8x256, .f32⟩
  | .hbm, ⟨110, _⟩ => ⟨S2x8x256x16384, .f32⟩
  | .hbm, ⟨111, _⟩ => ⟨S2x8x256x16384, .bf16⟩
  | .hbm, ⟨112, _⟩ => ⟨S2x8x16384x256, .f32⟩
  | .hbm, ⟨113, _⟩ => ⟨S2x8x16384x256, .bf16⟩
  | .hbm, ⟨114, _⟩ => ⟨S2x16384x8x128, .f32⟩
  | .hbm, ⟨115, _⟩ => ⟨S2x8x128x16384, .f32⟩
  | .hbm, ⟨116, _⟩ => ⟨S2x8x128x16384, .bf16⟩
  | _, _ => ⟨S32768x5888, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_11 : Ref sig .tc := ⟨.hbm, 102, rfl⟩
abbrev main_v84 : Ref sig .tc := ⟨.hbm, 103, rfl⟩
abbrev main_cst_12 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩

abbrev nD : Nat := 1
abbrev τ : Topo := Topo.v7x

variable {F : FTy → Type} [FloatOps F]
-- ==== Proof.KI.Rules.lean ====
module

public import proofs.«01_k».proof.Proof.Gen.KernelIdeal.Frame

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## One load and one store through a memref owned at known contents -/

section Ops
variable (c : Dev nD) {sh : Shape} {e : EltTy} {α : Type} {Q : α → sProp (MT nD τ sig Unit (Elt F) ℕ (UR sig nD τ) ℕ)} {R : sProp (MT nD τ sig Unit (Elt F) ℕ (UR sig nD τ) ℕ)}

/-- Loading a rectangle of an owned memref answers the contents' elements there. -/
theorem step_load (m : Memref sig .tc .vmem sh e) {X : sh.Idx → Elt F e} {r : Rect sh}
    {hl : m.view.LoadsAt r.toLoadRect} {k : (r.shape.Idx → Elt F e) → Prog (TpuEff nD τ sig (Elt F) Λ₀ .tc) α}
    (h : iprop(owns (c : Thread nD τ) m fullShare X ∗ R) ⊢ wp frame (wpE defs₀ Variants.none (c : Thread nD τ) none) Set.univ (k (View.ld X r)) Q) :
    iprop(owns (c : Thread nD τ) m fullShare X ∗ R) ⊢ wp frame (wpE defs₀ Variants.none (c : Thread nD τ) none) Set.univ (.op (.load m r.toLoadRect hl) k) Q := by
  unfold owns at h ⊢
  iintro ⟨⟨%f, %hf, H⟩, HR⟩
  subst hf
  iapply (wp_load_rect (defs := defs₀) Variants.none (c : Thread nD τ) none Set.univ (Q := Q) (m := m) (r := r) (hl := hl) (k := k) (S := m.view.set) (q := fullShare) (f := f) (m.view.set_slice_subset r)) $$ [H]
  · iexact H
  iintro H
  iapply h
  isplitl [H]
  · iexists f; isplitr
    · ipureintro; rfl
    · iexact H
  · iexact HR

/-- Storing a rectangle of an owned memref lays the payload over the contents. -/
theorem step_store (m : Memref sig .tc .vmem sh e) {X : sh.Idx → Elt F e} {r : Rect sh} {w : r.shape.Idx → Elt F e}
    {hx : (m.access r).Stores Finset.univ} {hm : Finset.univ = Finset.univ ∨ ∀ a, r.stride a = 1}
    {k : PUnit → Prog (TpuEff nD τ sig (Elt F) Λ₀ .tc) α}
    (h : iprop(owns (c : Thread nD τ) m fullShare (r.overlay X w) ∗ R) ⊢ wp frame (wpE defs₀ Variants.none (c : Thread nD τ) none) Set.univ (k ⟨⟩) Q) :
    iprop(owns (c : Thread nD τ) m fullShare X ∗ R) ⊢ wp frame (wpE defs₀ Variants.none (c : Thread nD τ) none) Set.univ (.op (.store m r w Finset.univ hx hm) k) Q := by
  unfold owns at h ⊢
  iintro ⟨⟨%f, %hf, H⟩, HR⟩
  subst hf
  iapply (wp_store (defs := defs₀) Variants.none (c : Thread nD τ) none Set.univ (Q := Q) (m := m) (r := r) (w := w) (Mk := Finset.univ) (hx := hx) (hm := hm) (k := k) (S := m.view.set) (f := f) (m.setOn_access_subset r _)) $$ [H]
  · iexact H
  iintro H
  iapply h
  isplitl [H]
  · iexists ((m.access r).write (Elt F) f w Finset.univ); isplitr
    · ipureintro
      funext y
      by_cases hy : y ∈ r.set
      · obtain ⟨x, rfl⟩ : ∃ x, r.emb x = y := r.exists_idx_of_mem hy
        rw [Rect.overlay_emb]
        exact View.read_slice_write_emb r f w (Finset.mem_univ x)
      · rw [Rect.overlay_of_not_mem _ _ _ hy]
        exact View.read_slice_write_of_not_mem r f w _ (by rwa [Rect.map_emb_univ])
    · iexact H
  · iexact HR
end Ops

/-- The contents of the twelve buffers the body works on. -/
structure St (F : FTy → Type) where
  xq : Vec F S1x1x256x2048 .bf16
  xk : Vec F S1x1x16384x256 .bf16
  xv : Vec F S1x1x128x16384 .bf16
  xo : Vec F S1x2048x128 .bf16
  qa : Vec F S256x2048 .bf16
  xm : Vec F S1x2048 .f32
  acc : Vec F S128x2048 .f32
  xl : Vec F S8x2048 .f32
  p0 : Vec F S2048x2048 .bf16
  p1 : Vec F S2048x2048 .bf16
  ls0 : Vec F S8x2048 .f32
  ls1 : Vec F S8x2048 .f32

variable (c : Dev nD)
  (arg3 : Memref sig .tc .vmem S1x1x256x2048 .bf16)
  (arg4 : Memref sig .tc .vmem S1x1x16384x256 .bf16)
  (arg5 : Memref sig .tc .vmem S1x1x128x16384 .bf16)
  (arg6 : Memref sig .tc .vmem S1x2048x128 .bf16)
  (arg7 : Memref sig .tc .vmem S256x2048 .bf16)
  (arg8 : Memref sig .tc .vmem S1x2048 .f32)
  (arg9 : Memref sig .tc .vmem S128x2048 .f32)
  (arg10 : Memref sig .tc .vmem S8x2048 .f32)
  (arg11 : Memref sig .tc .vmem S2048x2048 .bf16)
  (arg12 : Memref sig .tc .vmem S2048x2048 .bf16)
  (arg13 : Memref sig .tc .vmem S8x2048 .f32)
  (arg14 : Memref sig .tc .vmem S8x2048 .f32)

/-- Core `c` owns the twelve buffers at the contents `s`. -/
def own (s : St F) : sProp (MT nD τ sig Unit (Elt F) ℕ (UR sig nD τ) ℕ) :=
  iprop(owns (c : Thread nD τ) arg3 fullShare s.xq ∗ owns (c : Thread nD τ) arg4 fullShare s.xk ∗ owns (c : Thread nD τ) arg5 fullShare s.xv ∗ owns (c : Thread nD τ) arg6 fullShare s.xo ∗ owns (c : Thread nD τ) arg7 fullShare s.qa ∗ owns (c : Thread nD τ) arg8 fullShare s.xm ∗ owns (c : Thread nD τ) arg9 fullShare s.acc ∗ owns (c : Thread nD τ) arg10 fullShare s.xl ∗ owns (c : Thread nD τ) arg11 fullShare s.p0 ∗ owns (c : Thread nD τ) arg12 fullShare s.p1 ∗ owns (c : Thread nD τ) arg13 fullShare s.ls0 ∗ owns (c : Thread nD τ) arg14 fullShare s.ls1)

/-- From contents `s`, the program `p` runs to its end and leaves contents and a result of which `Q` holds. -/
def T (s : St F) {α : Type} (p : Prog (TpuEff nD τ sig (Elt F) Λ₀ .tc) α) (Q : α → St F → Prop) : Prop :=
  (own c arg3 arg4 arg5 arg6 arg7 arg8 arg9 arg10 arg11 arg12 arg13 arg14 s : sProp (MT nD τ sig Unit (Elt F) ℕ (UR sig nD τ) ℕ)) ⊢ wp frame (wpE defs₀ Variants.none (c : Thread nD τ) none) Set.univ p
    (fun a => iprop(∃ s', ⌜Q a s'⌝ ∗ own c arg3 arg4 arg5 arg6 arg7 arg8 arg9 arg10 arg11 arg12 arg13 arg14 s'))

section Rules
variable {c}
variable {arg3}
variable {arg4}
variable {arg5}
variable {arg6}
variable {arg7}
variable {arg8}
variable {arg9}
variable {arg10}
variable {arg11}
variable {arg12}
variable {arg13}
variable {arg14}
variable {α : Type} {Q : α → St F → Prop}
variable {xq : Vec F S1x1x256x2048 .bf16} {xk : Vec F S1x1x16384x256 .bf16} {xv : Vec F S1x1x128x16384 .bf16} {xo : Vec F S1x2048x128 .bf16} {qa : Vec F S256x2048 .bf16} {xm : Vec F S1x2048 .f32} {acc : Vec F S128x2048 .f32} {xl : Vec F S8x2048 .f32} {p0 : Vec F S2048x2048 .bf16} {p1 : Vec F S2048x2048 .bf16} {ls0 : Vec F S8x2048 .f32} {ls1 : Vec F S8x2048 .f32}

theorem T_load3 {r : Rect S1x1x256x2048} {hl : arg3.view.LoadsAt r.toLoadRect}
    {k : (r.shape.Idx → Elt F .bf16) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld xq r)) Q) : T c arg3 arg4 arg5 arg6 arg7 arg8 arg9 arg10 arg11 arg12 arg13 arg14 ⟨xq, xk, xv, xo, qa, xm, acc, xl, p0, p1, ls0, ls1⟩ (.op (.load arg3 r.toLoadRect hl) k) Q := by
  have comm : ∀ X : Vec F S1x1x256x2048 .bf16, (own c arg3 arg4 arg5 arg6 arg7 arg8 arg9 arg10 arg11 arg12 arg13 arg14 ⟨X, xk, xv, xo, qa, xm, acc, xl, p0, p1, ls0, ls1⟩ : sProp (MT nD τ sig Unit (Elt F) ℕ (UR sig nD τ) ℕ)) ⊣⊢ iprop(owns (c : Thread nD τ) arg3 fullShare X ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro ⟨H3, H4, H5, H6, H7, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg3 ((comm _).2.trans h))

theorem T_store3 {r : Rect S1x1x256x2048} {w : r.shape.Idx → Elt F .bf16}
    {hx : (arg3.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨r.overlay xq w, xk, xv, xo, qa, xm, acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg3 r w Finset.univ hx hm) k) Q := by
  have comm : ∀ X : Vec F S1x1x256x2048 .bf16, (own c arg3 arg4 arg5 arg6 arg7 arg8 arg9 arg10 arg11 arg12 arg13 arg14 ⟨X, xk, xv, xo, qa, xm, acc, xl, p0, p1, ls0, ls1⟩ : sProp (MT nD τ sig Unit (Elt F) ℕ (UR sig nD τ) ℕ)) ⊣⊢ iprop(owns (c : Thread nD τ) arg3 fullShare X ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro ⟨H3, H4, H5, H6, H7, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg3 ((comm _).2.trans h))

theorem T_load4 {r : Rect S1x1x16384x256} {hl : arg4.view.LoadsAt r.toLoadRect}
    {k : (r.shape.Idx → Elt F .bf16) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld xk r)) Q) : T c arg3 arg4 arg5 arg6 arg7 arg8 arg9 arg10 arg11 arg12 arg13 arg14 ⟨xq, xk, xv, xo, qa, xm, acc, xl, p0, p1, ls0, ls1⟩ (.op (.load arg4 r.toLoadRect hl) k) Q := by
  have comm : ∀ X : Vec F S1x1x16384x256 .bf16, (own c arg3 arg4 arg5 arg6 arg7 arg8 arg9 arg10 arg11 arg12 arg13 arg14 ⟨xq, X, xv, xo, qa, xm, acc, xl, p0, p1, ls0, ls1⟩ : sProp (MT nD τ sig Unit (Elt F) ℕ (UR sig nD τ) ℕ)) ⊣⊢ iprop(owns (c : Thread nD τ) arg4 fullShare X ∗ owns (c : Thread nD τ) arg3 fullShare xq ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H4]; · iexact H4
      isplitl [H3]; · iexact H3
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro ⟨H4, H3, H5, H6, H7, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg4 ((comm _).2.trans h))

theorem T_store4 {r : Rect S1x1x16384x256} {w : r.shape.Idx → Elt F .bf16}
    {hx : (arg4.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, r.overlay xk w, xv, xo, qa, xm, acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg4 r w Finset.univ hx hm) k) Q := by
  have comm : ∀ X : Vec F S1x1x16384x256 .bf16, (own c arg3 arg4 arg5 arg6 arg7 arg8 arg9 arg10 arg11 arg12 arg13 arg14 ⟨xq, X, xv, xo, qa, xm, acc, xl, p0, p1, ls0, ls1⟩ : sProp (MT nD τ sig Unit (Elt F) ℕ (UR sig nD τ) ℕ)) ⊣⊢ iprop(owns (c : Thread nD τ) arg4 fullShare X ∗ owns (c : Thread nD τ) arg3 fullShare xq ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H4]; · iexact H4
      isplitl [H3]; · iexact H3
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro ⟨H4, H3, H5, H6, H7, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg4 ((comm _).2.trans h))

theorem T_load5 {r : Rect S1x1x128x16384} {hl : arg5.view.LoadsAt r.toLoadRect}
    {k : (r.shape.Idx → Elt F .bf16) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld xv r)) Q) : T c arg3 arg4 arg5 arg6 arg7 arg8 arg9 arg10 arg11 arg12 arg13 arg14 ⟨xq, xk, xv, xo, qa, xm, acc, xl, p0, p1, ls0, ls1⟩ (.op (.load arg5 r.toLoadRect hl) k) Q := by
  have comm : ∀ X : Vec F S1x1x128x16384 .bf16, (own c arg3 arg4 arg5 arg6 arg7 arg8 arg9 arg10 arg11 arg12 arg13 arg14 ⟨xq, xk, X, xo, qa, xm, acc, xl, p0, p1, ls0, ls1⟩ : sProp (MT nD τ sig Unit (Elt F) ℕ (UR sig nD τ) ℕ)) ⊣⊢ iprop(owns (c : Thread nD τ) arg5 fullShare X ∗ owns (c : Thread nD τ) arg3 fullShare xq ∗ owns (c : Thread nD τ) arg4 fullShare xk ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H5]; · iexact H5
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro ⟨H5, H3, H4, H6, H7, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg5 ((comm _).2.trans h))

theorem T_store5 {r : Rect S1x1x128x16384} {w : r.shape.Idx → Elt F .bf16}
    {hx : (arg5.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, r.overlay xv w, xo, qa, xm, acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg5 r w Finset.univ hx hm) k) Q := by
  have comm : ∀ X : Vec F S1x1x128x16384 .bf16, (own c arg3 arg4 arg5 arg6 arg7 arg8 arg9 arg10 arg11 arg12 arg13 arg14 ⟨xq, xk, X, xo, qa, xm, acc, xl, p0, p1, ls0, ls1⟩ : sProp (MT nD τ sig Unit (Elt F) ℕ (UR sig nD τ) ℕ)) ⊣⊢ iprop(owns (c : Thread nD τ) arg5 fullShare X ∗ owns (c : Thread nD τ) arg3 fullShare xq ∗ owns (c : Thread nD τ) arg4 fullShare xk ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H5]; · iexact H5
      isplitl [H3]; · iexact H3
      isplitl [H4]; · iexact H4
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro ⟨H5, H3, H4, H6, H7, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg5 ((comm _).2.trans h))

theorem T_load6 {r : Rect S1x2048x128} {hl : arg6.view.LoadsAt r.toLoadRect}
    {k : (r.shape.Idx → Elt F .bf16) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld xo r)) Q) : T c arg3 arg4 arg5 arg6 arg7 arg8 arg9 arg10 arg11 arg12 arg13 arg14 ⟨xq, xk, xv, xo, qa, xm, acc, xl, p0, p1, ls0, ls1⟩ (.op (.load arg6 r.toLoadRect hl) k) Q := by
  have comm : ∀ X : Vec F S1x2048x128 .bf16, (own c arg3 arg4 arg5 arg6 arg7 arg8 arg9 arg10 arg11 arg12 arg13 arg14 ⟨xq, xk, xv, X, qa, xm, acc, xl, p0, p1, ls0, ls1⟩ : sProp (MT nD τ sig Unit (Elt F) ℕ (UR sig nD τ) ℕ)) ⊣⊢ iprop(owns (c : Thread nD τ) arg6 fullShare X ∗ owns (c : Thread nD τ) arg3 fullShare xq ∗ owns (c : Thread nD τ) arg4 fullShare xk ∗ owns (c : Thread nD τ) arg5 fullShare xv ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H6]; · iexact H6
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro ⟨H6, H3, H4, H5, H7, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg6 ((comm _).2.trans h))

theorem T_store6 {r : Rect S1x2048x128} {w : r.shape.Idx → Elt F .bf16}
    {hx : (arg6.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, xv, r.overlay xo w, qa, xm, acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg6 r w Finset.univ hx hm) k) Q := by
  have comm : ∀ X : Vec F S1x2048x128 .bf16, (own c arg3 arg4 arg5 arg6 arg7 arg8 arg9 arg10 arg11 arg12 arg13 arg14 ⟨xq, xk, xv, X, qa, xm, acc, xl, p0, p1, ls0, ls1⟩ : sProp (MT nD τ sig Unit (Elt F) ℕ (UR sig nD τ) ℕ)) ⊣⊢ iprop(owns (c : Thread nD τ) arg6 fullShare X ∗ owns (c : Thread nD τ) arg3 fullShare xq ∗ owns (c : Thread nD τ) arg4 fullShare xk ∗ owns (c : Thread nD τ) arg5 fullShare xv ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H6]; · iexact H6
      isplitl [H3]; · iexact H3
      isplitl [H4]; · iexact H4
      isplitl [H5]; · iexact H5
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · iintro ⟨H6, H3, H4, H5, H7, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg6 ((comm _).2.trans h))

theorem T_load7 {r : Rect S256x2048} {hl : arg7.view.LoadsAt r.toLoadRect}
    {k : (r.shape.Idx → Elt F .bf16) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld qa r)) Q) : T c arg3 arg4 arg5 arg6 arg7 arg8 arg9 arg10 arg11 arg12 arg13 arg14 ⟨xq, xk, xv, xo, qa, xm, acc, xl, p0, p1, ls0, ls1⟩ (.op (.load arg7 r.toLoadRect hl) k) Q := by
  have comm : ∀ X : Vec F S256x2048 .bf16, (own c arg3 arg4 arg5 arg6 arg7 arg8 arg9 arg10 arg11 arg12 arg13 arg14 ⟨xq, xk, xv, xo, X, xm, acc, xl, p0, p1, ls0, ls1⟩ : sProp (MT nD τ sig Unit (Elt F) ℕ (UR sig nD τ) ℕ)) ⊣⊢ iprop(owns (c : Thread nD τ) arg7 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H7]; · iexact H7
      isplitl [H3]; · iexact H3
      isplitl [H4]; · iexact H4
      isplitl [H5]; · iexact H5
      isplitl [H6]; · iexact H6
      isplitl [H8]; · iexact H8
      isplitl [H9]; · iexact H9
      isplitl [H10]; · iexact H10
      isplitl [H11]; · iexact H11
      isplitl [H12]; · iexact H12
      isplitl [H13]; · iexact H13
      iexact H14
    · iintro ⟨H7, H3, H4, H5, H6, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg7 ((comm _).2.trans h))

theorem T_store7 {r : Rect S256x2048} {w : r.shape.Idx → Elt F .bf16}
    {hx : (arg7.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, xv, xo, r.overlay qa w, xm, acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg7 r w Finset.univ hx hm) k) Q := by
  have comm : ∀ X : Vec F S256x2048 .bf16, (own c arg3 arg4 arg5 arg6 arg7 arg8 arg9 arg10 arg11 arg12 arg13 arg14 ⟨xq, xk, xv, xo, X, xm, acc, xl, p0, p1, ls0, ls1⟩ : sProp (MT nD τ sig Unit (Elt F) ℕ (UR sig nD τ) ℕ)) ⊣⊢ iprop(owns (c : Thread nD τ) arg7 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H7]; · iexact H7
      isplitl [H3]; · iexact H3
      isplitl [H4]; · iexact H4
      isplitl [H5]; · iexact H5
      isplitl [H6]; · iexact H6
      isplitl [H8]; · iexact H8
      isplitl [H9]; · iexact H9
      isplitl [H10]; · iexact H10
      isplitl [H11]; · iexact H11
      isplitl [H12]; · iexact H12
      isplitl [H13]; · iexact H13
      iexact H14
    · iintro ⟨H7, H3, H4, H5, H6, H8, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg7 ((comm _).2.trans h))

theorem T_load8 {r : Rect S1x2048} {hl : arg8.view.LoadsAt r.toLoadRect}
    {k : (r.shape.Idx → Elt F .f32) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld xm r)) Q) : T c arg3 arg4 arg5 arg6 arg7 arg8 arg9 arg10 arg11 arg12 arg13 arg14 ⟨xq, xk, xv, xo, qa, xm, acc, xl, p0, p1, ls0, ls1⟩ (.op (.load arg8 r.toLoadRect hl) k) Q := by
  have comm : ∀ X : Vec F S1x2048 .f32, (own c arg3 arg4 arg5 arg6 arg7 arg8 arg9 arg10 arg11 arg12 arg13 arg14 ⟨xq, xk, xv, xo, qa, X, acc, xl, p0, p1, ls0, ls1⟩ : sProp (MT nD τ sig Unit (Elt F) ℕ (UR sig nD τ) ℕ)) ⊣⊢ iprop(owns (c : Thread nD τ) arg8 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H8]; · iexact H8
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H12]; · iexact H12
      isplitl [H13]; · iexact H13
      iexact H14
    · iintro ⟨H8, H3, H4, H5, H6, H7, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg8 ((comm _).2.trans h))

theorem T_store8 {r : Rect S1x2048} {w : r.shape.Idx → Elt F .f32}
    {hx : (arg8.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, xv, xo, qa, r.overlay xm w, acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg8 r w Finset.univ hx hm) k) Q := by
  have comm : ∀ X : Vec F S1x2048 .f32, (own c arg3 arg4 arg5 arg6 arg7 arg8 arg9 arg10 arg11 arg12 arg13 arg14 ⟨xq, xk, xv, xo, qa, X, acc, xl, p0, p1, ls0, ls1⟩ : sProp (MT nD τ sig Unit (Elt F) ℕ (UR sig nD τ) ℕ)) ⊣⊢ iprop(owns (c : Thread nD τ) arg8 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H8]; · iexact H8
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H12]; · iexact H12
      isplitl [H13]; · iexact H13
      iexact H14
    · iintro ⟨H8, H3, H4, H5, H6, H7, H9, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg8 ((comm _).2.trans h))

theorem T_load9 {r : Rect S128x2048} {hl : arg9.view.LoadsAt r.toLoadRect}
    {k : (r.shape.Idx → Elt F .f32) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld acc r)) Q) : T c arg3 arg4 arg5 arg6 arg7 arg8 arg9 arg10 arg11 arg12 arg13 arg14 ⟨xq, xk, xv, xo, qa, xm, acc, xl, p0, p1, ls0, ls1⟩ (.op (.load arg9 r.toLoadRect hl) k) Q := by
  have comm : ∀ X : Vec F S128x2048 .f32, (own c arg3 arg4 arg5 arg6 arg7 arg8 arg9 arg10 arg11 arg12 arg13 arg14 ⟨xq, xk, xv, xo, qa, xm, X, xl, p0, p1, ls0, ls1⟩ : sProp (MT nD τ sig Unit (Elt F) ℕ (UR sig nD τ) ℕ)) ⊣⊢ iprop(owns (c : Thread nD τ) arg9 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H9]; · iexact H9
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H11]; · iexact H11
      isplitl [H12]; · iexact H12
      isplitl [H13]; · iexact H13
      iexact H14
    · iintro ⟨H9, H3, H4, H5, H6, H7, H8, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg9 ((comm _).2.trans h))

theorem T_store9 {r : Rect S128x2048} {w : r.shape.Idx → Elt F .f32}
    {hx : (arg9.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, xv, xo, qa, xm, r.overlay acc w, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg9 r w Finset.univ hx hm) k) Q := by
  have comm : ∀ X : Vec F S128x2048 .f32, (own c arg3 arg4 arg5 arg6 arg7 arg8 arg9 arg10 arg11 arg12 arg13 arg14 ⟨xq, xk, xv, xo, qa, xm, X, xl, p0, p1, ls0, ls1⟩ : sProp (MT nD τ sig Unit (Elt F) ℕ (UR sig nD τ) ℕ)) ⊣⊢ iprop(owns (c : Thread nD τ) arg9 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg10 fullShare xl ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H9]; · iexact H9
      isplitl [H3]; · iexact H3
      isplitl [H4]; · iexact H4
      isplitl [H5]; · iexact H5
      isplitl [H6]; · iexact H6
      isplitl [H7]; · iexact H7
      isplitl [H8]; · iexact H8
      isplitl [H10]; · iexact H10
      isplitl [H11]; · iexact H11
      isplitl [H12]; · iexact H12
      isplitl [H13]; · iexact H13
      iexact H14
    · iintro ⟨H9, H3, H4, H5, H6, H7, H8, H10, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg9 ((comm _).2.trans h))

theorem T_load10 {r : Rect S8x2048} {hl : arg10.view.LoadsAt r.toLoadRect}
    {k : (r.shape.Idx → Elt F .f32) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld xl r)) Q) : T c arg3 arg4 arg5 arg6 arg7 arg8 arg9 arg10 arg11 arg12 arg13 arg14 ⟨xq, xk, xv, xo, qa, xm, acc, xl, p0, p1, ls0, ls1⟩ (.op (.load arg10 r.toLoadRect hl) k) Q := by
  have comm : ∀ X : Vec F S8x2048 .f32, (own c arg3 arg4 arg5 arg6 arg7 arg8 arg9 arg10 arg11 arg12 arg13 arg14 ⟨xq, xk, xv, xo, qa, xm, acc, X, p0, p1, ls0, ls1⟩ : sProp (MT nD τ sig Unit (Elt F) ℕ (UR sig nD τ) ℕ)) ⊣⊢ iprop(owns (c : Thread nD τ) arg10 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H10]; · iexact H10
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexact H11
      isplitl [H12]; · iexact H12
      isplitl [H13]; · iexact H13
      iexact H14
    · iintro ⟨H10, H3, H4, H5, H6, H7, H8, H9, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg10 ((comm _).2.trans h))

theorem T_store10 {r : Rect S8x2048} {w : r.shape.Idx → Elt F .f32}
    {hx : (arg10.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, xv, xo, qa, xm, acc, r.overlay xl w, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg10 r w Finset.univ hx hm) k) Q := by
  have comm : ∀ X : Vec F S8x2048 .f32, (own c arg3 arg4 arg5 arg6 arg7 arg8 arg9 arg10 arg11 arg12 arg13 arg14 ⟨xq, xk, xv, xo, qa, xm, acc, X, p0, p1, ls0, ls1⟩ : sProp (MT nD τ sig Unit (Elt F) ℕ (UR sig nD τ) ℕ)) ⊣⊢ iprop(owns (c : Thread nD τ) arg10 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg11 fullShare p0 ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H10]; · iexact H10
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexact H11
      isplitl [H12]; · iexact H12
      isplitl [H13]; · iexact H13
      iexact H14
    · iintro ⟨H10, H3, H4, H5, H6, H7, H8, H9, H11, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg10 ((comm _).2.trans h))

theorem T_load11 {r : Rect S2048x2048} {hl : arg11.view.LoadsAt r.toLoadRect}
    {k : (r.shape.Idx → Elt F .bf16) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld p0 r)) Q) : T c arg3 arg4 arg5 arg6 arg7 arg8 arg9 arg10 arg11 arg12 arg13 arg14 ⟨xq, xk, xv, xo, qa, xm, acc, xl, p0, p1, ls0, ls1⟩ (.op (.load arg11 r.toLoadRect hl) k) Q := by
  have comm : ∀ X : Vec F S2048x2048 .bf16, (own c arg3 arg4 arg5 arg6 arg7 arg8 arg9 arg10 arg11 arg12 arg13 arg14 ⟨xq, xk, xv, xo, qa, xm, acc, xl, X, p1, ls0, ls1⟩ : sProp (MT nD τ sig Unit (Elt F) ℕ (UR sig nD τ) ℕ)) ⊣⊢ iprop(owns (c : Thread nD τ) arg11 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H11]; · iexact H11
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [H13]; · iexact H13
      iexact H14
    · iintro ⟨H11, H3, H4, H5, H6, H7, H8, H9, H10, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg11 ((comm _).2.trans h))

theorem T_store11 {r : Rect S2048x2048} {w : r.shape.Idx → Elt F .bf16}
    {hx : (arg11.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, xv, xo, qa, xm, acc, xl, r.overlay p0 w, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg11 r w Finset.univ hx hm) k) Q := by
  have comm : ∀ X : Vec F S2048x2048 .bf16, (own c arg3 arg4 arg5 arg6 arg7 arg8 arg9 arg10 arg11 arg12 arg13 arg14 ⟨xq, xk, xv, xo, qa, xm, acc, xl, X, p1, ls0, ls1⟩ : sProp (MT nD τ sig Unit (Elt F) ℕ (UR sig nD τ) ℕ)) ⊣⊢ iprop(owns (c : Thread nD τ) arg11 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg12 fullShare p1 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H11]; · iexact H11
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H12]; · iexact H12
      isplitl [H13]; · iexact H13
      iexact H14
    · iintro ⟨H11, H3, H4, H5, H6, H7, H8, H9, H10, H12, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg11 ((comm _).2.trans h))

theorem T_load12 {r : Rect S2048x2048} {hl : arg12.view.LoadsAt r.toLoadRect}
    {k : (r.shape.Idx → Elt F .bf16) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld p1 r)) Q) : T c arg3 arg4 arg5 arg6 arg7 arg8 arg9 arg10 arg11 arg12 arg13 arg14 ⟨xq, xk, xv, xo, qa, xm, acc, xl, p0, p1, ls0, ls1⟩ (.op (.load arg12 r.toLoadRect hl) k) Q := by
  have comm : ∀ X : Vec F S2048x2048 .bf16, (own c arg3 arg4 arg5 arg6 arg7 arg8 arg9 arg10 arg11 arg12 arg13 arg14 ⟨xq, xk, xv, xo, qa, xm, acc, xl, p0, X, ls0, ls1⟩ : sProp (MT nD τ sig Unit (Elt F) ℕ (UR sig nD τ) ℕ)) ⊣⊢ iprop(owns (c : Thread nD τ) arg12 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H12]; · iexact H12
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H13]; · iexact H13
      iexact H14
    · iintro ⟨H12, H3, H4, H5, H6, H7, H8, H9, H10, H11, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg12 ((comm _).2.trans h))

theorem T_store12 {r : Rect S2048x2048} {w : r.shape.Idx → Elt F .bf16}
    {hx : (arg12.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, xv, xo, qa, xm, acc, xl, p0, r.overlay p1 w, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg12 r w Finset.univ hx hm) k) Q := by
  have comm : ∀ X : Vec F S2048x2048 .bf16, (own c arg3 arg4 arg5 arg6 arg7 arg8 arg9 arg10 arg11 arg12 arg13 arg14 ⟨xq, xk, xv, xo, qa, xm, acc, xl, p0, X, ls0, ls1⟩ : sProp (MT nD τ sig Unit (Elt F) ℕ (UR sig nD τ) ℕ)) ⊣⊢ iprop(owns (c : Thread nD τ) arg12 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg13 fullShare ls0 ∗ owns (c : Thread nD τ) arg14 fullShare ls1) := fun X => by
    unfold own
    constructor
    · iintro ⟨H3, H4, H5, H6, H7, H8, H9, H10, H11, H12, H13, H14⟩; isplitl [H12]; · iexact H12
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H13]; · iexact H13
      iexact H14
    · iintro ⟨H12, H3, H4, H5, H6, H7, H8, H9, H10, H11, H13, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg12 ((comm _).2.trans h))

theorem T_load13 {r : Rect S8x2048} {hl : arg13.view.LoadsAt r.toLoadRect}
    {k : (r.shape.Idx → Elt F .f32) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld ls0 r)) Q) : T c arg3 arg4 arg5 arg6 arg7 arg8 arg9 arg10 arg11 arg12 arg13 arg14 ⟨xq, xk, xv, xo, qa, xm, acc, xl, p0, p1, ls0, ls1⟩ (.op (.load arg13 r.toLoadRect hl) k) Q := by
  have comm : ∀ X : Vec F S8x2048 .f32, (own c arg3 arg4 arg5 arg6 arg7 arg8 arg9 arg10 arg11 arg12 arg13 arg14 ⟨xq, xk, xv, xo, qa, xm, acc, xl, p0, p1, X, ls1⟩ : sProp (MT nD τ sig Unit (Elt F) ℕ (UR sig nD τ) ℕ)) ⊣⊢ iprop(owns (c : Thread nD τ) arg13 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg14 fullShare ls1) := fun X => by
    unfold own
    constructor
    · iintro ⟨H3, H4, H5, H6, H7, H8, H9, H10, H11, H12, H13, H14⟩; isplitl [H13]; · iexact H13
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H14
    · iintro ⟨H13, H3, H4, H5, H6, H7, H8, H9, H10, H11, H12, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg13 ((comm _).2.trans h))

theorem T_store13 {r : Rect S8x2048} {w : r.shape.Idx → Elt F .f32}
    {hx : (arg13.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, xv, xo, qa, xm, acc, xl, p0, p1, r.overlay ls0 w, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg13 r w Finset.univ hx hm) k) Q := by
  have comm : ∀ X : Vec F S8x2048 .f32, (own c arg3 arg4 arg5 arg6 arg7 arg8 arg9 arg10 arg11 arg12 arg13 arg14 ⟨xq, xk, xv, xo, qa, xm, acc, xl, p0, p1, X, ls1⟩ : sProp (MT nD τ sig Unit (Elt F) ℕ (UR sig nD τ) ℕ)) ⊣⊢ iprop(owns (c : Thread nD τ) arg13 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg14 fullShare ls1) := fun X => by
    unfold own
    constructor
    · iintro ⟨H3, H4, H5, H6, H7, H8, H9, H10, H11, H12, H13, H14⟩; isplitl [H13]; · iexact H13
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H14
    · iintro ⟨H13, H3, H4, H5, H6, H7, H8, H9, H10, H11, H12, H14⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg13 ((comm _).2.trans h))

theorem T_load14 {r : Rect S8x2048} {hl : arg14.view.LoadsAt r.toLoadRect}
    {k : (r.shape.Idx → Elt F .f32) → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, ls1⟩ (k (View.ld ls1 r)) Q) : T c arg3 arg4 arg5 arg6 arg7 arg8 arg9 arg10 arg11 arg12 arg13 arg14 ⟨xq, xk, xv, xo, qa, xm, acc, xl, p0, p1, ls0, ls1⟩ (.op (.load arg14 r.toLoadRect hl) k) Q := by
  have comm : ∀ X : Vec F S8x2048 .f32, (own c arg3 arg4 arg5 arg6 arg7 arg8 arg9 arg10 arg11 arg12 arg13 arg14 ⟨xq, xk, xv, xo, qa, xm, acc, xl, p0, p1, ls0, X⟩ : sProp (MT nD τ sig Unit (Elt F) ℕ (UR sig nD τ) ℕ)) ⊣⊢ iprop(owns (c : Thread nD τ) arg14 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0) := fun X => by
    unfold own
    constructor
    · iintro ⟨H3, H4, H5, H6, H7, H8, H9, H10, H11, H12, H13, H14⟩; isplitl [H14]; · iexact H14
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iintro ⟨H14, H3, H4, H5, H6, H7, H8, H9, H10, H11, H12, H13⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_load c arg14 ((comm _).2.trans h))

theorem T_store14 {r : Rect S8x2048} {w : r.shape.Idx → Elt F .f32}
    {hx : (arg14.access r).Stores Finset.univ} {hm : Finset.univ = Finset.univ ∨ ∀ a, r.stride a = 1}
    {k : PUnit → Prog (TpuEff nD τ sig (Elt F) Λ₀ .tc) α}
    (h : T c arg3 arg4 arg5 arg6 arg7 arg8 arg9 arg10 arg11 arg12 arg13 arg14 ⟨xq, xk, xv, xo, qa, xm, acc, xl, p0, p1, ls0, r.overlay ls1 w⟩ (k ⟨⟩) Q) :
    T c arg3 arg4 arg5 arg6 arg7 arg8 arg9 arg10 arg11 arg12 arg13 arg14 ⟨xq, xk, xv, xo, qa, xm, acc, xl, p0, p1, ls0, ls1⟩ (.op (.store arg14 r w Finset.univ hx hm) k) Q := by
  have comm : ∀ X : Vec F S8x2048 .f32, (own c arg3 arg4 arg5 arg6 arg7 arg8 arg9 arg10 arg11 arg12 arg13 arg14 ⟨xq, xk, xv, xo, qa, xm, acc, xl, p0, p1, ls0, X⟩ : sProp (MT nD τ sig Unit (Elt F) ℕ (UR sig nD τ) ℕ)) ⊣⊢ iprop(owns (c : Thread nD τ) arg14 fullShare X ∗ owns (c : Thread nD τ) arg3 fullShare xq ∗ owns (c : Thread nD τ) arg4 fullShare xk ∗ owns (c : Thread nD τ) arg5 fullShare xv ∗ owns (c : Thread nD τ) arg6 fullShare xo ∗ owns (c : Thread nD τ) arg7 fullShare qa ∗ owns (c : Thread nD τ) arg8 fullShare xm ∗ owns (c : Thread nD τ) arg9 fullShare acc ∗ owns (c : Thread nD τ) arg10 fullShare xl ∗ owns (c : Thread nD τ) arg11 fullShare p0 ∗ owns (c : Thread nD τ) arg12 fullShare p1 ∗ owns (c : Thread nD τ) arg13 fullShare ls0) := fun X => by
    unfold own
    constructor
    · iintro ⟨H3, H4, H5, H6, H7, H8, H9, H10, H11, H12, H13, H14⟩; isplitl [H14]; · iexact H14
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · iintro ⟨H14, H3, H4, H5, H6, H7, H8, H9, H10, H11, H12, H13⟩
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
  unfold T at h ⊢
  exact (comm _).1.trans (step_store c arg14 ((comm _).2.trans h))

end Rules

end Cert.KernelIdeal.Attn

end
-- ==== Proof.KI.Model.lean ====
module

public import proofs.«01_k».proof.Proof.KI.Rules
public import Idealize.ShloMosaic.Lib.Pipeline.Value

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## The tiles the body computes -/

/-- Rows `2048 c + 256 s …` of the keys: slice `s` of chunk `c`. -/
def kL (xk : Vec F S1x1x16384x256 .bf16) (c s : Fin 8) : Vec F S1x1x256x256 .bf16 :=
  View.ld xk (Rect.unit (s := S1x1x16384x256) ![0, 0, 2048 * c.val + 256 * s.val, 0] S1x1x256x256.size
    (by have := c.isLt; have := s.isLt; intro a; fin_cases a <;> simp [S1x1x16384x256, S1x1x256x256] <;> omega))

/-- Columns `2048 c + 256 s …` of the transposed values. -/
def vL (xv : Vec F S1x1x128x16384 .bf16) (c s : Fin 8) : Vec F S1x1x128x256 .bf16 :=
  View.ld xv (Rect.unit (s := S1x1x128x16384) ![0, 0, 0, 2048 * c.val + 256 * s.val] S1x1x128x256.size
    (by have := c.isLt; have := s.isLt; intro a; fin_cases a <;> simp [S1x1x128x16384, S1x1x128x256] <;> omega))

/-- Columns `256 h …` of the augmented queries. -/
def qL (qa : Vec F S256x2048 .bf16) (h : Fin 8) : Vec F S256x256 .bf16 :=
  View.ld qa (Rect.unit (s := S256x2048) ![0, 256 * h.val] S256x256.size
    (by have := h.isLt; intro a; fin_cases a <;> simp [S256x2048, S256x256] <;> omega))

/-- Columns `256 h …` of the accumulator. -/
def aL (acc : Vec F S128x2048 .f32) (h : Fin 8) : Vec F S128x256 .f32 :=
  View.ld acc (Rect.unit (s := S128x2048) ![0, 256 * h.val] S128x256.size
    (by have := h.isLt; intro a; fin_cases a <;> simp [S128x2048, S128x256] <;> omega))

/-- The scores of one tile: slice `s` of chunk `c` against queries `256 h …`. -/
def sT (xk : Vec F S1x1x16384x256 .bf16) (qa : Vec F S256x2048 .bf16) (c s h : Fin 8) : FVec F S256x256 .f32 :=
  matmul dot_S256x256_S256x256_S256x256_1_0_0_1_n_n none (shapeCast S256x256 (kL xk c s) shapeCasts_S1x1x256x256_S256x256 : FVec F S256x256 .bf16) (qL qa h) (constant S256x256 .f32 0x00000000#32)

/-- The powers of two of one tile of scores. -/
def eT (xk : Vec F S1x1x16384x256 .bf16) (qa : Vec F S256x2048 .bf16) (c s h : Fin 8) : FVec F S256x256 .f32 := exp2 (sT xk qa c s h)

/-- The weights of one tile as they are kept. -/
def pT (xk : Vec F S1x1x16384x256 .bf16) (qa : Vec F S256x2048 .bf16) (c s h : Fin 8) : FVec F S256x256 .bf16 :=
  shapeCast S256x256 (truncf .bf16 (eT xk qa c s h) bitsLt_bf16_f32) shapeCasts_S256x256_S256x256

/-- The weights of one tile summed over every eighth key. -/
def rT (xk : Vec F S1x1x16384x256 .bf16) (qa : Vec F S256x2048 .bf16) (c s h : Fin 8) : FVec F S8x256 .f32 :=
  multiReduction .add [0] S8x256 (shapeCast S32x8x256 (eT xk qa c s h) shapeCasts_S256x256_S32x8x256) 0x00000000#32 reduces_S32x8x256_S8x256 (.inl rfl) rfl

/-- The eight slices' sums of one chunk, for queries `256 h …`. -/
def lT (xk : Vec F S1x1x16384x256 .bf16) (qa : Vec F S256x2048 .bf16) (c h : Fin 8) : FVec F S8x256 .f32 :=
  shapeCast S8x256 (addf (addf (addf (addf (addf (addf (addf (rT xk qa c 0 h) (rT xk qa c 1 h)) (rT xk qa c 2 h)) (rT xk qa c 3 h)) (rT xk qa c 4 h)) (rT xk qa c 5 h)) (rT xk qa c 6 h)) (rT xk qa c 7 h)) shapeCasts_S8x256_S8x256

/-- The largest score of one tile, per query. -/
def mT (xk : Vec F S1x1x16384x256 .bf16) (qa : Vec F S256x2048 .bf16) (c s h : Fin 8) : FVec F S1x256 .f32 :=
  shapeCast S1x256 (multiReduction .maximumf [0] S256 (sT xk qa c s h) 0xFF800000#32 reduces_S256x256_S256 (.inl rfl) rfl : FVec F S256 .f32) shapeCasts_S256_S1x256

/-- The largest score of one chunk, for queries `256 h …`. -/
def mC (xk : Vec F S1x1x16384x256 .bf16) (qa : Vec F S256x2048 .bf16) (c h : Fin 8) : FVec F S1x256 .f32 :=
  (maximumf (maximumf (maximumf (maximumf (maximumf (maximumf (maximumf (mT xk qa c 0 h) (mT xk qa c 1 h)) (mT xk qa c 2 h)) (mT xk qa c 3 h)) (mT xk qa c 4 h)) (mT xk qa c 5 h)) (mT xk qa c 6 h)) (mT xk qa c 7 h))

/-- The largest score of one chunk, for every query. -/
def mA (xk : Vec F S1x1x16384x256 .bf16) (qa : Vec F S256x2048 .bf16) (c : Fin 8) : FVec F S1x2048 .f32 :=
  (concatenate S1x2048 1 [⟨S1x1792, (concatenate S1x1792 1 [⟨S1x1536, (concatenate S1x1536 1 [⟨S1x1280, (concatenate S1x1280 1 [⟨S1x1024, (concatenate S1x1024 1 [⟨S1x768, (concatenate S1x768 1 [⟨S1x512, (concatenate S1x512 1 [⟨S1x256, (mC xk qa c 0)⟩, ⟨S1x256, mC xk qa c 1⟩] concatenates_S1x256_S1x256_S1x512_d1)⟩, ⟨S1x256, mC xk qa c 2⟩] concatenates_S1x512_S1x256_S1x768_d1)⟩, ⟨S1x256, mC xk qa c 3⟩] concatenates_S1x768_S1x256_S1x1024_d1)⟩, ⟨S1x256, mC xk qa c 4⟩] concatenates_S1x1024_S1x256_S1x1280_d1)⟩, ⟨S1x256, mC xk qa c 5⟩] concatenates_S1x1280_S1x256_S1x1536_d1)⟩, ⟨S1x256, mC xk qa c 6⟩] concatenates_S1x1536_S1x256_S1x1792_d1)⟩, ⟨S1x256, mC xk qa c 7⟩] concatenates_S1x1792_S1x256_S1x2048_d1)

/-- One tile of the values against the weights. -/
def dT (xk : Vec F S1x1x16384x256 .bf16) (xv : Vec F S1x1x128x16384 .bf16) (qa : Vec F S256x2048 .bf16) (c s h : Fin 8) : FVec F S128x256 .f32 :=
  matmul dot_S128x256_S256x256_S128x256_1_0_0_1_n_n none (shapeCast S128x256 (vL xv c s) shapeCasts_S1x1x128x256_S128x256 : FVec F S128x256 .bf16) (pT xk qa c s h) (constant S128x256 .f32 0x00000000#32)

/-- Columns `256 h …` of the accumulator with chunk `c` added. -/
def aT (xk : Vec F S1x1x16384x256 .bf16) (xv : Vec F S1x1x128x16384 .bf16) (qa : Vec F S256x2048 .bf16) (acc : Vec F S128x2048 .f32) (c h : Fin 8) : FVec F S128x256 .f32 :=
  shapeCast S128x256 (addf (aL acc h) (addf (addf (addf (addf (addf (addf (addf (dT xk xv qa c 0 h) (dT xk xv qa c 1 h)) (dT xk xv qa c 2 h)) (dT xk xv qa c 3 h)) (dT xk xv qa c 4 h)) (dT xk xv qa c 5 h)) (dT xk xv qa c 6 h)) (dT xk xv qa c 7 h))) shapeCasts_S128x256_S128x256

/-- Chunk `n` of the eight. -/
def cI (n : ℕ) : Fin 8 := ⟨n % 8, Nat.mod_lt _ (Nat.succ_pos 7)⟩

/-! ## Buffers put together from tiles -/

/-- An index of a `2048 × 2048` buffer within its tile. -/
def inTile (i : S2048x2048.Idx) : S256x256.Idx := fun a => ⟨(i a).val % 256, by fin_cases a <;> exact Nat.mod_lt _ (Nat.succ_pos 255)⟩

/-- The buffer whose tile `(s, h)` is `W s h`. -/
def full (W : Fin 8 → Fin 8 → Vec F S256x256 .bf16) : Vec F S2048x2048 .bf16 := fun i =>
  W ⟨(i 0).val / 256, by have : (i 0).val < 2048 := (i 0).isLt; omega⟩ ⟨(i 1).val / 256, by have : (i 1).val < 2048 := (i 1).isLt; omega⟩ (inTile i)

/-- The buffer `p` with its first `n` tiles, column of tiles by column of tiles, those of `W`. -/
def fill (W : Fin 8 → Fin 8 → Vec F S256x256 .bf16) (n : ℕ) (p : Vec F S2048x2048 .bf16) : Vec F S2048x2048 .bf16 := fun i =>
  if 8 * ((i 1).val / 256) + (i 0).val / 256 < n then full W i else p i

theorem fill_zero (W : Fin 8 → Fin 8 → Vec F S256x256 .bf16) (p : Vec F S2048x2048 .bf16) : fill W 0 p = p := by
  funext i; simp [fill]

theorem fill_last (W : Fin 8 → Fin 8 → Vec F S256x256 .bf16) (p : Vec F S2048x2048 .bf16) : fill W 64 p = full W := by
  funext i
  have h0 : (i 0).val < 2048 := (i 0).isLt
  have h1 : (i 1).val < 2048 := (i 1).isLt
  unfold fill
  rw [if_pos (by omega)]

theorem tile_mem {s h : Fin 8} {inb} {i : S2048x2048.Idx} :
    i ∈ (Rect.unit (s := S2048x2048) ![256 * s.val, 256 * h.val] S256x256.size inb).set ↔ (i 0).val / 256 = s.val ∧ (i 1).val / 256 = h.val := by
  rw [Rect.mem_set_unit]
  constructor
  · intro H
    have H0 := H (0 : Fin 2); have H1 := H (1 : Fin 2)
    simp [S256x256] at H0 H1
    omega
  · rintro ⟨e0, e1⟩ a
    have h0 : (i 0).val < 2048 := (i 0).isLt
    have h1 : (i 1).val < 2048 := (i 1).isLt
    have g0 : 256 * s.val ≤ (i 0).val ∧ (i 0).val < 256 * s.val + 256 := by omega
    have g1 : 256 * h.val ≤ (i 1).val ∧ (i 1).val < 256 * h.val + 256 := by omega
    fin_cases a
    · exact g0
    · exact g1

theorem full_emb {W : Fin 8 → Fin 8 → Vec F S256x256 .bf16} {s h : Fin 8} {inb} (x : S256x256.Idx) :
    full W ((Rect.unit (s := S2048x2048) ![256 * s.val, 256 * h.val] S256x256.size inb).emb x) = W s h x := by
  have hx0 : (x 0).val < 256 := (x 0).isLt
  have hx1 : (x 1).val < 256 := (x 1).isLt
  set y := (Rect.unit (s := S2048x2048) ![256 * s.val, 256 * h.val] S256x256.size inb).emb x with hy
  have e0 : (y 0).val = 256 * s.val + (x 0).val := by
    rw [hy]; show 256 * s.val + 1 * (x 0).val = _; omega
  have e1 : (y 1).val = 256 * h.val + (x 1).val := by
    rw [hy]; show 256 * h.val + 1 * (x 1).val = _; omega
  unfold full
  have f0 : (⟨(y 0).val / 256, by omega⟩ : Fin 8) = s := Fin.ext (by show (y 0).val / 256 = s.val; omega)
  have f1 : (⟨(y 1).val / 256, by omega⟩ : Fin 8) = h := Fin.ext (by show (y 1).val / 256 = h.val; omega)
  have f2 : inTile y = x := by
    funext a
    fin_cases a
    · apply Fin.ext; show (y 0).val % 256 = (x 0).val; omega
    · apply Fin.ext; show (y 1).val % 256 = (x 1).val; omega
  rw [f0, f1, f2]

theorem fill_step (W : Fin 8 → Fin 8 → Vec F S256x256 .bf16) (p : Vec F S2048x2048 .bf16) (s h : Fin 8) {inb} :
    (Rect.unit (s := S2048x2048) ![256 * s.val, 256 * h.val] S256x256.size inb).overlay (fill W (8 * h.val + s.val) p) (W s h)
      = fill W (8 * h.val + s.val + 1) p := by
  funext i
  have hs := s.isLt
  have h0 : (i 0).val < 2048 := (i 0).isLt
  by_cases hi : i ∈ (Rect.unit (s := S2048x2048) ![256 * s.val, 256 * h.val] S256x256.size inb).set
  · have hm := tile_mem.1 hi
    obtain ⟨x, rfl⟩ : ∃ x, (Rect.unit (s := S2048x2048) ![256 * s.val, 256 * h.val] S256x256.size inb).emb x = i := LoadRect.exists_idx_of_mem _ hi
    rw [Rect.overlay_emb]
    unfold fill
    rw [if_pos (by omega)]
    exact (full_emb x).symm
  · rw [Rect.overlay_of_not_mem _ _ _ hi]
    have hm := fun e => hi (tile_mem.2 e)
    unfold fill
    by_cases hn : 8 * ((i 1).val / 256) + (i 0).val / 256 < 8 * h.val + s.val
    · rw [if_pos hn, if_pos (by omega)]
    · rw [if_neg hn, if_neg]
      intro hlt
      apply hm
      omega

theorem full_ld (W : Fin 8 → Fin 8 → Vec F S256x256 .bf16) (s h : Fin 8) {inb} :
    View.ld (full W) (Rect.unit (s := S2048x2048) ![256 * s.val, 256 * h.val] S256x256.size inb) = W s h := by
  funext x
  exact full_emb x

/-- An index of a `128 × 2048` buffer within its block of columns. -/
def inColA (i : S128x2048.Idx) : S128x256.Idx :=
  fun | 0 => ⟨(i 0).val, (i 0).isLt⟩ | 1 => ⟨(i 1).val % 256, Nat.mod_lt _ (Nat.succ_pos 255)⟩

/-- The buffer whose columns `256 h …` are `W h`. -/
def fullA (W : Fin 8 → Vec F S128x256 .f32) : Vec F S128x2048 .f32 := fun i =>
  W ⟨(i 1).val / 256, by have : (i 1).val < 2048 := (i 1).isLt; omega⟩ (inColA i)

/-- The buffer `p` with its first `n` blocks of columns those of `W`. -/
def fillA (W : Fin 8 → Vec F S128x256 .f32) (n : ℕ) (p : Vec F S128x2048 .f32) : Vec F S128x2048 .f32 := fun i =>
  if (i 1).val / 256 < n then fullA W i else p i

theorem fillA_zero (W : Fin 8 → Vec F S128x256 .f32) (p : Vec F S128x2048 .f32) : fillA W 0 p = p := by
  funext i; simp [fillA]

theorem fillA_last (W : Fin 8 → Vec F S128x256 .f32) (p : Vec F S128x2048 .f32) : fillA W 8 p = fullA W := by
  funext i
  have h1 : (i 1).val < 2048 := (i 1).isLt
  unfold fillA
  rw [if_pos (by omega)]

theorem colA_mem {h : Fin 8} {inb} {i : S128x2048.Idx} :
    i ∈ (Rect.unit (s := S128x2048) ![0, 256 * h.val] S128x256.size inb).set ↔ (i 1).val / 256 = h.val := by
  rw [Rect.mem_set_unit]
  constructor
  · intro H
    have H1 := H (1 : Fin 2)
    simp [S128x256] at H1
    omega
  · rintro e1 a
    have h0 : (i 0).val < 128 := (i 0).isLt
    have h1 : (i 1).val < 2048 := (i 1).isLt
    have g0 : 0 ≤ (i 0).val ∧ (i 0).val < 0 + 128 := by omega
    have g1 : 256 * h.val ≤ (i 1).val ∧ (i 1).val < 256 * h.val + 256 := by omega
    fin_cases a
    · exact g0
    · exact g1

theorem fullA_emb {W : Fin 8 → Vec F S128x256 .f32} {h : Fin 8} {inb} (x : S128x256.Idx) :
    fullA W ((Rect.unit (s := S128x2048) ![0, 256 * h.val] S128x256.size inb).emb x) = W h x := by
  have hx1 : (x 1).val < 256 := (x 1).isLt
  set y := (Rect.unit (s := S128x2048) ![0, 256 * h.val] S128x256.size inb).emb x with hy
  have e0 : (y 0).val = (x 0).val := by
    rw [hy]; show 0 + 1 * (x 0).val = _; omega
  have e1 : (y 1).val = 256 * h.val + (x 1).val := by
    rw [hy]; show 256 * h.val + 1 * (x 1).val = _; omega
  unfold fullA
  have f1 : (⟨(y 1).val / 256, by omega⟩ : Fin 8) = h := Fin.ext (by show (y 1).val / 256 = h.val; omega)
  have f2 : inColA y = x := by
    funext a
    fin_cases a
    · apply Fin.ext; show (y 0).val = (x 0).val; omega
    · apply Fin.ext; show (y 1).val % 256 = (x 1).val; omega
  rw [f1, f2]

theorem fillA_step (W : Fin 8 → Vec F S128x256 .f32) (p : Vec F S128x2048 .f32) (h : Fin 8) {inb} :
    (Rect.unit (s := S128x2048) ![0, 256 * h.val] S128x256.size inb).overlay (fillA W h.val p) (W h) = fillA W (h.val + 1) p := by
  funext i
  by_cases hi : i ∈ (Rect.unit (s := S128x2048) ![0, 256 * h.val] S128x256.size inb).set
  · have hm := colA_mem.1 hi
    obtain ⟨x, rfl⟩ : ∃ x, (Rect.unit (s := S128x2048) ![0, 256 * h.val] S128x256.size inb).emb x = i := LoadRect.exists_idx_of_mem _ hi
    rw [Rect.overlay_emb]
    unfold fillA
    rw [if_pos (by omega)]
    exact (fullA_emb x).symm
  · rw [Rect.overlay_of_not_mem _ _ _ hi]
    have hm := fun e => hi (colA_mem.2 e)
    unfold fillA
    by_cases hn : (i 1).val / 256 < h.val
    · rw [if_pos hn, if_pos (by omega)]
    · rw [if_neg hn, if_neg]
      intro hlt
      apply hm
      omega

theorem fillA_ld (W : Fin 8 → Vec F S128x256 .f32) (p : Vec F S128x2048 .f32) (h : Fin 8) {inb} :
    View.ld (fillA W h.val p) (Rect.unit (s := S128x2048) ![0, 256 * h.val] S128x256.size inb) = View.ld p (Rect.unit (s := S128x2048) ![0, 256 * h.val] S128x256.size inb) := by
  funext x
  have hx1 : (x 1).val < 256 := (x 1).isLt
  have e1 : ((Rect.unit (s := S128x2048) ![0, 256 * h.val] S128x256.size inb).emb x 1).val = 256 * h.val + (x 1).val := by
    show 256 * h.val + 1 * (x 1).val = _; omega
  show fillA W h.val p ((Rect.unit (s := S128x2048) ![0, 256 * h.val] S128x256.size inb).emb x) = p ((Rect.unit (s := S128x2048) ![0, 256 * h.val] S128x256.size inb).emb x)
  generalize (Rect.unit (s := S128x2048) ![0, 256 * h.val] S128x256.size inb).emb x = y at e1 ⊢
  unfold fillA
  rw [if_neg]
  omega

/-- An index of a `8 × 2048` buffer within its block of columns. -/
def inColL (i : S8x2048.Idx) : S8x256.Idx :=
  fun | 0 => ⟨(i 0).val, (i 0).isLt⟩ | 1 => ⟨(i 1).val % 256, Nat.mod_lt _ (Nat.succ_pos 255)⟩

/-- The buffer whose columns `256 h …` are `W h`. -/
def fullL (W : Fin 8 → Vec F S8x256 .f32) : Vec F S8x2048 .f32 := fun i =>
  W ⟨(i 1).val / 256, by have : (i 1).val < 2048 := (i 1).isLt; omega⟩ (inColL i)

/-- The buffer `p` with its first `n` blocks of columns those of `W`. -/
def fillL (W : Fin 8 → Vec F S8x256 .f32) (n : ℕ) (p : Vec F S8x2048 .f32) : Vec F S8x2048 .f32 := fun i =>
  if (i 1).val / 256 < n then fullL W i else p i

theorem fillL_zero (W : Fin 8 → Vec F S8x256 .f32) (p : Vec F S8x2048 .f32) : fillL W 0 p = p := by
  funext i; simp [fillL]

theorem fillL_last (W : Fin 8 → Vec F S8x256 .f32) (p : Vec F S8x2048 .f32) : fillL W 8 p = fullL W := by
  funext i
  have h1 : (i 1).val < 2048 := (i 1).isLt
  unfold fillL
  rw [if_pos (by omega)]

theorem colL_mem {h : Fin 8} {inb} {i : S8x2048.Idx} :
    i ∈ (Rect.unit (s := S8x2048) ![0, 256 * h.val] S8x256.size inb).set ↔ (i 1).val / 256 = h.val := by
  rw [Rect.mem_set_unit]
  constructor
  · intro H
    have H1 := H (1 : Fin 2)
    simp [S8x256] at H1
    omega
  · rintro e1 a
    have h0 : (i 0).val < 8 := (i 0).isLt
    have h1 : (i 1).val < 2048 := (i 1).isLt
    have g0 : 0 ≤ (i 0).val ∧ (i 0).val < 0 + 8 := by omega
    have g1 : 256 * h.val ≤ (i 1).val ∧ (i 1).val < 256 * h.val + 256 := by omega
    fin_cases a
    · exact g0
    · exact g1

theorem fullL_emb {W : Fin 8 → Vec F S8x256 .f32} {h : Fin 8} {inb} (x : S8x256.Idx) :
    fullL W ((Rect.unit (s := S8x2048) ![0, 256 * h.val] S8x256.size inb).emb x) = W h x := by
  have hx1 : (x 1).val < 256 := (x 1).isLt
  set y := (Rect.unit (s := S8x2048) ![0, 256 * h.val] S8x256.size inb).emb x with hy
  have e0 : (y 0).val = (x 0).val := by
    rw [hy]; show 0 + 1 * (x 0).val = _; omega
  have e1 : (y 1).val = 256 * h.val + (x 1).val := by
    rw [hy]; show 256 * h.val + 1 * (x 1).val = _; omega
  unfold fullL
  have f1 : (⟨(y 1).val / 256, by omega⟩ : Fin 8) = h := Fin.ext (by show (y 1).val / 256 = h.val; omega)
  have f2 : inColL y = x := by
    funext a
    fin_cases a
    · apply Fin.ext; show (y 0).val = (x 0).val; omega
    · apply Fin.ext; show (y 1).val % 256 = (x 1).val; omega
  rw [f1, f2]

theorem fillL_step (W : Fin 8 → Vec F S8x256 .f32) (p : Vec F S8x2048 .f32) (h : Fin 8) {inb} :
    (Rect.unit (s := S8x2048) ![0, 256 * h.val] S8x256.size inb).overlay (fillL W h.val p) (W h) = fillL W (h.val + 1) p := by
  funext i
  by_cases hi : i ∈ (Rect.unit (s := S8x2048) ![0, 256 * h.val] S8x256.size inb).set
  · have hm := colL_mem.1 hi
    obtain ⟨x, rfl⟩ : ∃ x, (Rect.unit (s := S8x2048) ![0, 256 * h.val] S8x256.size inb).emb x = i := LoadRect.exists_idx_of_mem _ hi
    rw [Rect.overlay_emb]
    unfold fillL
    rw [if_pos (by omega)]
    exact (fullL_emb x).symm
  · rw [Rect.overlay_of_not_mem _ _ _ hi]
    have hm := fun e => hi (colL_mem.2 e)
    unfold fillL
    by_cases hn : (i 1).val / 256 < h.val
    · rw [if_pos hn, if_pos (by omega)]
    · rw [if_neg hn, if_neg]
      intro hlt
      apply hm
      omega

theorem fillL_ld (W : Fin 8 → Vec F S8x256 .f32) (p : Vec F S8x2048 .f32) (h : Fin 8) {inb} :
    View.ld (fillL W h.val p) (Rect.unit (s := S8x2048) ![0, 256 * h.val] S8x256.size inb) = View.ld p (Rect.unit (s := S8x2048) ![0, 256 * h.val] S8x256.size inb) := by
  funext x
  have hx1 : (x 1).val < 256 := (x 1).isLt
  have e1 : ((Rect.unit (s := S8x2048) ![0, 256 * h.val] S8x256.size inb).emb x 1).val = 256 * h.val + (x 1).val := by
    show 256 * h.val + 1 * (x 1).val = _; omega
  show fillL W h.val p ((Rect.unit (s := S8x2048) ![0, 256 * h.val] S8x256.size inb).emb x) = p ((Rect.unit (s := S8x2048) ![0, 256 * h.val] S8x256.size inb).emb x)
  generalize (Rect.unit (s := S8x2048) ![0, 256 * h.val] S8x256.size inb).emb x = y at e1 ⊢
  unfold fillL
  rw [if_neg]
  omega

/-- The augmented queries with rows 192 to 207 replaced. -/
def setRows (qa : Vec F S256x2048 .bf16) (w : Vec F S16x2048 .bf16) : Vec F S256x2048 .bf16 :=
  (Rect.unit (s := S256x2048) ![192, 0] S16x2048.size inb_S256x2048_S16x2048_192_0).overlay qa w

/-- Which of sixteen rows is the first. -/
def row0 : IVec S16x2048 1 := cmpi .eq (iota .tc S16x2048 32 [0] iota_S16x2048_d0_w32) (broadcast S16x2048 (0#32))

/-- The sixteen rows that hold a stabiliser: its negative, then zeros. -/
def stabRows (m : FVec F S1x2048 .f32) : FVec F S16x2048 .bf16 :=
  shapeCast S16x2048 (truncf .bf16 (select row0 (broadcastTo S16x2048 (shapeCast S1x2048 (subf (broadcast S1x2048 (Scalar.ofBits .f32 0x00000000#32)) m) shapeCasts_S1x2048_S1x2048) broadcasts_S1x2048_S16x2048) (broadcast S16x2048 (Scalar.ofBits .f32 0x00000000#32))) bitsLt_bf16_f32) shapeCasts_S16x2048_S16x2048

/-- A stabiliser moved by `x`, rounded. -/
def newM (m x : FVec F S1x2048 .f32) : FVec F S1x2048 .f32 := extf .f32 (truncf .bf16 (addf m x) bitsLt_bf16_f32) bitsLt_bf16_f32

/-- What a stabiliser is moved by after the first chunk: never down. -/
def up (x : FVec F S1x2048 .f32) : FVec F S1x2048 .f32 := maximumf x (broadcast S1x2048 (Scalar.ofBits .f32 0x00000000#32))

/-- The factor the sums shrink by. -/
def shrink (m m' : FVec F S1x2048 .f32) : FVec F S1x2048 .f32 := exp2 (subf m m')

/-- The output block: the accumulator over the summed weights, transposed. -/
def finish (acc : FVec F S128x2048 .f32) (l : FVec F S8x2048 .f32) : FVec F S1x2048x128 .bf16 :=
  shapeCast S1x2048x128 (truncf .bf16 (transpose S2048x128 [1, 0] (divf acc (broadcastTo S128x2048 (shapeCast S1x2048 (multiReduction .add [0] S2048 l 0x00000000#32 reduces_S8x2048_S2048 (.inl rfl) rfl : FVec F S2048 .f32) shapeCasts_S2048_S1x2048) broadcasts_S1x2048_S128x2048)) transposes_S128x2048_p1_0_S2048x128) bitsLt_bf16_f32) shapeCasts_S2048x128_S1x2048x128

/-! ## The body's operations, one rule each -/

section Rules
variable {c : Dev nD}
variable {arg3 : Memref sig .tc .vmem S1x1x256x2048 .bf16}
variable {arg4 : Memref sig .tc .vmem S1x1x16384x256 .bf16}
variable {arg5 : Memref sig .tc .vmem S1x1x128x16384 .bf16}
variable {arg6 : Memref sig .tc .vmem S1x2048x128 .bf16}
variable {arg7 : Memref sig .tc .vmem S256x2048 .bf16}
variable {arg8 : Memref sig .tc .vmem S1x2048 .f32}
variable {arg9 : Memref sig .tc .vmem S128x2048 .f32}
variable {arg10 : Memref sig .tc .vmem S8x2048 .f32}
variable {arg11 : Memref sig .tc .vmem S2048x2048 .bf16}
variable {arg12 : Memref sig .tc .vmem S2048x2048 .bf16}
variable {arg13 : Memref sig .tc .vmem S8x2048 .f32}
variable {arg14 : Memref sig .tc .vmem S8x2048 .f32}
variable {α : Type} {Q : α → St F → Prop}
variable {xq : Vec F S1x1x256x2048 .bf16} {xk : Vec F S1x1x16384x256 .bf16} {xv : Vec F S1x1x128x16384 .bf16} {xo : Vec F S1x2048x128 .bf16} {qa : Vec F S256x2048 .bf16} {xm : Vec F S1x2048 .f32} {acc : Vec F S128x2048 .f32} {xl : Vec F S8x2048 .f32} {p0 : Vec F S2048x2048 .bf16} {p1 : Vec F S2048x2048 .bf16} {ls0 : Vec F S8x2048 .f32} {ls1 : Vec F S8x2048 .f32}

theorem R4 (cc s : Fin 8) {off} {inb} {hl} {k : Vec F S1x1x256x256 .bf16 → Prog (TpuEff nD τ sig (Elt F) Λ₀ .tc) α} (ho : off = ![0, 0, 2048 * cc.val + 256 * s.val, 0])
    (h : T c arg3 arg4 arg5 arg6 arg7 arg8 arg9 arg10 arg11 arg12 arg13 arg14 ⟨xq, xk, xv, xo, qa, xm, acc, xl, p0, p1, ls0, ls1⟩ (k (kL xk cc s)) Q) :
    T c arg3 arg4 arg5 arg6 arg7 arg8 arg9 arg10 arg11 arg12 arg13 arg14 ⟨xq, xk, xv, xo, qa, xm, acc, xl, p0, p1, ls0, ls1⟩ (.op (.load arg4 (Rect.unit (s := S1x1x16384x256) off S1x1x256x256.size inb).toLoadRect hl) k) Q := by
  subst ho

  exact T_load4 h

theorem R5 (cc s : Fin 8) {off} {inb} {hl} {k : Vec F S1x1x128x256 .bf16 → Prog (TpuEff nD τ sig (Elt F) Λ₀ .tc) α} (ho : off = ![0, 0, 0, 2048 * cc.val + 256 * s.val])
    (h : T c arg3 arg4 arg5 arg6 arg7 arg8 arg9 arg10 arg11 arg12 arg13 arg14 ⟨xq, xk, xv, xo, qa, xm, acc, xl, p0, p1, ls0, ls1⟩ (k (vL xv cc s)) Q) :
    T c arg3 arg4 arg5 arg6 arg7 arg8 arg9 arg10 arg11 arg12 arg13 arg14 ⟨xq, xk, xv, xo, qa, xm, acc, xl, p0, p1, ls0, ls1⟩ (.op (.load arg5 (Rect.unit (s := S1x1x128x16384) off S1x1x128x256.size inb).toLoadRect hl) k) Q := by
  subst ho

  exact T_load5 h

theorem R7 (g : Fin 8) {off} {inb} {hl} {k : Vec F S256x256 .bf16 → Prog (TpuEff nD τ sig (Elt F) Λ₀ .tc) α} (ho : off = ![0, 256 * g.val])
    (h : T c arg3 arg4 arg5 arg6 arg7 arg8 arg9 arg10 arg11 arg12 arg13 arg14 ⟨xq, xk, xv, xo, qa, xm, acc, xl, p0, p1, ls0, ls1⟩ (k (qL qa g)) Q) :
    T c arg3 arg4 arg5 arg6 arg7 arg8 arg9 arg10 arg11 arg12 arg13 arg14 ⟨xq, xk, xv, xo, qa, xm, acc, xl, p0, p1, ls0, ls1⟩ (.op (.load arg7 (Rect.unit (s := S256x2048) off S256x256.size inb).toLoadRect hl) k) Q := by
  subst ho

  exact T_load7 h

theorem R11 (s g : Fin 8) {W : Fin 8 → Fin 8 → Vec F S256x256 .bf16} {off} {inb} {hl} {k : Vec F S256x256 .bf16 → Prog (TpuEff nD τ sig (Elt F) Λ₀ .tc) α} (ho : off = ![256 * s.val, 256 * g.val])
    (h : T c arg3 arg4 arg5 arg6 arg7 arg8 arg9 arg10 arg11 arg12 arg13 arg14 ⟨xq, xk, xv, xo, qa, xm, acc, xl, full W, p1, ls0, ls1⟩ (k (W s g)) Q) :
    T c arg3 arg4 arg5 arg6 arg7 arg8 arg9 arg10 arg11 arg12 arg13 arg14 ⟨xq, xk, xv, xo, qa, xm, acc, xl, full W, p1, ls0, ls1⟩ (.op (.load arg11 (Rect.unit (s := S2048x2048) off S256x256.size inb).toLoadRect hl) k) Q := by
  subst ho
  rw [← full_ld W s g (inb := inb)] at h
  exact T_load11 h

theorem R12 (s g : Fin 8) {W : Fin 8 → Fin 8 → Vec F S256x256 .bf16} {off} {inb} {hl} {k : Vec F S256x256 .bf16 → Prog (TpuEff nD τ sig (Elt F) Λ₀ .tc) α} (ho : off = ![256 * s.val, 256 * g.val])
    (h : T c arg3 arg4 arg5 arg6 arg7 arg8 arg9 arg10 arg11 arg12 arg13 arg14 ⟨xq, xk, xv, xo, qa, xm, acc, xl, p0, full W, ls0, ls1⟩ (k (W s g)) Q) :
    T c arg3 arg4 arg5 arg6 arg7 arg8 arg9 arg10 arg11 arg12 arg13 arg14 ⟨xq, xk, xv, xo, qa, xm, acc, xl, p0, full W, ls0, ls1⟩ (.op (.load arg12 (Rect.unit (s := S2048x2048) off S256x256.size inb).toLoadRect hl) k) Q := by
  subst ho
  rw [← full_ld W s g (inb := inb)] at h
  exact T_load12 h

theorem R9z {off} {inb} {hl} {k : Vec F S128x256 .f32 → Prog (TpuEff nD τ sig (Elt F) Λ₀ .tc) α} (ho : off = ![0, 256 * (0 : Fin 8).val])
    (h : T c arg3 arg4 arg5 arg6 arg7 arg8 arg9 arg10 arg11 arg12 arg13 arg14 ⟨xq, xk, xv, xo, qa, xm, acc, xl, p0, p1, ls0, ls1⟩ (k (aL acc 0)) Q) :
    T c arg3 arg4 arg5 arg6 arg7 arg8 arg9 arg10 arg11 arg12 arg13 arg14 ⟨xq, xk, xv, xo, qa, xm, acc, xl, p0, p1, ls0, ls1⟩ (.op (.load arg9 (Rect.unit (s := S128x2048) off S128x256.size inb).toLoadRect hl) k) Q := by
  subst ho

  exact T_load9 h

theorem R9 (g : Fin 8) {W : Fin 8 → Vec F S128x256 .f32} {off} {inb} {hl} {k : Vec F S128x256 .f32 → Prog (TpuEff nD τ sig (Elt F) Λ₀ .tc) α} (ho : off = ![0, 256 * g.val])
    (h : T c arg3 arg4 arg5 arg6 arg7 arg8 arg9 arg10 arg11 arg12 arg13 arg14 ⟨xq, xk, xv, xo, qa, xm, fillA W g.val acc, xl, p0, p1, ls0, ls1⟩ (k (aL acc g)) Q) :
    T c arg3 arg4 arg5 arg6 arg7 arg8 arg9 arg10 arg11 arg12 arg13 arg14 ⟨xq, xk, xv, xo, qa, xm, fillA W g.val acc, xl, p0, p1, ls0, ls1⟩ (.op (.load arg9 (Rect.unit (s := S128x2048) off S128x256.size inb).toLoadRect hl) k) Q := by
  subst ho
  unfold aL at h; rw [← fillA_ld W acc g] at h
  exact T_load9 h

theorem W3 {inb} {hl} {k : Vec F S1x1x256x2048 .bf16 → Prog (TpuEff nD τ sig (Elt F) Λ₀ .tc) α} (h : T c arg3 arg4 arg5 arg6 arg7 arg8 arg9 arg10 arg11 arg12 arg13 arg14 ⟨xq, xk, xv, xo, qa, xm, acc, xl, p0, p1, ls0, ls1⟩ (k xq) Q) :
    T c arg3 arg4 arg5 arg6 arg7 arg8 arg9 arg10 arg11 arg12 arg13 arg14 ⟨xq, xk, xv, xo, qa, xm, acc, xl, p0, p1, ls0, ls1⟩ (.op (.load arg3 (Rect.unit (s := S1x1x256x2048) ![0, 0, 0, 0] S1x1x256x2048.size inb).toLoadRect hl) k) Q := by
  have hz : (![0, 0, 0, 0] : Fin 4 → ℕ) = fun _ => 0 := by funext a; fin_cases a <;> rfl
  apply T_load3
  have : View.ld xq (Rect.unit (s := S1x1x256x2048) ![0, 0, 0, 0] S1x1x256x2048.size inb) = xq := View.ld_unit_zero (S := S1x1x256x2048) hz inb xq
  rw [this]; exact h

theorem W6 {inb} {hl} {k : Vec F S1x2048x128 .bf16 → Prog (TpuEff nD τ sig (Elt F) Λ₀ .tc) α} (h : T c arg3 arg4 arg5 arg6 arg7 arg8 arg9 arg10 arg11 arg12 arg13 arg14 ⟨xq, xk, xv, xo, qa, xm, acc, xl, p0, p1, ls0, ls1⟩ (k xo) Q) :
    T c arg3 arg4 arg5 arg6 arg7 arg8 arg9 arg10 arg11 arg12 arg13 arg14 ⟨xq, xk, xv, xo, qa, xm, acc, xl, p0, p1, ls0, ls1⟩ (.op (.load arg6 (Rect.unit (s := S1x2048x128) ![0, 0, 0] S1x2048x128.size inb).toLoadRect hl) k) Q := by
  have hz : (![0, 0, 0] : Fin 3 → ℕ) = fun _ => 0 := by funext a; fin_cases a <;> rfl
  apply T_load6
  have : View.ld xo (Rect.unit (s := S1x2048x128) ![0, 0, 0] S1x2048x128.size inb) = xo := View.ld_unit_zero (S := S1x2048x128) hz inb xo
  rw [this]; exact h

theorem V6 (w' : Vec F S1x2048x128 .bf16) {w : Vec F S1x2048x128 .bf16} {inb} {hx} {hm} {k : PUnit → Prog (TpuEff nD τ sig (Elt F) Λ₀ .tc) α} (hw : w = w') (h : T c arg3 arg4 arg5 arg6 arg7 arg8 arg9 arg10 arg11 arg12 arg13 arg14 ⟨xq, xk, xv, w', qa, xm, acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg6 (Rect.unit (s := S1x2048x128) ![0, 0, 0] S1x2048x128.size inb) w Finset.univ hx hm) k) Q := by
  subst hw
  have hz : (![0, 0, 0] : Fin 3 → ℕ) = fun _ => 0 := by funext a; fin_cases a <;> rfl
  apply T_store6
  have : (Rect.unit (s := S1x2048x128) ![0, 0, 0] S1x2048x128.size inb).overlay xo w = w := by
    funext i
    have e : (Rect.unit (s := S1x2048x128) ![0, 0, 0] S1x2048x128.size inb).emb i = i := by
      funext a; apply Fin.ext
      show (![0, 0, 0] : Fin 3 → ℕ) a + 1 * (i a).val = (i a).val
      rw [congrFun hz a]; omega
    conv_lhs => rw [← e]
    rw [Rect.overlay_emb]
  rw [this]; exact h

theorem V7 (w' : Vec F S256x2048 .bf16) {w : Vec F S256x2048 .bf16} {inb} {hx} {hm} {k : PUnit → Prog (TpuEff nD τ sig (Elt F) Λ₀ .tc) α} (hw : w = w') (h : T c arg3 arg4 arg5 arg6 arg7 arg8 arg9 arg10 arg11 arg12 arg13 arg14 ⟨xq, xk, xv, xo, w', xm, acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg7 (Rect.unit (s := S256x2048) ![0, 0] S256x2048.size inb) w Finset.univ hx hm) k) Q := by
  subst hw
  have hz : (![0, 0] : Fin 2 → ℕ) = fun _ => 0 := by funext a; fin_cases a <;> rfl
  apply T_store7
  have : (Rect.unit (s := S256x2048) ![0, 0] S256x2048.size inb).overlay qa w = w := by
    funext i
    have e : (Rect.unit (s := S256x2048) ![0, 0] S256x2048.size inb).emb i = i := by
      funext a; apply Fin.ext
      show (![0, 0] : Fin 2 → ℕ) a + 1 * (i a).val = (i a).val
      rw [congrFun hz a]; omega
    conv_lhs => rw [← e]
    rw [Rect.overlay_emb]
  rw [this]; exact h

theorem W8 {inb} {hl} {k : Vec F S1x2048 .f32 → Prog (TpuEff nD τ sig (Elt F) Λ₀ .tc) α} (h : T c arg3 arg4 arg5 arg6 arg7 arg8 arg9 arg10 arg11 arg12 arg13 arg14 ⟨xq, xk, xv, xo, qa, xm, acc, xl, p0, p1, ls0, ls1⟩ (k xm) Q) :
    T c arg3 arg4 arg5 arg6 arg7 arg8 arg9 arg10 arg11 arg12 arg13 arg14 ⟨xq, xk, xv, xo, qa, xm, acc, xl, p0, p1, ls0, ls1⟩ (.op (.load arg8 (Rect.unit (s := S1x2048) ![0, 0] S1x2048.size inb).toLoadRect hl) k) Q := by
  have hz : (![0, 0] : Fin 2 → ℕ) = fun _ => 0 := by funext a; fin_cases a <;> rfl
  apply T_load8
  have : View.ld xm (Rect.unit (s := S1x2048) ![0, 0] S1x2048.size inb) = xm := View.ld_unit_zero (S := S1x2048) hz inb xm
  rw [this]; exact h

theorem V8 (w' : Vec F S1x2048 .f32) {w : Vec F S1x2048 .f32} {inb} {hx} {hm} {k : PUnit → Prog (TpuEff nD τ sig (Elt F) Λ₀ .tc) α} (hw : w = w') (h : T c arg3 arg4 arg5 arg6 arg7 arg8 arg9 arg10 arg11 arg12 arg13 arg14 ⟨xq, xk, xv, xo, qa, w', acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg8 (Rect.unit (s := S1x2048) ![0, 0] S1x2048.size inb) w Finset.univ hx hm) k) Q := by
  subst hw
  have hz : (![0, 0] : Fin 2 → ℕ) = fun _ => 0 := by funext a; fin_cases a <;> rfl
  apply T_store8
  have : (Rect.unit (s := S1x2048) ![0, 0] S1x2048.size inb).overlay xm w = w := by
    funext i
    have e : (Rect.unit (s := S1x2048) ![0, 0] S1x2048.size inb).emb i = i := by
      funext a; apply Fin.ext
      show (![0, 0] : Fin 2 → ℕ) a + 1 * (i a).val = (i a).val
      rw [congrFun hz a]; omega
    conv_lhs => rw [← e]
    rw [Rect.overlay_emb]
  rw [this]; exact h

theorem W9 {inb} {hl} {k : Vec F S128x2048 .f32 → Prog (TpuEff nD τ sig (Elt F) Λ₀ .tc) α} (h : T c arg3 arg4 arg5 arg6 arg7 arg8 arg9 arg10 arg11 arg12 arg13 arg14 ⟨xq, xk, xv, xo, qa, xm, acc, xl, p0, p1, ls0, ls1⟩ (k acc) Q) :
    T c arg3 arg4 arg5 arg6 arg7 arg8 arg9 arg10 arg11 arg12 arg13 arg14 ⟨xq, xk, xv, xo, qa, xm, acc, xl, p0, p1, ls0, ls1⟩ (.op (.load arg9 (Rect.unit (s := S128x2048) ![0, 0] S128x2048.size inb).toLoadRect hl) k) Q := by
  have hz : (![0, 0] : Fin 2 → ℕ) = fun _ => 0 := by funext a; fin_cases a <;> rfl
  apply T_load9
  have : View.ld acc (Rect.unit (s := S128x2048) ![0, 0] S128x2048.size inb) = acc := View.ld_unit_zero (S := S128x2048) hz inb acc
  rw [this]; exact h

theorem V9 (w' : Vec F S128x2048 .f32) {w : Vec F S128x2048 .f32} {inb} {hx} {hm} {k : PUnit → Prog (TpuEff nD τ sig (Elt F) Λ₀ .tc) α} (hw : w = w') (h : T c arg3 arg4 arg5 arg6 arg7 arg8 arg9 arg10 arg11 arg12 arg13 arg14 ⟨xq, xk, xv, xo, qa, xm, w', xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg9 (Rect.unit (s := S128x2048) ![0, 0] S128x2048.size inb) w Finset.univ hx hm) k) Q := by
  subst hw
  have hz : (![0, 0] : Fin 2 → ℕ) = fun _ => 0 := by funext a; fin_cases a <;> rfl
  apply T_store9
  have : (Rect.unit (s := S128x2048) ![0, 0] S128x2048.size inb).overlay acc w = w := by
    funext i
    have e : (Rect.unit (s := S128x2048) ![0, 0] S128x2048.size inb).emb i = i := by
      funext a; apply Fin.ext
      show (![0, 0] : Fin 2 → ℕ) a + 1 * (i a).val = (i a).val
      rw [congrFun hz a]; omega
    conv_lhs => rw [← e]
    rw [Rect.overlay_emb]
  rw [this]; exact h

theorem W10 {inb} {hl} {k : Vec F S8x2048 .f32 → Prog (TpuEff nD τ sig (Elt F) Λ₀ .tc) α} (h : T c arg3 arg4 arg5 arg6 arg7 arg8 arg9 arg10 arg11 arg12 arg13 arg14 ⟨xq, xk, xv, xo, qa, xm, acc, xl, p0, p1, ls0, ls1⟩ (k xl) Q) :
    T c arg3 arg4 arg5 arg6 arg7 arg8 arg9 arg10 arg11 arg12 arg13 arg14 ⟨xq, xk, xv, xo, qa, xm, acc, xl, p0, p1, ls0, ls1⟩ (.op (.load arg10 (Rect.unit (s := S8x2048) ![0, 0] S8x2048.size inb).toLoadRect hl) k) Q := by
  have hz : (![0, 0] : Fin 2 → ℕ) = fun _ => 0 := by funext a; fin_cases a <;> rfl
  apply T_load10
  have : View.ld xl (Rect.unit (s := S8x2048) ![0, 0] S8x2048.size inb) = xl := View.ld_unit_zero (S := S8x2048) hz inb xl
  rw [this]; exact h

theorem V10 (w' : Vec F S8x2048 .f32) {w : Vec F S8x2048 .f32} {inb} {hx} {hm} {k : PUnit → Prog (TpuEff nD τ sig (Elt F) Λ₀ .tc) α} (hw : w = w') (h : T c arg3 arg4 arg5 arg6 arg7 arg8 arg9 arg10 arg11 arg12 arg13 arg14 ⟨xq, xk, xv, xo, qa, xm, acc, w', p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg10 (Rect.unit (s := S8x2048) ![0, 0] S8x2048.size inb) w Finset.univ hx hm) k) Q := by
  subst hw
  have hz : (![0, 0] : Fin 2 → ℕ) = fun _ => 0 := by funext a; fin_cases a <;> rfl
  apply T_store10
  have : (Rect.unit (s := S8x2048) ![0, 0] S8x2048.size inb).overlay xl w = w := by
    funext i
    have e : (Rect.unit (s := S8x2048) ![0, 0] S8x2048.size inb).emb i = i := by
      funext a; apply Fin.ext
      show (![0, 0] : Fin 2 → ℕ) a + 1 * (i a).val = (i a).val
      rw [congrFun hz a]; omega
    conv_lhs => rw [← e]
    rw [Rect.overlay_emb]
  rw [this]; exact h

theorem W13 {inb} {hl} {k : Vec F S8x2048 .f32 → Prog (TpuEff nD τ sig (Elt F) Λ₀ .tc) α} (h : T c arg3 arg4 arg5 arg6 arg7 arg8 arg9 arg10 arg11 arg12 arg13 arg14 ⟨xq, xk, xv, xo, qa, xm, acc, xl, p0, p1, ls0, ls1⟩ (k ls0) Q) :
    T c arg3 arg4 arg5 arg6 arg7 arg8 arg9 arg10 arg11 arg12 arg13 arg14 ⟨xq, xk, xv, xo, qa, xm, acc, xl, p0, p1, ls0, ls1⟩ (.op (.load arg13 (Rect.unit (s := S8x2048) ![0, 0] S8x2048.size inb).toLoadRect hl) k) Q := by
  have hz : (![0, 0] : Fin 2 → ℕ) = fun _ => 0 := by funext a; fin_cases a <;> rfl
  apply T_load13
  have : View.ld ls0 (Rect.unit (s := S8x2048) ![0, 0] S8x2048.size inb) = ls0 := View.ld_unit_zero (S := S8x2048) hz inb ls0
  rw [this]; exact h

theorem W14 {inb} {hl} {k : Vec F S8x2048 .f32 → Prog (TpuEff nD τ sig (Elt F) Λ₀ .tc) α} (h : T c arg3 arg4 arg5 arg6 arg7 arg8 arg9 arg10 arg11 arg12 arg13 arg14 ⟨xq, xk, xv, xo, qa, xm, acc, xl, p0, p1, ls0, ls1⟩ (k ls1) Q) :
    T c arg3 arg4 arg5 arg6 arg7 arg8 arg9 arg10 arg11 arg12 arg13 arg14 ⟨xq, xk, xv, xo, qa, xm, acc, xl, p0, p1, ls0, ls1⟩ (.op (.load arg14 (Rect.unit (s := S8x2048) ![0, 0] S8x2048.size inb).toLoadRect hl) k) Q := by
  have hz : (![0, 0] : Fin 2 → ℕ) = fun _ => 0 := by funext a; fin_cases a <;> rfl
  apply T_load14
  have : View.ld ls1 (Rect.unit (s := S8x2048) ![0, 0] S8x2048.size inb) = ls1 := View.ld_unit_zero (S := S8x2048) hz inb ls1
  rw [this]; exact h

theorem V7rows (w' : Vec F S16x2048 .bf16) {w : Vec F S16x2048 .bf16} {inb} {hx} {hm} {k : PUnit → Prog (TpuEff nD τ sig (Elt F) Λ₀ .tc) α} (hw : w = w') (h : T c arg3 arg4 arg5 arg6 arg7 arg8 arg9 arg10 arg11 arg12 arg13 arg14 ⟨xq, xk, xv, xo, setRows qa w', xm, acc, xl, p0, p1, ls0, ls1⟩ (k ⟨⟩) Q) :
    T c arg3 arg4 arg5 arg6 arg7 arg8 arg9 arg10 arg11 arg12 arg13 arg14 ⟨xq, xk, xv, xo, qa, xm, acc, xl, p0, p1, ls0, ls1⟩ (.op (.store arg7 (Rect.unit (s := S256x2048) ![192, 0] S16x2048.size inb) w Finset.univ hx hm) k) Q := by
  subst hw
  exact T_store7 h

theorem V11z (W : Fin 8 → Fin 8 → Vec F S256x256 .bf16) {w : Vec F S256x256 .bf16} {off} {inb} {hx} {hm} {k : PUnit → Prog (TpuEff nD τ sig (Elt F) Λ₀ .tc) α} (ho : off = ![256 * (0 : Fin 8).val, 256 * (0 : Fin 8).val]) (hw : w = W 0 0)  (h : T c arg3 arg4 arg5 arg6 arg7 arg8 arg9 arg10 arg11 arg12 arg13 arg14 ⟨xq, xk, xv, xo, qa, xm, acc, xl, fill W 1 p0, p1, ls0, ls1⟩ (k ⟨⟩) Q) : T c arg3 arg4 arg5 arg6 arg7 arg8 arg9 arg10 arg11 arg12 arg13 arg14 ⟨xq, xk, xv, xo, qa, xm, acc, xl, p0, p1, ls0, ls1⟩ (.op (.store arg11 (Rect.unit (s := S2048x2048) off S256x256.size inb) w Finset.univ hx hm) k) Q := by
  subst ho hw
  have e := (fill_step W p0 0 0 (inb := inb)).trans (show _ = fill W 1 p0 from rfl)
  have e1 : fill W (8 * (0 : Fin 8).val + (0 : Fin 8).val) p0 = p0 := fill_zero W p0
  rw [e1] at e
  apply T_store11
  rw [e]; exact h

theorem V11 (s g : Fin 8) (j : ℕ) {n : ℕ} {W : Fin 8 → Fin 8 → Vec F S256x256 .bf16} {w : Vec F S256x256 .bf16} {off} {inb} {hx} {hm} {k : PUnit → Prog (TpuEff nD τ sig (Elt F) Λ₀ .tc) α} (ho : off = ![256 * s.val, 256 * g.val]) (hw : w = W s g)  (hn : 8 * g.val + s.val = n) (hj : n + 1 = j) (h : T c arg3 arg4 arg5 arg6 arg7 arg8 arg9 arg10 arg11 arg12 arg13 arg14 ⟨xq, xk, xv, xo, qa, xm, acc, xl, fill W j p0, p1, ls0, ls1⟩ (k ⟨⟩) Q) : T c arg3 arg4 arg5 arg6 arg7 arg8 arg9 arg10 arg11 arg12 arg13 arg14 ⟨xq, xk, xv, xo, qa, xm, acc, xl, fill W n p0, p1, ls0, ls1⟩ (.op (.store arg11 (Rect.unit (s := S2048x2048) off S256x256.size inb) w Finset.univ hx hm) k) Q := by
  subst ho hw hn hj
  have e := fill_step W p0 s g (inb := inb)
  apply T_store11
  rw [e]; exact h

theorem V11l {W : Fin 8 → Fin 8 → Vec F S256x256 .bf16} {w : Vec F S256x256 .bf16} {off} {inb} {hx} {hm} {k : PUnit → Prog (TpuEff nD τ sig (Elt F) Λ₀ .tc) α} (ho : off = ![256 * (7 : Fin 8).val, 256 * (7 : Fin 8).val]) (hw : w = W 7 7)  (h : T c arg3 arg4 arg5 arg6 arg7 arg8 arg9 arg10 arg11 arg12 arg13 arg14 ⟨xq, xk, xv, xo, qa, xm, acc, xl, full W, p1, ls0, ls1⟩ (k ⟨⟩) Q) : T c arg3 arg4 arg5 arg6 arg7 arg8 arg9 arg10 arg11 arg12 arg13 arg14 ⟨xq, xk, xv, xo, qa, xm, acc, xl, fill W 63 p0, p1, ls0, ls1⟩ (.op (.store arg11 (Rect.unit (s := S2048x2048) off S256x256.size inb) w Finset.univ hx hm) k) Q := by
  subst ho hw
  have e := (fill_step W p0 7 7 (inb := inb)).trans (fill_last W p0)
  apply T_store11
  rw [← e] at h; exact h

theorem V12z (W : Fin 8 → Fin 8 → Vec F S256x256 .bf16) {w : Vec F S256x256 .bf16} {off} {inb} {hx} {hm} {k : PUnit → Prog (TpuEff nD τ sig (Elt F) Λ₀ .tc) α} (ho : off = ![256 * (0 : Fin 8).val, 256 * (0 : Fin 8).val]) (hw : w = W 0 0)  (h : T c arg3 arg4 arg5 arg6 arg7 arg8 arg9 arg10 arg11 arg12 arg13 arg14 ⟨xq, xk, xv, xo, qa, xm, acc, xl, p0, fill W 1 p1, ls0, ls1⟩ (k ⟨⟩) Q) : T c arg3 arg4 arg5 arg6 arg7 arg8 arg9 arg10 arg11 arg12 arg13 arg14 ⟨xq, xk, xv, xo, qa, xm, acc, xl, p0, p1, ls0, ls1⟩ (.op (.store arg12 (Rect.unit (s := S2048x2048) off S256x256.size inb) w Finset.univ hx hm) k) Q := by
  subst ho hw
  have e := (fill_step W p1 0 0 (inb := inb)).trans (show _ = fill W 1 p1 from rfl)
  have e1 : fill W (8 * (0 : Fin 8).val + (0 : Fin 8).val) p1 = p1 := fill_zero W p1
  rw [e1] at e
  apply T_store12
  rw [e]; exact h

theorem V12 (s g : Fin 8) (j : ℕ) {n : ℕ} {W : Fin 8 → Fin 8 → Vec F S256x256 .bf16} {w : Vec F S256x256 .bf16} {off} {inb} {hx} {hm} {k : PUnit → Prog (TpuEff nD τ sig (Elt F) Λ₀ .tc) α} (ho : off = ![256 * s.val, 256 * g.val]) (hw : w = W s g)  (hn : 8 * g.val + s.val = n) (hj : n + 1 = j) (h : T c arg3 arg4 arg5 arg6 arg7 arg8 arg9 arg10 arg11 arg12 arg13 arg14 ⟨xq, xk, xv, xo, qa, xm, acc, xl, p0, fill W j p1, ls0, ls1⟩ (k ⟨⟩) Q) : T c arg3 arg4 arg5 arg6 arg7 arg8 arg9 arg10 arg11 arg12 arg13 arg14 ⟨xq, xk, xv, xo, qa, xm, acc, xl, p0, fill W n p1, ls0, ls1⟩ (.op (.store arg12 (Rect.unit (s := S2048x2048) off S256x256.size inb) w Finset.univ hx hm) k) Q := by
  subst ho hw hn hj
  have e := fill_step W p1 s g (inb := inb)
  apply T_store12
  rw [e]; exact h

theorem V12l {W : Fin 8 → Fin 8 → Vec F S256x256 .bf16} {w : Vec F S256x256 .bf16} {off} {inb} {hx} {hm} {k : PUnit → Prog (TpuEff nD τ sig (Elt F) Λ₀ .tc) α} (ho : off = ![256 * (7 : Fin 8).val, 256 * (7 : Fin 8).val]) (hw : w = W 7 7)  (h : T c arg3 arg4 arg5 arg6 arg7 arg8 arg9 arg10 arg11 arg12 arg13 arg14 ⟨xq, xk, xv, xo, qa, xm, acc, xl, p0, full W, ls0, ls1⟩ (k ⟨⟩) Q) : T c arg3 arg4 arg5 arg6 arg7 arg8 arg9 arg10 arg11 arg12 arg13 arg14 ⟨xq, xk, xv, xo, qa, xm, acc, xl, p0, fill W 63 p1, ls0, ls1⟩ (.op (.store arg12 (Rect.unit (s := S2048x2048) off S256x256.size inb) w Finset.univ hx hm) k) Q := by
  subst ho hw
  have e := (fill_step W p1 7 7 (inb := inb)).trans (fill_last W p1)
  apply T_store12
  rw [← e] at h; exact h

theorem V13cz (W : Fin 8 → Vec F S8x256 .f32) {w : Vec F S8x256 .f32} {off} {inb} {hx} {hm} {k : PUnit → Prog (TpuEff nD τ sig (Elt F) Λ₀ .tc) α} (ho : off = ![0, 256 * (0 : Fin 8).val]) (hw : w = W 0)  (h : T c arg3 arg4 arg5 arg6 arg7 arg8 arg9 arg10 arg11 arg12 arg13 arg14 ⟨xq, xk, xv, xo, qa, xm, acc, xl, p0, p1, fillL W 1 ls0, ls1⟩ (k ⟨⟩) Q) : T c arg3 arg4 arg5 arg6 arg7 arg8 arg9 arg10 arg11 arg12 arg13 arg14 ⟨xq, xk, xv, xo, qa, xm, acc, xl, p0, p1, ls0, ls1⟩ (.op (.store arg13 (Rect.unit (s := S8x2048) off S8x256.size inb) w Finset.univ hx hm) k) Q := by
  subst ho hw
  have e := (fillL_step W ls0 0 (inb := inb)).trans (show _ = fillL W 1 ls0 from rfl)
  have e1 : fillL W (0 : Fin 8).val ls0 = ls0 := fillL_zero W ls0
  rw [e1] at e
  apply T_store13
  rw [e]; exact h

theorem V13c (g : Fin 8) (j : ℕ) {n : ℕ} {W : Fin 8 → Vec F S8x256 .f32} {w : Vec F S8x256 .f32} {off} {inb} {hx} {hm} {k : PUnit → Prog (TpuEff nD τ sig (Elt F) Λ₀ .tc) α} (ho : off = ![0, 256 * g.val]) (hw : w = W g)  (hn : g.val = n) (hj : n + 1 = j) (h : T c arg3 arg4 arg5 arg6 arg7 arg8 arg9 arg10 arg11 arg12 arg13 arg14 ⟨xq, xk, xv, xo, qa, xm, acc, xl, p0, p1, fillL W j ls0, ls1⟩ (k ⟨⟩) Q) : T c arg3 arg4 arg5 arg6 arg7 arg8 arg9 arg10 arg11 arg12 arg13 arg14 ⟨xq, xk, xv, xo, qa, xm, acc, xl, p0, p1, fillL W n ls0, ls1⟩ (.op (.store arg13 (Rect.unit (s := S8x2048) off S8x256.size inb) w Finset.univ hx hm) k) Q := by
  subst ho hw hn hj
  have e := fillL_step W ls0 g (inb := inb)
  apply T_store13
  rw [e]; exact h

theorem V13cl {W : Fin 8 → Vec F S8x256 .f32} {w : Vec F S8x256 .f32} {off} {inb} {hx} {hm} {k : PUnit → Prog (TpuEff nD τ sig (Elt F) Λ₀ .tc) α} (ho : off = ![0, 256 * (7 : Fin 8).val]) (hw : w = W 7)  (h : T c arg3 arg4 arg5 arg6 arg7 arg8 arg9 arg10 arg11 arg12 arg13 arg14 ⟨xq, xk, xv, xo, qa, xm, acc, xl, p0, p1, fullL W, ls1⟩ (k ⟨⟩) Q) : T c arg3 arg4 arg5 arg6 arg7 arg8 arg9 arg10 arg11 arg12 arg13 arg14 ⟨xq, xk, xv, xo, qa, xm, acc, xl, p0, p1, fillL W 7 ls0, ls1⟩ (.op (.store arg13 (Rect.unit (s := S8x2048) off S8x256.size inb) w Finset.univ hx hm) k) Q := by
  subst ho hw
  have e := (fillL_step W ls0 7 (inb := inb)).trans (fillL_last W ls0)
  apply T_store13
  rw [← e] at h; exact h

theorem V14cz (W : Fin 8 → Vec F S8x256 .f32) {w : Vec F S8x256 .f32} {off} {inb} {hx} {hm} {k : PUnit → Prog (TpuEff nD τ sig (Elt F) Λ₀ .tc) α} (ho : off = ![0, 256 * (0 : Fin 8).val]) (hw : w = W 0)  (h : T c arg3 arg4 arg5 arg6 arg7 arg8 arg9 arg10 arg11 arg12 arg13 arg14 ⟨xq, xk, xv, xo, qa, xm, acc, xl, p0, p1, ls0, fillL W 1 ls1⟩ (k ⟨⟩) Q) : T c arg3 arg4 arg5 arg6 arg7 arg8 arg9 arg10 arg11 arg12 arg13 arg14 ⟨xq, xk, xv, xo, qa, xm, acc, xl, p0, p1, ls0, ls1⟩ (.op (.store arg14 (Rect.unit (s := S8x2048) off S8x256.size inb) w Finset.univ hx hm) k) Q := by
  subst ho hw
  have e := (fillL_step W ls1 0 (inb := inb)).trans (show _ = fillL W 1 ls1 from rfl)
  have e1 : fillL W (0 : Fin 8).val ls1 = ls1 := fillL_zero W ls1
  rw [e1] at e
  apply T_store14
  rw [e]; exact h

theorem V14c (g : Fin 8) (j : ℕ) {n : ℕ} {W : Fin 8 → Vec F S8x256 .f32} {w : Vec F S8x256 .f32} {off} {inb} {hx} {hm} {k : PUnit → Prog (TpuEff nD τ sig (Elt F) Λ₀ .tc) α} (ho : off = ![0, 256 * g.val]) (hw : w = W g)  (hn : g.val = n) (hj : n + 1 = j) (h : T c arg3 arg4 arg5 arg6 arg7 arg8 arg9 arg10 arg11 arg12 arg13 arg14 ⟨xq, xk, xv, xo, qa, xm, acc, xl, p0, p1, ls0, fillL W j ls1⟩ (k ⟨⟩) Q) : T c arg3 arg4 arg5 arg6 arg7 arg8 arg9 arg10 arg11 arg12 arg13 arg14 ⟨xq, xk, xv, xo, qa, xm, acc, xl, p0, p1, ls0, fillL W n ls1⟩ (.op (.store arg14 (Rect.unit (s := S8x2048) off S8x256.size inb) w Finset.univ hx hm) k) Q := by
  subst ho hw hn hj
  have e := fillL_step W ls1 g (inb := inb)
  apply T_store14
  rw [e]; exact h

theorem V14cl {W : Fin 8 → Vec F S8x256 .f32} {w : Vec F S8x256 .f32} {off} {inb} {hx} {hm} {k : PUnit → Prog (TpuEff nD τ sig (Elt F) Λ₀ .tc) α} (ho : off = ![0, 256 * (7 : Fin 8).val]) (hw : w = W 7)  (h : T c arg3 arg4 arg5 arg6 arg7 arg8 arg9 arg10 arg11 arg12 arg13 arg14 ⟨xq, xk, xv, xo, qa, xm, acc, xl, p0, p1, ls0, fullL W⟩ (k ⟨⟩) Q) : T c arg3 arg4 arg5 arg6 arg7 arg8 arg9 arg10 arg11 arg12 arg13 arg14 ⟨xq, xk, xv, xo, qa, xm, acc, xl, p0, p1, ls0, fillL W 7 ls1⟩ (.op (.store arg14 (Rect.unit (s := S8x2048) off S8x256.size inb) w Finset.univ hx hm) k) Q := by
  subst ho hw
  have e := (fillL_step W ls1 7 (inb := inb)).trans (fillL_last W ls1)
  apply T_store14
  rw [← e] at h; exact h

theorem V9cz (W : Fin 8 → Vec F S128x256 .f32) {w : Vec F S128x256 .f32} {off} {inb} {hx} {hm} {k : PUnit → Prog (TpuEff nD τ sig (Elt F) Λ₀ .tc) α} (ho : off = ![0, 256 * (0 : Fin 8).val]) (hw : w = W 0)  (h : T c arg3 arg4 arg5 arg6 arg7 arg8 arg9 arg10 arg11 arg12 arg13 arg14 ⟨xq, xk, xv, xo, qa, xm, fillA W 1 acc, xl, p0, p1, ls0, ls1⟩ (k ⟨⟩) Q) : T c arg3 arg4 arg5 arg6 arg7 arg8 arg9 arg10 arg11 arg12 arg13 arg14 ⟨xq, xk, xv, xo, qa, xm, acc, xl, p0, p1, ls0, ls1⟩ (.op (.store arg9 (Rect.unit (s := S128x2048) off S128x256.size inb) w Finset.univ hx hm) k) Q := by
  subst ho hw
  have e := (fillA_step W acc 0 (inb := inb)).trans (show _ = fillA W 1 acc from rfl)
  have e1 : fillA W (0 : Fin 8).val acc = acc := fillA_zero W acc
  rw [e1] at e
  apply T_store9
  rw [e]; exact h

theorem V9c (g : Fin 8) (j : ℕ) {n : ℕ} {W : Fin 8 → Vec F S128x256 .f32} {w : Vec F S128x256 .f32} {off} {inb} {hx} {hm} {k : PUnit → Prog (TpuEff nD τ sig (Elt F) Λ₀ .tc) α} (ho : off = ![0, 256 * g.val]) (hw : w = W g)  (hn : g.val = n) (hj : n + 1 = j) (h : T c arg3 arg4 arg5 arg6 arg7 arg8 arg9 arg10 arg11 arg12 arg13 arg14 ⟨xq, xk, xv, xo, qa, xm, fillA W j acc, xl, p0, p1, ls0, ls1⟩ (k ⟨⟩) Q) : T c arg3 arg4 arg5 arg6 arg7 arg8 arg9 arg10 arg11 arg12 arg13 arg14 ⟨xq, xk, xv, xo, qa, xm, fillA W n acc, xl, p0, p1, ls0, ls1⟩ (.op (.store arg9 (Rect.unit (s := S128x2048) off S128x256.size inb) w Finset.univ hx hm) k) Q := by
  subst ho hw hn hj
  have e := fillA_step W acc g (inb := inb)
  apply T_store9
  rw [e]; exact h

theorem V9cl {W : Fin 8 → Vec F S128x256 .f32} {w : Vec F S128x256 .f32} {off} {inb} {hx} {hm} {k : PUnit → Prog (TpuEff nD τ sig (Elt F) Λ₀ .tc) α} (ho : off = ![0, 256 * (7 : Fin 8).val]) (hw : w = W 7)  (h : T c arg3 arg4 arg5 arg6 arg7 arg8 arg9 arg10 arg11 arg12 arg13 arg14 ⟨xq, xk, xv, xo, qa, xm, fullA W, xl, p0, p1, ls0, ls1⟩ (k ⟨⟩) Q) : T c arg3 arg4 arg5 arg6 arg7 arg8 arg9 arg10 arg11 arg12 arg13 arg14 ⟨xq, xk, xv, xo, qa, xm, fillA W 7 acc, xl, p0, p1, ls0, ls1⟩ (.op (.store arg9 (Rect.unit (s := S128x2048) off S128x256.size inb) w Finset.univ hx hm) k) Q := by
  subst ho hw
  have e := (fillA_step W acc 7 (inb := inb)).trans (fillA_last W acc)
  apply T_store9
  rw [← e] at h; exact h

theorem T_ret {s : St F} {a : α} (h : Q a s) : T c arg3 arg4 arg5 arg6 arg7 arg8 arg9 arg10 arg11 arg12 arg13 arg14 s (.ret a) Q := by
  unfold T
  rw [wp_ret]
  iintro H
  imodintro
  iexists s
  isplitr
  · ipureintro; exact h
  · iexact H

/-- A branch: the program after it is run once, from any contents of which `J` holds. -/
theorem T_if {s : St F} {C : Prop} [Decidable C] {p R : Prog (TpuEff nD τ sig (Elt F) Λ₀ .tc) α} (J : St F → Prop) (hs : J s)
    (hk : ∀ s', J s' → T c arg3 arg4 arg5 arg6 arg7 arg8 arg9 arg10 arg11 arg12 arg13 arg14 s' R Q)
    (ht : (∀ s', J s' → T c arg3 arg4 arg5 arg6 arg7 arg8 arg9 arg10 arg11 arg12 arg13 arg14 s' R Q) → T c arg3 arg4 arg5 arg6 arg7 arg8 arg9 arg10 arg11 arg12 arg13 arg14 s p Q) : T c arg3 arg4 arg5 arg6 arg7 arg8 arg9 arg10 arg11 arg12 arg13 arg14 s (if C then p else R) Q := by
  split
  · exact ht hk
  · exact hk s hs

/-- The same branch followed by a program. -/
theorem T_ifb {β : Type} {s : St F} {C : Prop} [Decidable C] {p R : Prog (TpuEff nD τ sig (Elt F) Λ₀ .tc) β} {k : β → Prog (TpuEff nD τ sig (Elt F) Λ₀ .tc) α} (J : St F → Prop) (hs : J s)
    (hk : ∀ s', J s' → T c arg3 arg4 arg5 arg6 arg7 arg8 arg9 arg10 arg11 arg12 arg13 arg14 s' (R >>= k) Q)
    (ht : (∀ s', J s' → T c arg3 arg4 arg5 arg6 arg7 arg8 arg9 arg10 arg11 arg12 arg13 arg14 s' (R >>= k) Q) → T c arg3 arg4 arg5 arg6 arg7 arg8 arg9 arg10 arg11 arg12 arg13 arg14 s (p >>= k) Q) : T c arg3 arg4 arg5 arg6 arg7 arg8 arg9 arg10 arg11 arg12 arg13 arg14 s ((if C then p else R) >>= k) Q := by
  split
  · exact ht hk
  · exact hk s hs

theorem T_assoc {β γ : Type} {s : St F} {p : Prog (TpuEff nD τ sig (Elt F) Λ₀ .tc) β} {k : β → Prog (TpuEff nD τ sig (Elt F) Λ₀ .tc) γ} {k' : γ → Prog (TpuEff nD τ sig (Elt F) Λ₀ .tc) α}
    (h : T c arg3 arg4 arg5 arg6 arg7 arg8 arg9 arg10 arg11 arg12 arg13 arg14 s (p >>= fun x => k x >>= k') Q) : T c arg3 arg4 arg5 arg6 arg7 arg8 arg9 arg10 arg11 arg12 arg13 arg14 s ((p >>= k) >>= k') Q := by
  rw [bind_assoc]; exact h

/-- A loop, by what holds of the contents before each trip. -/
theorem T_for {s : St F} {lb ub sp : BitVec 32} {hok} {body : Fin (Scf.trips lb ub sp) → PUnit → Prog (TpuEff nD τ sig (Elt F) Λ₀ .tc) PUnit} {kk : PUnit → Prog (TpuEff nD τ sig (Elt F) Λ₀ .tc) α}
    (J : ℕ → St F → Prop) (hs : J 0 s)
    (hb : ∀ (t : Fin (Scf.trips lb ub sp)) (s : St F), J t.val s → T c arg3 arg4 arg5 arg6 arg7 arg8 arg9 arg10 arg11 arg12 arg13 arg14 s (body t ⟨⟩) (fun _ s' => J (t.val + 1) s'))
    (hk : ∀ s', J (Scf.trips lb ub sp) s' → T c arg3 arg4 arg5 arg6 arg7 arg8 arg9 arg10 arg11 arg12 arg13 arg14 s' (kk ⟨⟩) Q) : T c arg3 arg4 arg5 arg6 arg7 arg8 arg9 arg10 arg11 arg12 arg13 arg14 s (Scf.for lb ub sp hok ⟨⟩ body >>= kk) Q := by
  unfold T at hb hk ⊢
  have key := Scf.wp_for_bind frame (wpE defs₀ Variants.none (c : Thread nD τ) none) Set.univ lb ub sp hok (⟨⟩ : PUnit) body
    (fun n _ => iprop(∃ s', ⌜J n s'⌝ ∗ own c arg3 arg4 arg5 arg6 arg7 arg8 arg9 arg10 arg11 arg12 arg13 arg14 s'))
    (fun t a => by
      iintro ⟨%s', %hJ, H⟩
      iapply (hb t s' hJ)
      iexact H) (kk := kk) (Q := fun a => iprop(∃ s', ⌜Q a s'⌝ ∗ own c arg3 arg4 arg5 arg6 arg7 arg8 arg9 arg10 arg11 arg12 arg13 arg14 s'))
  iintro H
  iapply key $$ [H]
  · iexists s
    isplitr
    · ipureintro; exact hs
    · iexact H
  · iintro %a ⟨%s', %hJ, H⟩
    iapply (hk s' hJ)
    iexact H

end Rules

end Cert.KernelIdeal.Attn

end
-- ==== Proof.KI.Body.lean ====
module

public import proofs.«01_k».proof.Proof.KI.Model

@[expose] public section

noncomputable section

namespace Cert.KernelIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

variable {c : Dev nD}
variable {arg3 : Memref sig .tc .vmem S1x1x256x2048 .bf16} {harg3 : arg3.IsWhole}
variable {arg4 : Memref sig .tc .vmem S1x1x16384x256 .bf16} {harg4 : arg4.IsWhole}
variable {arg5 : Memref sig .tc .vmem S1x1x128x16384 .bf16} {harg5 : arg5.IsWhole}
variable {arg6 : Memref sig .tc .vmem S1x2048x128 .bf16} {harg6 : arg6.IsWhole}
variable {arg7 : Memref sig .tc .vmem S256x2048 .bf16} {harg7 : arg7.IsWhole}
variable {arg8 : Memref sig .tc .vmem S1x2048 .f32} {harg8 : arg8.IsWhole}
variable {arg9 : Memref sig .tc .vmem S128x2048 .f32} {harg9 : arg9.IsWhole}
variable {arg10 : Memref sig .tc .vmem S8x2048 .f32} {harg10 : arg10.IsWhole}
variable {arg11 : Memref sig .tc .vmem S2048x2048 .bf16} {harg11 : arg11.IsWhole}
variable {arg12 : Memref sig .tc .vmem S2048x2048 .bf16} {harg12 : arg12.IsWhole}
variable {arg13 : Memref sig .tc .vmem S8x2048 .f32} {harg13 : arg13.IsWhole}
variable {arg14 : Memref sig .tc .vmem S8x2048 .f32} {harg14 : arg14.IsWhole}
variable {xq : Vec F S1x1x256x2048 .bf16} {xk : Vec F S1x1x16384x256 .bf16} {xv : Vec F S1x1x128x16384 .bf16} {xo : Vec F S1x2048x128 .bf16} {qa : Vec F S256x2048 .bf16} {xm : Vec F S1x2048 .f32} {acc : Vec F S128x2048 .f32} {xl : Vec F S8x2048 .f32} {p0 : Vec F S2048x2048 .bf16} {p1 : Vec F S2048x2048 .bf16} {ls0 : Vec F S8x2048 .f32} {ls1 : Vec F S8x2048 .f32}

/-- What holds of the augmented queries, the stabiliser, the accumulator and the summed weights after `n` of the eight
    chunks of keys, and is kept by each of the body's steps. -/
structure Inv (xq : Vec F S1x1x256x2048 .bf16) (xk : Vec F S1x1x16384x256 .bf16) (xv : Vec F S1x1x128x16384 .bf16) (I : ℕ → Vec F S256x2048 .bf16 → Vec F S1x2048 .f32 → Vec F S128x2048 .f32 → Vec F S8x2048 .f32 → Prop) : Prop where
  init : I 0 (shapeCast S256x2048 (shapeCast S256x2048 xq shapeCasts_S1x1x256x2048_S256x2048 : Vec F S256x2048 .bf16) shapeCasts_S256x2048_S256x2048) (shapeCast S1x2048 (broadcast S1x2048 (Scalar.ofBits .f32 0x00000000#32 : F .f32)) shapeCasts_S1x2048_S1x2048) (shapeCast S128x2048 (broadcast S128x2048 (Scalar.ofBits .f32 0x00000000#32 : F .f32)) shapeCasts_S128x2048_S128x2048) (shapeCast S8x2048 (broadcast S8x2048 (Scalar.ofBits .f32 0x00000000#32 : F .f32)) shapeCasts_S8x2048_S8x2048)
  first : ∀ qa m acc l, I 0 qa m acc l → I 0 (setRows qa (stabRows (newM m (mA xk qa (cI 0))))) (shapeCast S1x2048 (newM m (mA xk qa (cI 0))) shapeCasts_S1x2048_S1x2048) acc l
  rescale : ∀ n qa m acc l, n < 8 → I n qa m acc l → I n (setRows qa (stabRows (newM m (up (mA xk qa (cI n)))))) (shapeCast S1x2048 (newM m (up (mA xk qa (cI n)))) shapeCasts_S1x2048_S1x2048) (shapeCast S128x2048 (mulf acc (broadcastTo S128x2048 (shrink m (newM m (up (mA xk qa (cI n))))) broadcasts_S1x2048_S128x2048)) shapeCasts_S128x2048_S128x2048) (shapeCast S8x2048 (mulf l (broadcastTo S8x2048 (shrink m (newM m (up (mA xk qa (cI n))))) broadcasts_S1x2048_S8x2048)) shapeCasts_S8x2048_S8x2048)
  add : ∀ n qa m acc l, n < 8 → I n qa m acc l → I (n + 1) qa m (fullA (aT xk xv qa acc (cI n))) (shapeCast S8x2048 (addf l (fullL (lT xk qa (cI n)))) shapeCasts_S8x2048_S8x2048)

theorem off3 : ∀ (t : Fin k0_t1_loop.trips) (s : Fin 8), k0_off3 t (BitVec.ofNat 32 (256 * s.val)) = ![0, 0, 0, 2048 * (cI (2 * t.val)).val + 256 * s.val] := by decide +kernel

theorem off4 : ∀ (t : Fin k0_t1_loop.trips) (s : Fin 8), k0_off4 t (BitVec.ofNat 32 (256 * s.val)) = ![0, 0, 2048 * (cI (2 * t.val + 1)).val + 256 * s.val, 0] := by decide +kernel

theorem off5 : ∀ (t : Fin k0_t1_loop.trips) (s : Fin 8), k0_off5 t (BitVec.ofNat 32 (256 * s.val)) = ![0, 0, 2048 * (cI (2 * t.val + 1)).val + 256 * s.val, 0] := by decide +kernel

theorem off6 : ∀ (t : Fin k0_t1_loop.trips) (s : Fin 8), k0_off6 t (BitVec.ofNat 32 (256 * s.val)) = ![0, 0, 0, 2048 * (cI (2 * t.val + 1)).val + 256 * s.val] := by decide +kernel

theorem off7 : ∀ (t : Fin k0_t1_loop.trips) (s : Fin 8), k0_off7 t (BitVec.ofNat 32 (256 * s.val)) = ![0, 0, 2048 * (cI (2 * t.val + 2)).val + 256 * s.val, 0] := by decide +kernel

theorem off8 : ∀ (t : Fin k0_t1_loop.trips) (s : Fin 8), k0_off8 t (BitVec.ofNat 32 (256 * s.val)) = ![0, 0, 2048 * (cI (2 * t.val + 2)).val + 256 * s.val, 0] := by decide +kernel

set_option maxHeartbeats 4000000 in
set_option maxRecDepth 100000 in
/-- The body, from any contents, leaves its three inputs as they were and its output block at the finished quotient of
    an accumulator and summed weights of which `I 8` holds. -/
theorem body_T {I : ℕ → Vec F S256x2048 .bf16 → Vec F S1x2048 .f32 → Vec F S128x2048 .f32 → Vec F S8x2048 .f32 → Prop} (hI : Inv xq xk xv I) {i : grid0.Coords} :
    T c arg3 arg4 arg5 arg6 arg7 arg8 arg9 arg10 arg11 arg12 arg13 arg14 ⟨xq, xk, xv, xo, qa, xm, acc, xl, p0, p1, ls0, ls1⟩ (cc0_mla_attn (F := F) i arg3 harg3 arg4 harg4 arg5 harg5 arg6 harg6 arg7 harg7 arg8 harg8 arg9 harg9 arg10 harg10 arg11 harg11 arg12 harg12 arg13 harg13 arg14 harg14) (fun _ (s : St F) => ∃ qa m acc l, I 8 qa m acc l ∧ s.xq = xq ∧ s.xk = xk ∧ s.xv = xv ∧ s.xo = finish acc l) := by
  have h := hI.init
  refine W3 ?_
  refine T_load7 ?_
  refine V7 (shapeCast S256x2048 (shapeCast S256x2048 xq shapeCasts_S1x1x256x2048_S256x2048 : Vec F S256x2048 .bf16) shapeCasts_S256x2048_S256x2048) rfl ?_
  refine W8 ?_
  refine V8 (shapeCast S1x2048 (broadcast S1x2048 (Scalar.ofBits .f32 0x00000000#32 : F .f32)) shapeCasts_S1x2048_S1x2048) rfl ?_
  refine W9 ?_
  refine V9 (shapeCast S128x2048 (broadcast S128x2048 (Scalar.ofBits .f32 0x00000000#32 : F .f32)) shapeCasts_S128x2048_S128x2048) rfl ?_
  refine W10 ?_
  refine V10 (shapeCast S8x2048 (broadcast S8x2048 (Scalar.ofBits .f32 0x00000000#32 : F .f32)) shapeCasts_S8x2048_S8x2048) rfl ?_
  generalize (shapeCast S256x2048 (shapeCast S256x2048 xq shapeCasts_S1x1x256x2048_S256x2048 : Vec F S256x2048 .bf16) shapeCasts_S256x2048_S256x2048) = qa at h ⊢
  generalize (shapeCast S1x2048 (broadcast S1x2048 (Scalar.ofBits .f32 0x00000000#32 : F .f32)) shapeCasts_S1x2048_S1x2048) = xm at h ⊢
  generalize (shapeCast S128x2048 (broadcast S128x2048 (Scalar.ofBits .f32 0x00000000#32 : F .f32)) shapeCasts_S128x2048_S128x2048) = acc at h ⊢
  generalize (shapeCast S8x2048 (broadcast S8x2048 (Scalar.ofBits .f32 0x00000000#32 : F .f32)) shapeCasts_S8x2048_S8x2048) = xl at h ⊢
  refine R4 (cI 0) 0 (rfl) ?_
  refine R7 0 rfl ?_
  refine T_load11 ?_
  refine V11z (pT xk qa (cI 0)) rfl rfl ?_
  refine R4 (cI 0) 1 (rfl) ?_
  refine R7 0 rfl ?_
  refine T_load11 ?_
  refine V11 1 0 2 rfl rfl rfl rfl ?_
  refine R4 (cI 0) 2 (rfl) ?_
  refine R7 0 rfl ?_
  refine T_load11 ?_
  refine V11 2 0 3 rfl rfl rfl rfl ?_
  refine R4 (cI 0) 3 (rfl) ?_
  refine R7 0 rfl ?_
  refine T_load11 ?_
  refine V11 3 0 4 rfl rfl rfl rfl ?_
  refine R4 (cI 0) 4 (rfl) ?_
  refine R7 0 rfl ?_
  refine T_load11 ?_
  refine V11 4 0 5 rfl rfl rfl rfl ?_
  refine R4 (cI 0) 5 (rfl) ?_
  refine R7 0 rfl ?_
  refine T_load11 ?_
  refine V11 5 0 6 rfl rfl rfl rfl ?_
  refine R4 (cI 0) 6 (rfl) ?_
  refine R7 0 rfl ?_
  refine T_load11 ?_
  refine V11 6 0 7 rfl rfl rfl rfl ?_
  refine R4 (cI 0) 7 (rfl) ?_
  refine R7 0 rfl ?_
  refine T_load11 ?_
  refine V11 7 0 8 rfl rfl rfl rfl ?_
  refine T_load13 ?_
  refine V13cz (lT xk qa (cI 0)) rfl rfl ?_
  refine R4 (cI 0) 0 (rfl) ?_
  refine R7 1 rfl ?_
  refine T_load11 ?_
  refine V11 0 1 9 rfl rfl rfl rfl ?_
  refine R4 (cI 0) 1 (rfl) ?_
  refine R7 1 rfl ?_
  refine T_load11 ?_
  refine V11 1 1 10 rfl rfl rfl rfl ?_
  refine R4 (cI 0) 2 (rfl) ?_
  refine R7 1 rfl ?_
  refine T_load11 ?_
  refine V11 2 1 11 rfl rfl rfl rfl ?_
  refine R4 (cI 0) 3 (rfl) ?_
  refine R7 1 rfl ?_
  refine T_load11 ?_
  refine V11 3 1 12 rfl rfl rfl rfl ?_
  refine R4 (cI 0) 4 (rfl) ?_
  refine R7 1 rfl ?_
  refine T_load11 ?_
  refine V11 4 1 13 rfl rfl rfl rfl ?_
  refine R4 (cI 0) 5 (rfl) ?_
  refine R7 1 rfl ?_
  refine T_load11 ?_
  refine V11 5 1 14 rfl rfl rfl rfl ?_
  refine R4 (cI 0) 6 (rfl) ?_
  refine R7 1 rfl ?_
  refine T_load11 ?_
  refine V11 6 1 15 rfl rfl rfl rfl ?_
  refine R4 (cI 0) 7 (rfl) ?_
  refine R7 1 rfl ?_
  refine T_load11 ?_
  refine V11 7 1 16 rfl rfl rfl rfl ?_
  refine T_load13 ?_
  refine V13c 1 2 rfl rfl rfl rfl ?_
  refine R4 (cI 0) 0 (rfl) ?_
  refine R7 2 rfl ?_
  refine T_load11 ?_
  refine V11 0 2 17 rfl rfl rfl rfl ?_
  refine R4 (cI 0) 1 (rfl) ?_
  refine R7 2 rfl ?_
  refine T_load11 ?_
  refine V11 1 2 18 rfl rfl rfl rfl ?_
  refine R4 (cI 0) 2 (rfl) ?_
  refine R7 2 rfl ?_
  refine T_load11 ?_
  refine V11 2 2 19 rfl rfl rfl rfl ?_
  refine R4 (cI 0) 3 (rfl) ?_
  refine R7 2 rfl ?_
  refine T_load11 ?_
  refine V11 3 2 20 rfl rfl rfl rfl ?_
  refine R4 (cI 0) 4 (rfl) ?_
  refine R7 2 rfl ?_
  refine T_load11 ?_
  refine V11 4 2 21 rfl rfl rfl rfl ?_
  refine R4 (cI 0) 5 (rfl) ?_
  refine R7 2 rfl ?_
  refine T_load11 ?_
  refine V11 5 2 22 rfl rfl rfl rfl ?_
  refine R4 (cI 0) 6 (rfl) ?_
  refine R7 2 rfl ?_
  refine T_load11 ?_
  refine V11 6 2 23 rfl rfl rfl rfl ?_
  refine R4 (cI 0) 7 (rfl) ?_
  refine R7 2 rfl ?_
  refine T_load11 ?_
  refine V11 7 2 24 rfl rfl rfl rfl ?_
  refine T_load13 ?_
  refine V13c 2 3 rfl rfl rfl rfl ?_
  refine R4 (cI 0) 0 (rfl) ?_
  refine R7 3 rfl ?_
  refine T_load11 ?_
  refine V11 0 3 25 rfl rfl rfl rfl ?_
  refine R4 (cI 0) 1 (rfl) ?_
  refine R7 3 rfl ?_
  refine T_load11 ?_
  refine V11 1 3 26 rfl rfl rfl rfl ?_
  refine R4 (cI 0) 2 (rfl) ?_
  refine R7 3 rfl ?_
  refine T_load11 ?_
  refine V11 2 3 27 rfl rfl rfl rfl ?_
  refine R4 (cI 0) 3 (rfl) ?_
  refine R7 3 rfl ?_
  refine T_load11 ?_
  refine V11 3 3 28 rfl rfl rfl rfl ?_
  refine R4 (cI 0) 4 (rfl) ?_
  refine R7 3 rfl ?_
  refine T_load11 ?_
  refine V11 4 3 29 rfl rfl rfl rfl ?_
  refine R4 (cI 0) 5 (rfl) ?_
  refine R7 3 rfl ?_
  refine T_load11 ?_
  refine V11 5 3 30 rfl rfl rfl rfl ?_
  refine R4 (cI 0) 6 (rfl) ?_
  refine R7 3 rfl ?_
  refine T_load11 ?_
  refine V11 6 3 31 rfl rfl rfl rfl ?_
  refine R4 (cI 0) 7 (rfl) ?_
  refine R7 3 rfl ?_
  refine T_load11 ?_
  refine V11 7 3 32 rfl rfl rfl rfl ?_
  refine T_load13 ?_
  refine V13c 3 4 rfl rfl rfl rfl ?_
  refine R4 (cI 0) 0 (rfl) ?_
  refine R7 4 rfl ?_
  refine T_load11 ?_
  refine V11 0 4 33 rfl rfl rfl rfl ?_
  refine R4 (cI 0) 1 (rfl) ?_
  refine R7 4 rfl ?_
  refine T_load11 ?_
  refine V11 1 4 34 rfl rfl rfl rfl ?_
  refine R4 (cI 0) 2 (rfl) ?_
  refine R7 4 rfl ?_
  refine T_load11 ?_
  refine V11 2 4 35 rfl rfl rfl rfl ?_
  refine R4 (cI 0) 3 (rfl) ?_
  refine R7 4 rfl ?_
  refine T_load11 ?_
  refine V11 3 4 36 rfl rfl rfl rfl ?_
  refine R4 (cI 0) 4 (rfl) ?_
  refine R7 4 rfl ?_
  refine T_load11 ?_
  refine V11 4 4 37 rfl rfl rfl rfl ?_
  refine R4 (cI 0) 5 (rfl) ?_
  refine R7 4 rfl ?_
  refine T_load11 ?_
  refine V11 5 4 38 rfl rfl rfl rfl ?_
  refine R4 (cI 0) 6 (rfl) ?_
  refine R7 4 rfl ?_
  refine T_load11 ?_
  refine V11 6 4 39 rfl rfl rfl rfl ?_
  refine R4 (cI 0) 7 (rfl) ?_
  refine R7 4 rfl ?_
  refine T_load11 ?_
  refine V11 7 4 40 rfl rfl rfl rfl ?_
  refine T_load13 ?_
  refine V13c 4 5 rfl rfl rfl rfl ?_
  refine R4 (cI 0) 0 (rfl) ?_
  refine R7 5 rfl ?_
  refine T_load11 ?_
  refine V11 0 5 41 rfl rfl rfl rfl ?_
  refine R4 (cI 0) 1 (rfl) ?_
  refine R7 5 rfl ?_
  refine T_load11 ?_
  refine V11 1 5 42 rfl rfl rfl rfl ?_
  refine R4 (cI 0) 2 (rfl) ?_
  refine R7 5 rfl ?_
  refine T_load11 ?_
  refine V11 2 5 43 rfl rfl rfl rfl ?_
  refine R4 (cI 0) 3 (rfl) ?_
  refine R7 5 rfl ?_
  refine T_load11 ?_
  refine V11 3 5 44 rfl rfl rfl rfl ?_
  refine R4 (cI 0) 4 (rfl) ?_
  refine R7 5 rfl ?_
  refine T_load11 ?_
  refine V11 4 5 45 rfl rfl rfl rfl ?_
  refine R4 (cI 0) 5 (rfl) ?_
  refine R7 5 rfl ?_
  refine T_load11 ?_
  refine V11 5 5 46 rfl rfl rfl rfl ?_
  refine R4 (cI 0) 6 (rfl) ?_
  refine R7 5 rfl ?_
  refine T_load11 ?_
  refine V11 6 5 47 rfl rfl rfl rfl ?_
  refine R4 (cI 0) 7 (rfl) ?_
  refine R7 5 rfl ?_
  refine T_load11 ?_
  refine V11 7 5 48 rfl rfl rfl rfl ?_
  refine T_load13 ?_
  refine V13c 5 6 rfl rfl rfl rfl ?_
  refine R4 (cI 0) 0 (rfl) ?_
  refine R7 6 rfl ?_
  refine T_load11 ?_
  refine V11 0 6 49 rfl rfl rfl rfl ?_
  refine R4 (cI 0) 1 (rfl) ?_
  refine R7 6 rfl ?_
  refine T_load11 ?_
  refine V11 1 6 50 rfl rfl rfl rfl ?_
  refine R4 (cI 0) 2 (rfl) ?_
  refine R7 6 rfl ?_
  refine T_load11 ?_
  refine V11 2 6 51 rfl rfl rfl rfl ?_
  refine R4 (cI 0) 3 (rfl) ?_
  refine R7 6 rfl ?_
  refine T_load11 ?_
  refine V11 3 6 52 rfl rfl rfl rfl ?_
  refine R4 (cI 0) 4 (rfl) ?_
  refine R7 6 rfl ?_
  refine T_load11 ?_
  refine V11 4 6 53 rfl rfl rfl rfl ?_
  refine R4 (cI 0) 5 (rfl) ?_
  refine R7 6 rfl ?_
  refine T_load11 ?_
  refine V11 5 6 54 rfl rfl rfl rfl ?_
  refine R4 (cI 0) 6 (rfl) ?_
  refine R7 6 rfl ?_
  refine T_load11 ?_
  refine V11 6 6 55 rfl rfl rfl rfl ?_
  refine R4 (cI 0) 7 (rfl) ?_
  refine R7 6 rfl ?_
  refine T_load11 ?_
  refine V11 7 6 56 rfl rfl rfl rfl ?_
  refine T_load13 ?_
  refine V13c 6 7 rfl rfl rfl rfl ?_
  refine R4 (cI 0) 0 (rfl) ?_
  refine R7 7 rfl ?_
  refine T_load11 ?_
  refine V11 0 7 57 rfl rfl rfl rfl ?_
  refine R4 (cI 0) 1 (rfl) ?_
  refine R7 7 rfl ?_
  refine T_load11 ?_
  refine V11 1 7 58 rfl rfl rfl rfl ?_
  refine R4 (cI 0) 2 (rfl) ?_
  refine R7 7 rfl ?_
  refine T_load11 ?_
  refine V11 2 7 59 rfl rfl rfl rfl ?_
  refine R4 (cI 0) 3 (rfl) ?_
  refine R7 7 rfl ?_
  refine T_load11 ?_
  refine V11 3 7 60 rfl rfl rfl rfl ?_
  refine R4 (cI 0) 4 (rfl) ?_
  refine R7 7 rfl ?_
  refine T_load11 ?_
  refine V11 4 7 61 rfl rfl rfl rfl ?_
  refine R4 (cI 0) 5 (rfl) ?_
  refine R7 7 rfl ?_
  refine T_load11 ?_
  refine V11 5 7 62 rfl rfl rfl rfl ?_
  refine R4 (cI 0) 6 (rfl) ?_
  refine R7 7 rfl ?_
  refine T_load11 ?_
  refine V11 6 7 63 rfl rfl rfl rfl ?_
  refine R4 (cI 0) 7 (rfl) ?_
  refine R7 7 rfl ?_
  refine T_load11 ?_
  refine V11l rfl rfl ?_
  refine T_load13 ?_
  refine V13cl rfl rfl ?_
  refine T_assoc ?_
  refine T_ifb (fun s => ∃ (qa : Vec F S256x2048 .bf16) (xm : Vec F S1x2048 .f32) (acc : Vec F S128x2048 .f32) (xl : Vec F S8x2048 .f32) (p1 : Vec F S2048x2048 .bf16) (ls1 : Vec F S8x2048 .f32), s = ⟨xq, xk, xv, xo, qa, xm, acc, xl, full (pT xk qa (cI (0))), p1, fullL (lT xk qa (cI (0))), ls1⟩ ∧ I (0) qa xm acc xl) ⟨_, _, _, _, _, _, rfl, h⟩ ?_ ?_
  rotate_left
  · intro hR
    refine W8 ?_
    refine W8 ?_
    refine V8 (shapeCast S1x2048 (newM xm (mA xk qa (cI 0))) shapeCasts_S1x2048_S1x2048) rfl ?_
    refine T_load7 ?_
    refine V7rows (stabRows (newM xm (mA xk qa (cI 0)))) rfl ?_
    refine R4 (cI (0)) 0 (rfl) ?_
    refine R7 0 rfl ?_
    refine T_load11 ?_
    refine V11z (pT xk (setRows qa (stabRows (newM xm (mA xk qa (cI 0))))) (cI (0))) rfl rfl ?_
    refine R4 (cI (0)) 1 (rfl) ?_
    refine R7 0 rfl ?_
    refine T_load11 ?_
    refine V11 1 0 2 rfl rfl rfl rfl ?_
    refine R4 (cI (0)) 2 (rfl) ?_
    refine R7 0 rfl ?_
    refine T_load11 ?_
    refine V11 2 0 3 rfl rfl rfl rfl ?_
    refine R4 (cI (0)) 3 (rfl) ?_
    refine R7 0 rfl ?_
    refine T_load11 ?_
    refine V11 3 0 4 rfl rfl rfl rfl ?_
    refine R4 (cI (0)) 4 (rfl) ?_
    refine R7 0 rfl ?_
    refine T_load11 ?_
    refine V11 4 0 5 rfl rfl rfl rfl ?_
    refine R4 (cI (0)) 5 (rfl) ?_
    refine R7 0 rfl ?_
    refine T_load11 ?_
    refine V11 5 0 6 rfl rfl rfl rfl ?_
    refine R4 (cI (0)) 6 (rfl) ?_
    refine R7 0 rfl ?_
    refine T_load11 ?_
    refine V11 6 0 7 rfl rfl rfl rfl ?_
    refine R4 (cI (0)) 7 (rfl) ?_
    refine R7 0 rfl ?_
    refine T_load11 ?_
    refine V11 7 0 8 rfl rfl rfl rfl ?_
    refine T_load13 ?_
    refine V13cz (lT xk (setRows qa (stabRows (newM xm (mA xk qa (cI 0))))) (cI (0))) rfl rfl ?_
    refine R4 (cI (0)) 0 (rfl) ?_
    refine R7 1 rfl ?_
    refine T_load11 ?_
    refine V11 0 1 9 rfl rfl rfl rfl ?_
    refine R4 (cI (0)) 1 (rfl) ?_
    refine R7 1 rfl ?_
    refine T_load11 ?_
    refine V11 1 1 10 rfl rfl rfl rfl ?_
    refine R4 (cI (0)) 2 (rfl) ?_
    refine R7 1 rfl ?_
    refine T_load11 ?_
    refine V11 2 1 11 rfl rfl rfl rfl ?_
    refine R4 (cI (0)) 3 (rfl) ?_
    refine R7 1 rfl ?_
    refine T_load11 ?_
    refine V11 3 1 12 rfl rfl rfl rfl ?_
    refine R4 (cI (0)) 4 (rfl) ?_
    refine R7 1 rfl ?_
    refine T_load11 ?_
    refine V11 4 1 13 rfl rfl rfl rfl ?_
    refine R4 (cI (0)) 5 (rfl) ?_
    refine R7 1 rfl ?_
    refine T_load11 ?_
    refine V11 5 1 14 rfl rfl rfl rfl ?_
    refine R4 (cI (0)) 6 (rfl) ?_
    refine R7 1 rfl ?_
    refine T_load11 ?_
    refine V11 6 1 15 rfl rfl rfl rfl ?_
    refine R4 (cI (0)) 7 (rfl) ?_
    refine R7 1 rfl ?_
    refine T_load11 ?_
    refine V11 7 1 16 rfl rfl rfl rfl ?_
    refine T_load13 ?_
    refine V13c 1 2 rfl rfl rfl rfl ?_
    refine R4 (cI (0)) 0 (rfl) ?_
    refine R7 2 rfl ?_
    refine T_load11 ?_
    refine V11 0 2 17 rfl rfl rfl rfl ?_
    refine R4 (cI (0)) 1 (rfl) ?_
    refine R7 2 rfl ?_
    refine T_load11 ?_
    refine V11 1 2 18 rfl rfl rfl rfl ?_
    refine R4 (cI (0)) 2 (rfl) ?_
    refine R7 2 rfl ?_
    refine T_load11 ?_
    refine V11 2 2 19 rfl rfl rfl rfl ?_
    refine R4 (cI (0)) 3 (rfl) ?_
    refine R7 2 rfl ?_
    refine T_load11 ?_
    refine V11 3 2 20 rfl rfl rfl rfl ?_
    refine R4 (cI (0)) 4 (rfl) ?_
    refine R7 2 rfl ?_
    refine T_load11 ?_
    refine V11 4 2 21 rfl rfl rfl rfl ?_
    refine R4 (cI (0)) 5 (rfl) ?_
    refine R7 2 rfl ?_
    refine T_load11 ?_
    refine V11 5 2 22 rfl rfl rfl rfl ?_
    refine R4 (cI (0)) 6 (rfl) ?_
    refine R7 2 rfl ?_
    refine T_load11 ?_
    refine V11 6 2 23 rfl rfl rfl rfl ?_
    refine R4 (cI (0)) 7 (rfl) ?_
    refine R7 2 rfl ?_
    refine T_load11 ?_
    refine V11 7 2 24 rfl rfl rfl rfl ?_
    refine T_load13 ?_
    refine V13c 2 3 rfl rfl rfl rfl ?_
    refine R4 (cI (0)) 0 (rfl) ?_
    refine R7 3 rfl ?_
    refine T_load11 ?_
    refine V11 0 3 25 rfl rfl rfl rfl ?_
    refine R4 (cI (0)) 1 (rfl) ?_
    refine R7 3 rfl ?_
    refine T_load11 ?_
    refine V11 1 3 26 rfl rfl rfl rfl ?_
    refine R4 (cI (0)) 2 (rfl) ?_
    refine R7 3 rfl ?_
    refine T_load11 ?_
    refine V11 2 3 27 rfl rfl rfl rfl ?_
    refine R4 (cI (0)) 3 (rfl) ?_
    refine R7 3 rfl ?_
    refine T_load11 ?_
    refine V11 3 3 28 rfl rfl rfl rfl ?_
    refine R4 (cI (0)) 4 (rfl) ?_
    refine R7 3 rfl ?_
    refine T_load11 ?_
    refine V11 4 3 29 rfl rfl rfl rfl ?_
    refine R4 (cI (0)) 5 (rfl) ?_
    refine R7 3 rfl ?_
    refine T_load11 ?_
    refine V11 5 3 30 rfl rfl rfl rfl ?_
    refine R4 (cI (0)) 6 (rfl) ?_
    refine R7 3 rfl ?_
    refine T_load11 ?_
    refine V11 6 3 31 rfl rfl rfl rfl ?_
    refine R4 (cI (0)) 7 (rfl) ?_
    refine R7 3 rfl ?_
    refine T_load11 ?_
    refine V11 7 3 32 rfl rfl rfl rfl ?_
    refine T_load13 ?_
    refine V13c 3 4 rfl rfl rfl rfl ?_
    refine R4 (cI (0)) 0 (rfl) ?_
    refine R7 4 rfl ?_
    refine T_load11 ?_
    refine V11 0 4 33 rfl rfl rfl rfl ?_
    refine R4 (cI (0)) 1 (rfl) ?_
    refine R7 4 rfl ?_
    refine T_load11 ?_
    refine V11 1 4 34 rfl rfl rfl rfl ?_
    refine R4 (cI (0)) 2 (rfl) ?_
    refine R7 4 rfl ?_
    refine T_load11 ?_
    refine V11 2 4 35 rfl rfl rfl rfl ?_
    refine R4 (cI (0)) 3 (rfl) ?_
    refine R7 4 rfl ?_
    refine T_load11 ?_
    refine V11 3 4 36 rfl rfl rfl rfl ?_
    refine R4 (cI (0)) 4 (rfl) ?_
    refine R7 4 rfl ?_
    refine T_load11 ?_
    refine V11 4 4 37 rfl rfl rfl rfl ?_
    refine R4 (cI (0)) 5 (rfl) ?_
    refine R7 4 rfl ?_
    refine T_load11 ?_
    refine V11 5 4 38 rfl rfl rfl rfl ?_
    refine R4 (cI (0)) 6 (rfl) ?_
    refine R7 4 rfl ?_
    refine T_load11 ?_
    refine V11 6 4 39 rfl rfl rfl rfl ?_
    refine R4 (cI (0)) 7 (rfl) ?_
    refine R7 4 rfl ?_
    refine T_load11 ?_
    refine V11 7 4 40 rfl rfl rfl rfl ?_
    refine T_load13 ?_
    refine V13c 4 5 rfl rfl rfl rfl ?_
    refine R4 (cI (0)) 0 (rfl) ?_
    refine R7 5 rfl ?_
    refine T_load11 ?_
    refine V11 0 5 41 rfl rfl rfl rfl ?_
    refine R4 (cI (0)) 1 (rfl) ?_
    refine R7 5 rfl ?_
    refine T_load11 ?_
    refine V11 1 5 42 rfl rfl rfl rfl ?_
    refine R4 (cI (0)) 2 (rfl) ?_
    refine R7 5 rfl ?_
    refine T_load11 ?_
    refine V11 2 5 43 rfl rfl rfl rfl ?_
    refine R4 (cI (0)) 3 (rfl) ?_
    refine R7 5 rfl ?_
    refine T_load11 ?_
    refine V11 3 5 44 rfl rfl rfl rfl ?_
    refine R4 (cI (0)) 4 (rfl) ?_
    refine R7 5 rfl ?_
    refine T_load11 ?_
    refine V11 4 5 45 rfl rfl rfl rfl ?_
    refine R4 (cI (0)) 5 (rfl) ?_
    refine R7 5 rfl ?_
    refine T_load11 ?_
    refine V11 5 5 46 rfl rfl rfl rfl ?_
    refine R4 (cI (0)) 6 (rfl) ?_
    refine R7 5 rfl ?_
    refine T_load11 ?_
    refine V11 6 5 47 rfl rfl rfl rfl ?_
    refine R4 (cI (0)) 7 (rfl) ?_
    refine R7 5 rfl ?_
    refine T_load11 ?_
    refine V11 7 5 48 rfl rfl rfl rfl ?_
    refine T_load13 ?_
    refine V13c 5 6 rfl rfl rfl rfl ?_
    refine R4 (cI (0)) 0 (rfl) ?_
    refine R7 6 rfl ?_
    refine T_load11 ?_
    refine V11 0 6 49 rfl rfl rfl rfl ?_
    refine R4 (cI (0)) 1 (rfl) ?_
    refine R7 6 rfl ?_
    refine T_load11 ?_
    refine V11 1 6 50 rfl rfl rfl rfl ?_
    refine R4 (cI (0)) 2 (rfl) ?_
    refine R7 6 rfl ?_
    refine T_load11 ?_
    refine V11 2 6 51 rfl rfl rfl rfl ?_
    refine R4 (cI (0)) 3 (rfl) ?_
    refine R7 6 rfl ?_
    refine T_load11 ?_
    refine V11 3 6 52 rfl rfl rfl rfl ?_
    refine R4 (cI (0)) 4 (rfl) ?_
    refine R7 6 rfl ?_
    refine T_load11 ?_
    refine V11 4 6 53 rfl rfl rfl rfl ?_
    refine R4 (cI (0)) 5 (rfl) ?_
    refine R7 6 rfl ?_
    refine T_load11 ?_
    refine V11 5 6 54 rfl rfl rfl rfl ?_
    refine R4 (cI (0)) 6 (rfl) ?_
    refine R7 6 rfl ?_
    refine T_load11 ?_
    refine V11 6 6 55 rfl rfl rfl rfl ?_
    refine R4 (cI (0)) 7 (rfl) ?_
    refine R7 6 rfl ?_
    refine T_load11 ?_
    refine V11 7 6 56 rfl rfl rfl rfl ?_
    refine T_load13 ?_
    refine V13c 6 7 rfl rfl rfl rfl ?_
    refine R4 (cI (0)) 0 (rfl) ?_
    refine R7 7 rfl ?_
    refine T_load11 ?_
    refine V11 0 7 57 rfl rfl rfl rfl ?_
    refine R4 (cI (0)) 1 (rfl) ?_
    refine R7 7 rfl ?_
    refine T_load11 ?_
    refine V11 1 7 58 rfl rfl rfl rfl ?_
    refine R4 (cI (0)) 2 (rfl) ?_
    refine R7 7 rfl ?_
    refine T_load11 ?_
    refine V11 2 7 59 rfl rfl rfl rfl ?_
    refine R4 (cI (0)) 3 (rfl) ?_
    refine R7 7 rfl ?_
    refine T_load11 ?_
    refine V11 3 7 60 rfl rfl rfl rfl ?_
    refine R4 (cI (0)) 4 (rfl) ?_
    refine R7 7 rfl ?_
    refine T_load11 ?_
    refine V11 4 7 61 rfl rfl rfl rfl ?_
    refine R4 (cI (0)) 5 (rfl) ?_
    refine R7 7 rfl ?_
    refine T_load11 ?_
    refine V11 5 7 62 rfl rfl rfl rfl ?_
    refine R4 (cI (0)) 6 (rfl) ?_
    refine R7 7 rfl ?_
    refine T_load11 ?_
    refine V11 6 7 63 rfl rfl rfl rfl ?_
    refine R4 (cI (0)) 7 (rfl) ?_
    refine R7 7 rfl ?_
    refine T_load11 ?_
    refine V11l rfl rfl ?_
    refine T_load13 ?_
    refine V13cl rfl rfl ?_
    exact hR _ ⟨_, _, _, _, _, _, rfl, hI.first _ _ _ _ h⟩
  rintro s ⟨qa, xm, acc, xl, p1, ls1, rfl, h⟩
  refine T_assoc ?_
  refine T_for (fun n s => ∃ (qa : Vec F S256x2048 .bf16) (xm : Vec F S1x2048 .f32) (acc : Vec F S128x2048 .f32) (xl : Vec F S8x2048 .f32) (p1 : Vec F S2048x2048 .bf16) (ls1 : Vec F S8x2048 .f32), s = ⟨xq, xk, xv, xo, qa, xm, acc, xl, full (pT xk qa (cI (2 * n))), p1, fullL (lT xk qa (cI (2 * n))), ls1⟩ ∧ I (2 * n) qa xm acc xl) ⟨_, _, _, _, _, _, rfl, h⟩ ?_ ?_
  · intro t
    have ht : t.val < 3 := t.isLt
    rintro s ⟨qa, xm, acc, xl, p1, ls1, rfl, h⟩
    refine R5 (cI (2 * t.val)) 0 (off3 t 0) ?_
    refine R11 0 0 rfl ?_
    refine R5 (cI (2 * t.val)) 1 (off3 t 1) ?_
    refine R11 1 0 rfl ?_
    refine R5 (cI (2 * t.val)) 2 (off3 t 2) ?_
    refine R11 2 0 rfl ?_
    refine R5 (cI (2 * t.val)) 3 (off3 t 3) ?_
    refine R11 3 0 rfl ?_
    refine R5 (cI (2 * t.val)) 4 (off3 t 4) ?_
    refine R11 4 0 rfl ?_
    refine R5 (cI (2 * t.val)) 5 (off3 t 5) ?_
    refine R11 5 0 rfl ?_
    refine R5 (cI (2 * t.val)) 6 (off3 t 6) ?_
    refine R11 6 0 rfl ?_
    refine R5 (cI (2 * t.val)) 7 (off3 t 7) ?_
    refine R11 7 0 rfl ?_
    refine R9z rfl ?_
    refine T_load9 ?_
    refine V9cz (aT xk xv qa acc (cI (2 * t.val))) rfl rfl ?_
    refine R5 (cI (2 * t.val)) 0 (off3 t 0) ?_
    refine R11 0 1 rfl ?_
    refine R5 (cI (2 * t.val)) 1 (off3 t 1) ?_
    refine R11 1 1 rfl ?_
    refine R5 (cI (2 * t.val)) 2 (off3 t 2) ?_
    refine R11 2 1 rfl ?_
    refine R5 (cI (2 * t.val)) 3 (off3 t 3) ?_
    refine R11 3 1 rfl ?_
    refine R5 (cI (2 * t.val)) 4 (off3 t 4) ?_
    refine R11 4 1 rfl ?_
    refine R5 (cI (2 * t.val)) 5 (off3 t 5) ?_
    refine R11 5 1 rfl ?_
    refine R5 (cI (2 * t.val)) 6 (off3 t 6) ?_
    refine R11 6 1 rfl ?_
    refine R5 (cI (2 * t.val)) 7 (off3 t 7) ?_
    refine R11 7 1 rfl ?_
    refine R9 1 rfl ?_
    refine T_load9 ?_
    refine V9c 1 2 rfl rfl rfl rfl ?_
    refine R5 (cI (2 * t.val)) 0 (off3 t 0) ?_
    refine R11 0 2 rfl ?_
    refine R5 (cI (2 * t.val)) 1 (off3 t 1) ?_
    refine R11 1 2 rfl ?_
    refine R5 (cI (2 * t.val)) 2 (off3 t 2) ?_
    refine R11 2 2 rfl ?_
    refine R5 (cI (2 * t.val)) 3 (off3 t 3) ?_
    refine R11 3 2 rfl ?_
    refine R5 (cI (2 * t.val)) 4 (off3 t 4) ?_
    refine R11 4 2 rfl ?_
    refine R5 (cI (2 * t.val)) 5 (off3 t 5) ?_
    refine R11 5 2 rfl ?_
    refine R5 (cI (2 * t.val)) 6 (off3 t 6) ?_
    refine R11 6 2 rfl ?_
    refine R5 (cI (2 * t.val)) 7 (off3 t 7) ?_
    refine R11 7 2 rfl ?_
    refine R9 2 rfl ?_
    refine T_load9 ?_
    refine V9c 2 3 rfl rfl rfl rfl ?_
    refine R5 (cI (2 * t.val)) 0 (off3 t 0) ?_
    refine R11 0 3 rfl ?_
    refine R5 (cI (2 * t.val)) 1 (off3 t 1) ?_
    refine R11 1 3 rfl ?_
    refine R5 (cI (2 * t.val)) 2 (off3 t 2) ?_
    refine R11 2 3 rfl ?_
    refine R5 (cI (2 * t.val)) 3 (off3 t 3) ?_
    refine R11 3 3 rfl ?_
    refine R5 (cI (2 * t.val)) 4 (off3 t 4) ?_
    refine R11 4 3 rfl ?_
    refine R5 (cI (2 * t.val)) 5 (off3 t 5) ?_
    refine R11 5 3 rfl ?_
    refine R5 (cI (2 * t.val)) 6 (off3 t 6) ?_
    refine R11 6 3 rfl ?_
    refine R5 (cI (2 * t.val)) 7 (off3 t 7) ?_
    refine R11 7 3 rfl ?_
    refine R9 3 rfl ?_
    refine T_load9 ?_
    refine V9c 3 4 rfl rfl rfl rfl ?_
    refine R5 (cI (2 * t.val)) 0 (off3 t 0) ?_
    refine R11 0 4 rfl ?_
    refine R5 (cI (2 * t.val)) 1 (off3 t 1) ?_
    refine R11 1 4 rfl ?_
    refine R5 (cI (2 * t.val)) 2 (off3 t 2) ?_
    refine R11 2 4 rfl ?_
    refine R5 (cI (2 * t.val)) 3 (off3 t 3) ?_
    refine R11 3 4 rfl ?_
    refine R5 (cI (2 * t.val)) 4 (off3 t 4) ?_
    refine R11 4 4 rfl ?_
    refine R5 (cI (2 * t.val)) 5 (off3 t 5) ?_
    refine R11 5 4 rfl ?_
    refine R5 (cI (2 * t.val)) 6 (off3 t 6) ?_
    refine R11 6 4 rfl ?_
    refine R5 (cI (2 * t.val)) 7 (off3 t 7) ?_
    refine R11 7 4 rfl ?_
    refine R9 4 rfl ?_
    refine T_load9 ?_
    refine V9c 4 5 rfl rfl rfl rfl ?_
    refine R5 (cI (2 * t.val)) 0 (off3 t 0) ?_
    refine R11 0 5 rfl ?_
    refine R5 (cI (2 * t.val)) 1 (off3 t 1) ?_
    refine R11 1 5 rfl ?_
    refine R5 (cI (2 * t.val)) 2 (off3 t 2) ?_
    refine R11 2 5 rfl ?_
    refine R5 (cI (2 * t.val)) 3 (off3 t 3) ?_
    refine R11 3 5 rfl ?_
    refine R5 (cI (2 * t.val)) 4 (off3 t 4) ?_
    refine R11 4 5 rfl ?_
    refine R5 (cI (2 * t.val)) 5 (off3 t 5) ?_
    refine R11 5 5 rfl ?_
    refine R5 (cI (2 * t.val)) 6 (off3 t 6) ?_
    refine R11 6 5 rfl ?_
    refine R5 (cI (2 * t.val)) 7 (off3 t 7) ?_
    refine R11 7 5 rfl ?_
    refine R9 5 rfl ?_
    refine T_load9 ?_
    refine V9c 5 6 rfl rfl rfl rfl ?_
    refine R5 (cI (2 * t.val)) 0 (off3 t 0) ?_
    refine R11 0 6 rfl ?_
    refine R5 (cI (2 * t.val)) 1 (off3 t 1) ?_
    refine R11 1 6 rfl ?_
    refine R5 (cI (2 * t.val)) 2 (off3 t 2) ?_
    refine R11 2 6 rfl ?_
    refine R5 (cI (2 * t.val)) 3 (off3 t 3) ?_
    refine R11 3 6 rfl ?_
    refine R5 (cI (2 * t.val)) 4 (off3 t 4) ?_
    refine R11 4 6 rfl ?_
    refine R5 (cI (2 * t.val)) 5 (off3 t 5) ?_
    refine R11 5 6 rfl ?_
    refine R5 (cI (2 * t.val)) 6 (off3 t 6) ?_
    refine R11 6 6 rfl ?_
    refine R5 (cI (2 * t.val)) 7 (off3 t 7) ?_
    refine R11 7 6 rfl ?_
    refine R9 6 rfl ?_
    refine T_load9 ?_
    refine V9c 6 7 rfl rfl rfl rfl ?_
    refine R5 (cI (2 * t.val)) 0 (off3 t 0) ?_
    refine R11 0 7 rfl ?_
    refine R5 (cI (2 * t.val)) 1 (off3 t 1) ?_
    refine R11 1 7 rfl ?_
    refine R5 (cI (2 * t.val)) 2 (off3 t 2) ?_
    refine R11 2 7 rfl ?_
    refine R5 (cI (2 * t.val)) 3 (off3 t 3) ?_
    refine R11 3 7 rfl ?_
    refine R5 (cI (2 * t.val)) 4 (off3 t 4) ?_
    refine R11 4 7 rfl ?_
    refine R5 (cI (2 * t.val)) 5 (off3 t 5) ?_
    refine R11 5 7 rfl ?_
    refine R5 (cI (2 * t.val)) 6 (off3 t 6) ?_
    refine R11 6 7 rfl ?_
    refine R5 (cI (2 * t.val)) 7 (off3 t 7) ?_
    refine R11 7 7 rfl ?_
    refine R9 7 rfl ?_
    refine T_load9 ?_
    refine V9cl rfl rfl ?_
    refine W10 ?_
    refine W13 ?_
    refine W10 ?_
    refine V10 (shapeCast S8x2048 (addf xl (fullL (lT xk qa (cI (2 * t.val))))) shapeCasts_S8x2048_S8x2048) rfl ?_
    replace h := hI.add _ _ _ _ _ (by omega) h
    generalize fullA (aT xk xv qa acc (cI (2 * t.val))) = acc at h ⊢
    generalize shapeCast S8x2048 (addf xl (fullL (lT xk qa (cI (2 * t.val))))) shapeCasts_S8x2048_S8x2048 = xl at h ⊢
    refine R4 (cI (2 * t.val + 1)) 0 (off4 t 0) ?_
    refine R7 0 rfl ?_
    refine T_load12 ?_
    refine V12z (pT xk qa (cI (2 * t.val + 1))) rfl rfl ?_
    refine R4 (cI (2 * t.val + 1)) 1 (off4 t 1) ?_
    refine R7 0 rfl ?_
    refine T_load12 ?_
    refine V12 1 0 2 rfl rfl rfl rfl ?_
    refine R4 (cI (2 * t.val + 1)) 2 (off4 t 2) ?_
    refine R7 0 rfl ?_
    refine T_load12 ?_
    refine V12 2 0 3 rfl rfl rfl rfl ?_
    refine R4 (cI (2 * t.val + 1)) 3 (off4 t 3) ?_
    refine R7 0 rfl ?_
    refine T_load12 ?_
    refine V12 3 0 4 rfl rfl rfl rfl ?_
    refine R4 (cI (2 * t.val + 1)) 4 (off4 t 4) ?_
    refine R7 0 rfl ?_
    refine T_load12 ?_
    refine V12 4 0 5 rfl rfl rfl rfl ?_
    refine R4 (cI (2 * t.val + 1)) 5 (off4 t 5) ?_
    refine R7 0 rfl ?_
    refine T_load12 ?_
    refine V12 5 0 6 rfl rfl rfl rfl ?_
    refine R4 (cI (2 * t.val + 1)) 6 (off4 t 6) ?_
    refine R7 0 rfl ?_
    refine T_load12 ?_
    refine V12 6 0 7 rfl rfl rfl rfl ?_
    refine R4 (cI (2 * t.val + 1)) 7 (off4 t 7) ?_
    refine R7 0 rfl ?_
    refine T_load12 ?_
    refine V12 7 0 8 rfl rfl rfl rfl ?_
    refine T_load14 ?_
    refine V14cz (lT xk qa (cI (2 * t.val + 1))) rfl rfl ?_
    refine R4 (cI (2 * t.val + 1)) 0 (off4 t 0) ?_
    refine R7 1 rfl ?_
    refine T_load12 ?_
    refine V12 0 1 9 rfl rfl rfl rfl ?_
    refine R4 (cI (2 * t.val + 1)) 1 (off4 t 1) ?_
    refine R7 1 rfl ?_
    refine T_load12 ?_
    refine V12 1 1 10 rfl rfl rfl rfl ?_
    refine R4 (cI (2 * t.val + 1)) 2 (off4 t 2) ?_
    refine R7 1 rfl ?_
    refine T_load12 ?_
    refine V12 2 1 11 rfl rfl rfl rfl ?_
    refine R4 (cI (2 * t.val + 1)) 3 (off4 t 3) ?_
    refine R7 1 rfl ?_
    refine T_load12 ?_
    refine V12 3 1 12 rfl rfl rfl rfl ?_
    refine R4 (cI (2 * t.val + 1)) 4 (off4 t 4) ?_
    refine R7 1 rfl ?_
    refine T_load12 ?_
    refine V12 4 1 13 rfl rfl rfl rfl ?_
    refine R4 (cI (2 * t.val + 1)) 5 (off4 t 5) ?_
    refine R7 1 rfl ?_
    refine T_load12 ?_
    refine V12 5 1 14 rfl rfl rfl rfl ?_
    refine R4 (cI (2 * t.val + 1)) 6 (off4 t 6) ?_
    refine R7 1 rfl ?_
    refine T_load12 ?_
    refine V12 6 1 15 rfl rfl rfl rfl ?_
    refine R4 (cI (2 * t.val + 1)) 7 (off4 t 7) ?_
    refine R7 1 rfl ?_
    refine T_load12 ?_
    refine V12 7 1 16 rfl rfl rfl rfl ?_
    refine T_load14 ?_
    refine V14c 1 2 rfl rfl rfl rfl ?_
    refine R4 (cI (2 * t.val + 1)) 0 (off4 t 0) ?_
    refine R7 2 rfl ?_
    refine T_load12 ?_
    refine V12 0 2 17 rfl rfl rfl rfl ?_
    refine R4 (cI (2 * t.val + 1)) 1 (off4 t 1) ?_
    refine R7 2 rfl ?_
    refine T_load12 ?_
    refine V12 1 2 18 rfl rfl rfl rfl ?_
    refine R4 (cI (2 * t.val + 1)) 2 (off4 t 2) ?_
    refine R7 2 rfl ?_
    refine T_load12 ?_
    refine V12 2 2 19 rfl rfl rfl rfl ?_
    refine R4 (cI (2 * t.val + 1)) 3 (off4 t 3) ?_
    refine R7 2 rfl ?_
    refine T_load12 ?_
    refine V12 3 2 20 rfl rfl rfl rfl ?_
    refine R4 (cI (2 * t.val + 1)) 4 (off4 t 4) ?_
    refine R7 2 rfl ?_
    refine T_load12 ?_
    refine V12 4 2 21 rfl rfl rfl rfl ?_
    refine R4 (cI (2 * t.val + 1)) 5 (off4 t 5) ?_
    refine R7 2 rfl ?_
    refine T_load12 ?_
    refine V12 5 2 22 rfl rfl rfl rfl ?_
    refine R4 (cI (2 * t.val + 1)) 6 (off4 t 6) ?_
    refine R7 2 rfl ?_
    refine T_load12 ?_
    refine V12 6 2 23 rfl rfl rfl rfl ?_
    refine R4 (cI (2 * t.val + 1)) 7 (off4 t 7) ?_
    refine R7 2 rfl ?_
    refine T_load12 ?_
    refine V12 7 2 24 rfl rfl rfl rfl ?_
    refine T_load14 ?_
    refine V14c 2 3 rfl rfl rfl rfl ?_
    refine R4 (cI (2 * t.val + 1)) 0 (off4 t 0) ?_
    refine R7 3 rfl ?_
    refine T_load12 ?_
    refine V12 0 3 25 rfl rfl rfl rfl ?_
    refine R4 (cI (2 * t.val + 1)) 1 (off4 t 1) ?_
    refine R7 3 rfl ?_
    refine T_load12 ?_
    refine V12 1 3 26 rfl rfl rfl rfl ?_
    refine R4 (cI (2 * t.val + 1)) 2 (off4 t 2) ?_
    refine R7 3 rfl ?_
    refine T_load12 ?_
    refine V12 2 3 27 rfl rfl rfl rfl ?_
    refine R4 (cI (2 * t.val + 1)) 3 (off4 t 3) ?_
    refine R7 3 rfl ?_
    refine T_load12 ?_
    refine V12 3 3 28 rfl rfl rfl rfl ?_
    refine R4 (cI (2 * t.val + 1)) 4 (off4 t 4) ?_
    refine R7 3 rfl ?_
    refine T_load12 ?_
    refine V12 4 3 29 rfl rfl rfl rfl ?_
    refine R4 (cI (2 * t.val + 1)) 5 (off4 t 5) ?_
    refine R7 3 rfl ?_
    refine T_load12 ?_
    refine V12 5 3 30 rfl rfl rfl rfl ?_
    refine R4 (cI (2 * t.val + 1)) 6 (off4 t 6) ?_
    refine R7 3 rfl ?_
    refine T_load12 ?_
    refine V12 6 3 31 rfl rfl rfl rfl ?_
    refine R4 (cI (2 * t.val + 1)) 7 (off4 t 7) ?_
    refine R7 3 rfl ?_
    refine T_load12 ?_
    refine V12 7 3 32 rfl rfl rfl rfl ?_
    refine T_load14 ?_
    refine V14c 3 4 rfl rfl rfl rfl ?_
    refine R4 (cI (2 * t.val + 1)) 0 (off4 t 0) ?_
    refine R7 4 rfl ?_
    refine T_load12 ?_
    refine V12 0 4 33 rfl rfl rfl rfl ?_
    refine R4 (cI (2 * t.val + 1)) 1 (off4 t 1) ?_
    refine R7 4 rfl ?_
    refine T_load12 ?_
    refine V12 1 4 34 rfl rfl rfl rfl ?_
    refine R4 (cI (2 * t.val + 1)) 2 (off4 t 2) ?_
    refine R7 4 rfl ?_
    refine T_load12 ?_
    refine V12 2 4 35 rfl rfl rfl rfl ?_
    refine R4 (cI (2 * t.val + 1)) 3 (off4 t 3) ?_
    refine R7 4 rfl ?_
    refine T_load12 ?_
    refine V12 3 4 36 rfl rfl rfl rfl ?_
    refine R4 (cI (2 * t.val + 1)) 4 (off4 t 4) ?_
    refine R7 4 rfl ?_
    refine T_load12 ?_
    refine V12 4 4 37 rfl rfl rfl rfl ?_
    refine R4 (cI (2 * t.val + 1)) 5 (off4 t 5) ?_
    refine R7 4 rfl ?_
    refine T_load12 ?_
    refine V12 5 4 38 rfl rfl rfl rfl ?_
    refine R4 (cI (2 * t.val + 1)) 6 (off4 t 6) ?_
    refine R7 4 rfl ?_
    refine T_load12 ?_
    refine V12 6 4 39 rfl rfl rfl rfl ?_
    refine R4 (cI (2 * t.val + 1)) 7 (off4 t 7) ?_
    refine R7 4 rfl ?_
    refine T_load12 ?_
    refine V12 7 4 40 rfl rfl rfl rfl ?_
    refine T_load14 ?_
    refine V14c 4 5 rfl rfl rfl rfl ?_
    refine R4 (cI (2 * t.val + 1)) 0 (off4 t 0) ?_
    refine R7 5 rfl ?_
    refine T_load12 ?_
    refine V12 0 5 41 rfl rfl rfl rfl ?_
    refine R4 (cI (2 * t.val + 1)) 1 (off4 t 1) ?_
    refine R7 5 rfl ?_
    refine T_load12 ?_
    refine V12 1 5 42 rfl rfl rfl rfl ?_
    refine R4 (cI (2 * t.val + 1)) 2 (off4 t 2) ?_
    refine R7 5 rfl ?_
    refine T_load12 ?_
    refine V12 2 5 43 rfl rfl rfl rfl ?_
    refine R4 (cI (2 * t.val + 1)) 3 (off4 t 3) ?_
    refine R7 5 rfl ?_
    refine T_load12 ?_
    refine V12 3 5 44 rfl rfl rfl rfl ?_
    refine R4 (cI (2 * t.val + 1)) 4 (off4 t 4) ?_
    refine R7 5 rfl ?_
    refine T_load12 ?_
    refine V12 4 5 45 rfl rfl rfl rfl ?_
    refine R4 (cI (2 * t.val + 1)) 5 (off4 t 5) ?_
    refine R7 5 rfl ?_
    refine T_load12 ?_
    refine V12 5 5 46 rfl rfl rfl rfl ?_
    refine R4 (cI (2 * t.val + 1)) 6 (off4 t 6) ?_
    refine R7 5 rfl ?_
    refine T_load12 ?_
    refine V12 6 5 47 rfl rfl rfl rfl ?_
    refine R4 (cI (2 * t.val + 1)) 7 (off4 t 7) ?_
    refine R7 5 rfl ?_
    refine T_load12 ?_
    refine V12 7 5 48 rfl rfl rfl rfl ?_
    refine T_load14 ?_
    refine V14c 5 6 rfl rfl rfl rfl ?_
    refine R4 (cI (2 * t.val + 1)) 0 (off4 t 0) ?_
    refine R7 6 rfl ?_
    refine T_load12 ?_
    refine V12 0 6 49 rfl rfl rfl rfl ?_
    refine R4 (cI (2 * t.val + 1)) 1 (off4 t 1) ?_
    refine R7 6 rfl ?_
    refine T_load12 ?_
    refine V12 1 6 50 rfl rfl rfl rfl ?_
    refine R4 (cI (2 * t.val + 1)) 2 (off4 t 2) ?_
    refine R7 6 rfl ?_
    refine T_load12 ?_
    refine V12 2 6 51 rfl rfl rfl rfl ?_
    refine R4 (cI (2 * t.val + 1)) 3 (off4 t 3) ?_
    refine R7 6 rfl ?_
    refine T_load12 ?_
    refine V12 3 6 52 rfl rfl rfl rfl ?_
    refine R4 (cI (2 * t.val + 1)) 4 (off4 t 4) ?_
    refine R7 6 rfl ?_
    refine T_load12 ?_
    refine V12 4 6 53 rfl rfl rfl rfl ?_
    refine R4 (cI (2 * t.val + 1)) 5 (off4 t 5) ?_
    refine R7 6 rfl ?_
    refine T_load12 ?_
    refine V12 5 6 54 rfl rfl rfl rfl ?_
    refine R4 (cI (2 * t.val + 1)) 6 (off4 t 6) ?_
    refine R7 6 rfl ?_
    refine T_load12 ?_
    refine V12 6 6 55 rfl rfl rfl rfl ?_
    refine R4 (cI (2 * t.val + 1)) 7 (off4 t 7) ?_
    refine R7 6 rfl ?_
    refine T_load12 ?_
    refine V12 7 6 56 rfl rfl rfl rfl ?_
    refine T_load14 ?_
    refine V14c 6 7 rfl rfl rfl rfl ?_
    refine R4 (cI (2 * t.val + 1)) 0 (off4 t 0) ?_
    refine R7 7 rfl ?_
    refine T_load12 ?_
    refine V12 0 7 57 rfl rfl rfl rfl ?_
    refine R4 (cI (2 * t.val + 1)) 1 (off4 t 1) ?_
    refine R7 7 rfl ?_
    refine T_load12 ?_
    refine V12 1 7 58 rfl rfl rfl rfl ?_
    refine R4 (cI (2 * t.val + 1)) 2 (off4 t 2) ?_
    refine R7 7 rfl ?_
    refine T_load12 ?_
    refine V12 2 7 59 rfl rfl rfl rfl ?_
    refine R4 (cI (2 * t.val + 1)) 3 (off4 t 3) ?_
    refine R7 7 rfl ?_
    refine T_load12 ?_
    refine V12 3 7 60 rfl rfl rfl rfl ?_
    refine R4 (cI (2 * t.val + 1)) 4 (off4 t 4) ?_
    refine R7 7 rfl ?_
    refine T_load12 ?_
    refine V12 4 7 61 rfl rfl rfl rfl ?_
    refine R4 (cI (2 * t.val + 1)) 5 (off4 t 5) ?_
    refine R7 7 rfl ?_
    refine T_load12 ?_
    refine V12 5 7 62 rfl rfl rfl rfl ?_
    refine R4 (cI (2 * t.val + 1)) 6 (off4 t 6) ?_
    refine R7 7 rfl ?_
    refine T_load12 ?_
    refine V12 6 7 63 rfl rfl rfl rfl ?_
    refine R4 (cI (2 * t.val + 1)) 7 (off4 t 7) ?_
    refine R7 7 rfl ?_
    refine T_load12 ?_
    refine V12l rfl rfl ?_
    refine T_load14 ?_
    refine V14cl rfl rfl ?_
    refine T_assoc ?_
    refine T_ifb (fun s => ∃ (qa : Vec F S256x2048 .bf16) (xm : Vec F S1x2048 .f32) (acc : Vec F S128x2048 .f32) (xl : Vec F S8x2048 .f32) (p0 : Vec F S2048x2048 .bf16) (ls0 : Vec F S8x2048 .f32), s = ⟨xq, xk, xv, xo, qa, xm, acc, xl, p0, full (pT xk qa (cI (2 * t.val + 1))), ls0, fullL (lT xk qa (cI (2 * t.val + 1)))⟩ ∧ I (2 * t.val + 1) qa xm acc xl) ⟨_, _, _, _, _, _, rfl, h⟩ ?_ ?_
    rotate_left
    · intro hR
      refine W8 ?_
      refine W9 ?_
      refine W9 ?_
      refine V9 (shapeCast S128x2048 (mulf acc (broadcastTo S128x2048 (shrink xm (newM xm (up (mA xk qa (cI (2 * t.val + 1)))))) broadcasts_S1x2048_S128x2048)) shapeCasts_S128x2048_S128x2048) rfl ?_
      refine W10 ?_
      refine W10 ?_
      refine V10 (shapeCast S8x2048 (mulf xl (broadcastTo S8x2048 (shrink xm (newM xm (up (mA xk qa (cI (2 * t.val + 1)))))) broadcasts_S1x2048_S8x2048)) shapeCasts_S8x2048_S8x2048) rfl ?_
      refine W8 ?_
      refine V8 (shapeCast S1x2048 (newM xm (up (mA xk qa (cI (2 * t.val + 1))))) shapeCasts_S1x2048_S1x2048) rfl ?_
      refine T_load7 ?_
      refine V7rows (stabRows (newM xm (up (mA xk qa (cI (2 * t.val + 1)))))) rfl ?_
      refine R4 (cI (2 * t.val + 1)) 0 (off5 t 0) ?_
      refine R7 0 rfl ?_
      refine T_load12 ?_
      refine V12z (pT xk (setRows qa (stabRows (newM xm (up (mA xk qa (cI (2 * t.val + 1))))))) (cI (2 * t.val + 1))) rfl rfl ?_
      refine R4 (cI (2 * t.val + 1)) 1 (off5 t 1) ?_
      refine R7 0 rfl ?_
      refine T_load12 ?_
      refine V12 1 0 2 rfl rfl rfl rfl ?_
      refine R4 (cI (2 * t.val + 1)) 2 (off5 t 2) ?_
      refine R7 0 rfl ?_
      refine T_load12 ?_
      refine V12 2 0 3 rfl rfl rfl rfl ?_
      refine R4 (cI (2 * t.val + 1)) 3 (off5 t 3) ?_
      refine R7 0 rfl ?_
      refine T_load12 ?_
      refine V12 3 0 4 rfl rfl rfl rfl ?_
      refine R4 (cI (2 * t.val + 1)) 4 (off5 t 4) ?_
      refine R7 0 rfl ?_
      refine T_load12 ?_
      refine V12 4 0 5 rfl rfl rfl rfl ?_
      refine R4 (cI (2 * t.val + 1)) 5 (off5 t 5) ?_
      refine R7 0 rfl ?_
      refine T_load12 ?_
      refine V12 5 0 6 rfl rfl rfl rfl ?_
      refine R4 (cI (2 * t.val + 1)) 6 (off5 t 6) ?_
      refine R7 0 rfl ?_
      refine T_load12 ?_
      refine V12 6 0 7 rfl rfl rfl rfl ?_
      refine R4 (cI (2 * t.val + 1)) 7 (off5 t 7) ?_
      refine R7 0 rfl ?_
      refine T_load12 ?_
      refine V12 7 0 8 rfl rfl rfl rfl ?_
      refine T_load14 ?_
      refine V14cz (lT xk (setRows qa (stabRows (newM xm (up (mA xk qa (cI (2 * t.val + 1))))))) (cI (2 * t.val + 1))) rfl rfl ?_
      refine R4 (cI (2 * t.val + 1)) 0 (off5 t 0) ?_
      refine R7 1 rfl ?_
      refine T_load12 ?_
      refine V12 0 1 9 rfl rfl rfl rfl ?_
      refine R4 (cI (2 * t.val + 1)) 1 (off5 t 1) ?_
      refine R7 1 rfl ?_
      refine T_load12 ?_
      refine V12 1 1 10 rfl rfl rfl rfl ?_
      refine R4 (cI (2 * t.val + 1)) 2 (off5 t 2) ?_
      refine R7 1 rfl ?_
      refine T_load12 ?_
      refine V12 2 1 11 rfl rfl rfl rfl ?_
      refine R4 (cI (2 * t.val + 1)) 3 (off5 t 3) ?_
      refine R7 1 rfl ?_
      refine T_load12 ?_
      refine V12 3 1 12 rfl rfl rfl rfl ?_
      refine R4 (cI (2 * t.val + 1)) 4 (off5 t 4) ?_
      refine R7 1 rfl ?_
      refine T_load12 ?_
      refine V12 4 1 13 rfl rfl rfl rfl ?_
      refine R4 (cI (2 * t.val + 1)) 5 (off5 t 5) ?_
      refine R7 1 rfl ?_
      refine T_load12 ?_
      refine V12 5 1 14 rfl rfl rfl rfl ?_
      refine R4 (cI (2 * t.val + 1)) 6 (off5 t 6) ?_
      refine R7 1 rfl ?_
      refine T_load12 ?_
      refine V12 6 1 15 rfl rfl rfl rfl ?_
      refine R4 (cI (2 * t.val + 1)) 7 (off5 t 7) ?_
      refine R7 1 rfl ?_
      refine T_load12 ?_
      refine V12 7 1 16 rfl rfl rfl rfl ?_
      refine T_load14 ?_
      refine V14c 1 2 rfl rfl rfl rfl ?_
      refine R4 (cI (2 * t.val + 1)) 0 (off5 t 0) ?_
      refine R7 2 rfl ?_
      refine T_load12 ?_
      refine V12 0 2 17 rfl rfl rfl rfl ?_
      refine R4 (cI (2 * t.val + 1)) 1 (off5 t 1) ?_
      refine R7 2 rfl ?_
      refine T_load12 ?_
      refine V12 1 2 18 rfl rfl rfl rfl ?_
      refine R4 (cI (2 * t.val + 1)) 2 (off5 t 2) ?_
      refine R7 2 rfl ?_
      refine T_load12 ?_
      refine V12 2 2 19 rfl rfl rfl rfl ?_
      refine R4 (cI (2 * t.val + 1)) 3 (off5 t 3) ?_
      refine R7 2 rfl ?_
      refine T_load12 ?_
      refine V12 3 2 20 rfl rfl rfl rfl ?_
      refine R4 (cI (2 * t.val + 1)) 4 (off5 t 4) ?_
      refine R7 2 rfl ?_
      refine T_load12 ?_
      refine V12 4 2 21 rfl rfl rfl rfl ?_
      refine R4 (cI (2 * t.val + 1)) 5 (off5 t 5) ?_
      refine R7 2 rfl ?_
      refine T_load12 ?_
      refine V12 5 2 22 rfl rfl rfl rfl ?_
      refine R4 (cI (2 * t.val + 1)) 6 (off5 t 6) ?_
      refine R7 2 rfl ?_
      refine T_load12 ?_
      refine V12 6 2 23 rfl rfl rfl rfl ?_
      refine R4 (cI (2 * t.val + 1)) 7 (off5 t 7) ?_
      refine R7 2 rfl ?_
      refine T_load12 ?_
      refine V12 7 2 24 rfl rfl rfl rfl ?_
      refine T_load14 ?_
      refine V14c 2 3 rfl rfl rfl rfl ?_
      refine R4 (cI (2 * t.val + 1)) 0 (off5 t 0) ?_
      refine R7 3 rfl ?_
      refine T_load12 ?_
      refine V12 0 3 25 rfl rfl rfl rfl ?_
      refine R4 (cI (2 * t.val + 1)) 1 (off5 t 1) ?_
      refine R7 3 rfl ?_
      refine T_load12 ?_
      refine V12 1 3 26 rfl rfl rfl rfl ?_
      refine R4 (cI (2 * t.val + 1)) 2 (off5 t 2) ?_
      refine R7 3 rfl ?_
      refine T_load12 ?_
      refine V12 2 3 27 rfl rfl rfl rfl ?_
      refine R4 (cI (2 * t.val + 1)) 3 (off5 t 3) ?_
      refine R7 3 rfl ?_
      refine T_load12 ?_
      refine V12 3 3 28 rfl rfl rfl rfl ?_
      refine R4 (cI (2 * t.val + 1)) 4 (off5 t 4) ?_
      refine R7 3 rfl ?_
      refine T_load12 ?_
      refine V12 4 3 29 rfl rfl rfl rfl ?_
      refine R4 (cI (2 * t.val + 1)) 5 (off5 t 5) ?_
      refine R7 3 rfl ?_
      refine T_load12 ?_
      refine V12 5 3 30 rfl rfl rfl rfl ?_
      refine R4 (cI (2 * t.val + 1)) 6 (off5 t 6) ?_
      refine R7 3 rfl ?_
      refine T_load12 ?_
      refine V12 6 3 31 rfl rfl rfl rfl ?_
      refine R4 (cI (2 * t.val + 1)) 7 (off5 t 7) ?_
      refine R7 3 rfl ?_
      refine T_load12 ?_
      refine V12 7 3 32 rfl rfl rfl rfl ?_
      refine T_load14 ?_
      refine V14c 3 4 rfl rfl rfl rfl ?_
      refine R4 (cI (2 * t.val + 1)) 0 (off5 t 0) ?_
      refine R7 4 rfl ?_
      refine T_load12 ?_
      refine V12 0 4 33 rfl rfl rfl rfl ?_
      refine R4 (cI (2 * t.val + 1)) 1 (off5 t 1) ?_
      refine R7 4 rfl ?_
      refine T_load12 ?_
      refine V12 1 4 34 rfl rfl rfl rfl ?_
      refine R4 (cI (2 * t.val + 1)) 2 (off5 t 2) ?_
      refine R7 4 rfl ?_
      refine T_load12 ?_
      refine V12 2 4 35 rfl rfl rfl rfl ?_
      refine R4 (cI (2 * t.val + 1)) 3 (off5 t 3) ?_
      refine R7 4 rfl ?_
      refine T_load12 ?_
      refine V12 3 4 36 rfl rfl rfl rfl ?_
      refine R4 (cI (2 * t.val + 1)) 4 (off5 t 4) ?_
      refine R7 4 rfl ?_
      refine T_load12 ?_
      refine V12 4 4 37 rfl rfl rfl rfl ?_
      refine R4 (cI (2 * t.val + 1)) 5 (off5 t 5) ?_
      refine R7 4 rfl ?_
      refine T_load12 ?_
      refine V12 5 4 38 rfl rfl rfl rfl ?_
      refine R4 (cI (2 * t.val + 1)) 6 (off5 t 6) ?_
      refine R7 4 rfl ?_
      refine T_load12 ?_
      refine V12 6 4 39 rfl rfl rfl rfl ?_
      refine R4 (cI (2 * t.val + 1)) 7 (off5 t 7) ?_
      refine R7 4 rfl ?_
      refine T_load12 ?_
      refine V12 7 4 40 rfl rfl rfl rfl ?_
      refine T_load14 ?_
      refine V14c 4 5 rfl rfl rfl rfl ?_
      refine R4 (cI (2 * t.val + 1)) 0 (off5 t 0) ?_
      refine R7 5 rfl ?_
      refine T_load12 ?_
      refine V12 0 5 41 rfl rfl rfl rfl ?_
      refine R4 (cI (2 * t.val + 1)) 1 (off5 t 1) ?_
      refine R7 5 rfl ?_
      refine T_load12 ?_
      refine V12 1 5 42 rfl rfl rfl rfl ?_
      refine R4 (cI (2 * t.val + 1)) 2 (off5 t 2) ?_
      refine R7 5 rfl ?_
      refine T_load12 ?_
      refine V12 2 5 43 rfl rfl rfl rfl ?_
      refine R4 (cI (2 * t.val + 1)) 3 (off5 t 3) ?_
      refine R7 5 rfl ?_
      refine T_load12 ?_
      refine V12 3 5 44 rfl rfl rfl rfl ?_
      refine R4 (cI (2 * t.val + 1)) 4 (off5 t 4) ?_
      refine R7 5 rfl ?_
      refine T_load12 ?_
      refine V12 4 5 45 rfl rfl rfl rfl ?_
      refine R4 (cI (2 * t.val + 1)) 5 (off5 t 5) ?_
      refine R7 5 rfl ?_
      refine T_load12 ?_
      refine V12 5 5 46 rfl rfl rfl rfl ?_
      refine R4 (cI (2 * t.val + 1)) 6 (off5 t 6) ?_
      refine R7 5 rfl ?_
      refine T_load12 ?_
      refine V12 6 5 47 rfl rfl rfl rfl ?_
      refine R4 (cI (2 * t.val + 1)) 7 (off5 t 7) ?_
      refine R7 5 rfl ?_
      refine T_load12 ?_
      refine V12 7 5 48 rfl rfl rfl rfl ?_
      refine T_load14 ?_
      refine V14c 5 6 rfl rfl rfl rfl ?_
      refine R4 (cI (2 * t.val + 1)) 0 (off5 t 0) ?_
      refine R7 6 rfl ?_
      refine T_load12 ?_
      refine V12 0 6 49 rfl rfl rfl rfl ?_
      refine R4 (cI (2 * t.val + 1)) 1 (off5 t 1) ?_
      refine R7 6 rfl ?_
      refine T_load12 ?_
      refine V12 1 6 50 rfl rfl rfl rfl ?_
      refine R4 (cI (2 * t.val + 1)) 2 (off5 t 2) ?_
      refine R7 6 rfl ?_
      refine T_load12 ?_
      refine V12 2 6 51 rfl rfl rfl rfl ?_
      refine R4 (cI (2 * t.val + 1)) 3 (off5 t 3) ?_
      refine R7 6 rfl ?_
      refine T_load12 ?_
      refine V12 3 6 52 rfl rfl rfl rfl ?_
      refine R4 (cI (2 * t.val + 1)) 4 (off5 t 4) ?_
      refine R7 6 rfl ?_
      refine T_load12 ?_
      refine V12 4 6 53 rfl rfl rfl rfl ?_
      refine R4 (cI (2 * t.val + 1)) 5 (off5 t 5) ?_
      refine R7 6 rfl ?_
      refine T_load12 ?_
      refine V12 5 6 54 rfl rfl rfl rfl ?_
      refine R4 (cI (2 * t.val + 1)) 6 (off5 t 6) ?_
      refine R7 6 rfl ?_
      refine T_load12 ?_
      refine V12 6 6 55 rfl rfl rfl rfl ?_
      refine R4 (cI (2 * t.val + 1)) 7 (off5 t 7) ?_
      refine R7 6 rfl ?_
      refine T_load12 ?_
      refine V12 7 6 56 rfl rfl rfl rfl ?_
      refine T_load14 ?_
      refine V14c 6 7 rfl rfl rfl rfl ?_
      refine R4 (cI (2 * t.val + 1)) 0 (off5 t 0) ?_
      refine R7 7 rfl ?_
      refine T_load12 ?_
      refine V12 0 7 57 rfl rfl rfl rfl ?_
      refine R4 (cI (2 * t.val + 1)) 1 (off5 t 1) ?_
      refine R7 7 rfl ?_
      refine T_load12 ?_
      refine V12 1 7 58 rfl rfl rfl rfl ?_
      refine R4 (cI (2 * t.val + 1)) 2 (off5 t 2) ?_
      refine R7 7 rfl ?_
      refine T_load12 ?_
      refine V12 2 7 59 rfl rfl rfl rfl ?_
      refine R4 (cI (2 * t.val + 1)) 3 (off5 t 3) ?_
      refine R7 7 rfl ?_
      refine T_load12 ?_
      refine V12 3 7 60 rfl rfl rfl rfl ?_
      refine R4 (cI (2 * t.val + 1)) 4 (off5 t 4) ?_
      refine R7 7 rfl ?_
      refine T_load12 ?_
      refine V12 4 7 61 rfl rfl rfl rfl ?_
      refine R4 (cI (2 * t.val + 1)) 5 (off5 t 5) ?_
      refine R7 7 rfl ?_
      refine T_load12 ?_
      refine V12 5 7 62 rfl rfl rfl rfl ?_
      refine R4 (cI (2 * t.val + 1)) 6 (off5 t 6) ?_
      refine R7 7 rfl ?_
      refine T_load12 ?_
      refine V12 6 7 63 rfl rfl rfl rfl ?_
      refine R4 (cI (2 * t.val + 1)) 7 (off5 t 7) ?_
      refine R7 7 rfl ?_
      refine T_load12 ?_
      refine V12l rfl rfl ?_
      refine T_load14 ?_
      refine V14cl rfl rfl ?_
      exact hR _ ⟨_, _, _, _, _, _, rfl, hI.rescale _ _ _ _ _ (by omega) h⟩
    rintro s ⟨qa, xm, acc, xl, p0, ls0, rfl, h⟩
    refine R5 (cI (2 * t.val + 1)) 0 (off6 t 0) ?_
    refine R12 0 0 rfl ?_
    refine R5 (cI (2 * t.val + 1)) 1 (off6 t 1) ?_
    refine R12 1 0 rfl ?_
    refine R5 (cI (2 * t.val + 1)) 2 (off6 t 2) ?_
    refine R12 2 0 rfl ?_
    refine R5 (cI (2 * t.val + 1)) 3 (off6 t 3) ?_
    refine R12 3 0 rfl ?_
    refine R5 (cI (2 * t.val + 1)) 4 (off6 t 4) ?_
    refine R12 4 0 rfl ?_
    refine R5 (cI (2 * t.val + 1)) 5 (off6 t 5) ?_
    refine R12 5 0 rfl ?_
    refine R5 (cI (2 * t.val + 1)) 6 (off6 t 6) ?_
    refine R12 6 0 rfl ?_
    refine R5 (cI (2 * t.val + 1)) 7 (off6 t 7) ?_
    refine R12 7 0 rfl ?_
    refine R9z rfl ?_
    refine T_load9 ?_
    refine V9cz (aT xk xv qa acc (cI (2 * t.val + 1))) rfl rfl ?_
    refine R5 (cI (2 * t.val + 1)) 0 (off6 t 0) ?_
    refine R12 0 1 rfl ?_
    refine R5 (cI (2 * t.val + 1)) 1 (off6 t 1) ?_
    refine R12 1 1 rfl ?_
    refine R5 (cI (2 * t.val + 1)) 2 (off6 t 2) ?_
    refine R12 2 1 rfl ?_
    refine R5 (cI (2 * t.val + 1)) 3 (off6 t 3) ?_
    refine R12 3 1 rfl ?_
    refine R5 (cI (2 * t.val + 1)) 4 (off6 t 4) ?_
    refine R12 4 1 rfl ?_
    refine R5 (cI (2 * t.val + 1)) 5 (off6 t 5) ?_
    refine R12 5 1 rfl ?_
    refine R5 (cI (2 * t.val + 1)) 6 (off6 t 6) ?_
    refine R12 6 1 rfl ?_
    refine R5 (cI (2 * t.val + 1)) 7 (off6 t 7) ?_
    refine R12 7 1 rfl ?_
    refine R9 1 rfl ?_
    refine T_load9 ?_
    refine V9c 1 2 rfl rfl rfl rfl ?_
    refine R5 (cI (2 * t.val + 1)) 0 (off6 t 0) ?_
    refine R12 0 2 rfl ?_
    refine R5 (cI (2 * t.val + 1)) 1 (off6 t 1) ?_
    refine R12 1 2 rfl ?_
    refine R5 (cI (2 * t.val + 1)) 2 (off6 t 2) ?_
    refine R12 2 2 rfl ?_
    refine R5 (cI (2 * t.val + 1)) 3 (off6 t 3) ?_
    refine R12 3 2 rfl ?_
    refine R5 (cI (2 * t.val + 1)) 4 (off6 t 4) ?_
    refine R12 4 2 rfl ?_
    refine R5 (cI (2 * t.val + 1)) 5 (off6 t 5) ?_
    refine R12 5 2 rfl ?_
    refine R5 (cI (2 * t.val + 1)) 6 (off6 t 6) ?_
    refine R12 6 2 rfl ?_
    refine R5 (cI (2 * t.val + 1)) 7 (off6 t 7) ?_
    refine R12 7 2 rfl ?_
    refine R9 2 rfl ?_
    refine T_load9 ?_
    refine V9c 2 3 rfl rfl rfl rfl ?_
    refine R5 (cI (2 * t.val + 1)) 0 (off6 t 0) ?_
    refine R12 0 3 rfl ?_
    refine R5 (cI (2 * t.val + 1)) 1 (off6 t 1) ?_
    refine R12 1 3 rfl ?_
    refine R5 (cI (2 * t.val + 1)) 2 (off6 t 2) ?_
    refine R12 2 3 rfl ?_
    refine R5 (cI (2 * t.val + 1)) 3 (off6 t 3) ?_
    refine R12 3 3 rfl ?_
    refine R5 (cI (2 * t.val + 1)) 4 (off6 t 4) ?_
    refine R12 4 3 rfl ?_
    refine R5 (cI (2 * t.val + 1)) 5 (off6 t 5) ?_
    refine R12 5 3 rfl ?_
    refine R5 (cI (2 * t.val + 1)) 6 (off6 t 6) ?_
    refine R12 6 3 rfl ?_
    refine R5 (cI (2 * t.val + 1)) 7 (off6 t 7) ?_
    refine R12 7 3 rfl ?_
    refine R9 3 rfl ?_
    refine T_load9 ?_
    refine V9c 3 4 rfl rfl rfl rfl ?_
    refine R5 (cI (2 * t.val + 1)) 0 (off6 t 0) ?_
    refine R12 0 4 rfl ?_
    refine R5 (cI (2 * t.val + 1)) 1 (off6 t 1) ?_
    refine R12 1 4 rfl ?_
    refine R5 (cI (2 * t.val + 1)) 2 (off6 t 2) ?_
    refine R12 2 4 rfl ?_
    refine R5 (cI (2 * t.val + 1)) 3 (off6 t 3) ?_
    refine R12 3 4 rfl ?_
    refine R5 (cI (2 * t.val + 1)) 4 (off6 t 4) ?_
    refine R12 4 4 rfl ?_
    refine R5 (cI (2 * t.val + 1)) 5 (off6 t 5) ?_
    refine R12 5 4 rfl ?_
    refine R5 (cI (2 * t.val + 1)) 6 (off6 t 6) ?_
    refine R12 6 4 rfl ?_
    refine R5 (cI (2 * t.val + 1)) 7 (off6 t 7) ?_
    refine R12 7 4 rfl ?_
    refine R9 4 rfl ?_
    refine T_load9 ?_
    refine V9c 4 5 rfl rfl rfl rfl ?_
    refine R5 (cI (2 * t.val + 1)) 0 (off6 t 0) ?_
    refine R12 0 5 rfl ?_
    refine R5 (cI (2 * t.val + 1)) 1 (off6 t 1) ?_
    refine R12 1 5 rfl ?_
    refine R5 (cI (2 * t.val + 1)) 2 (off6 t 2) ?_
    refine R12 2 5 rfl ?_
    refine R5 (cI (2 * t.val + 1)) 3 (off6 t 3) ?_
    refine R12 3 5 rfl ?_
    refine R5 (cI (2 * t.val + 1)) 4 (off6 t 4) ?_
    refine R12 4 5 rfl ?_
    refine R5 (cI (2 * t.val + 1)) 5 (off6 t 5) ?_
    refine R12 5 5 rfl ?_
    refine R5 (cI (2 * t.val + 1)) 6 (off6 t 6) ?_
    refine R12 6 5 rfl ?_
    refine R5 (cI (2 * t.val + 1)) 7 (off6 t 7) ?_
    refine R12 7 5 rfl ?_
    refine R9 5 rfl ?_
    refine T_load9 ?_
    refine V9c 5 6 rfl rfl rfl rfl ?_
    refine R5 (cI (2 * t.val + 1)) 0 (off6 t 0) ?_
    refine R12 0 6 rfl ?_
    refine R5 (cI (2 * t.val + 1)) 1 (off6 t 1) ?_
    refine R12 1 6 rfl ?_
    refine R5 (cI (2 * t.val + 1)) 2 (off6 t 2) ?_
    refine R12 2 6 rfl ?_
    refine R5 (cI (2 * t.val + 1)) 3 (off6 t 3) ?_
    refine R12 3 6 rfl ?_
    refine R5 (cI (2 * t.val + 1)) 4 (off6 t 4) ?_
    refine R12 4 6 rfl ?_
    refine R5 (cI (2 * t.val + 1)) 5 (off6 t 5) ?_
    refine R12 5 6 rfl ?_
    refine R5 (cI (2 * t.val + 1)) 6 (off6 t 6) ?_
    refine R12 6 6 rfl ?_
    refine R5 (cI (2 * t.val + 1)) 7 (off6 t 7) ?_
    refine R12 7 6 rfl ?_
    refine R9 6 rfl ?_
    refine T_load9 ?_
    refine V9c 6 7 rfl rfl rfl rfl ?_
    refine R5 (cI (2 * t.val + 1)) 0 (off6 t 0) ?_
    refine R12 0 7 rfl ?_
    refine R5 (cI (2 * t.val + 1)) 1 (off6 t 1) ?_
    refine R12 1 7 rfl ?_
    refine R5 (cI (2 * t.val + 1)) 2 (off6 t 2) ?_
    refine R12 2 7 rfl ?_
    refine R5 (cI (2 * t.val + 1)) 3 (off6 t 3) ?_
    refine R12 3 7 rfl ?_
    refine R5 (cI (2 * t.val + 1)) 4 (off6 t 4) ?_
    refine R12 4 7 rfl ?_
    refine R5 (cI (2 * t.val + 1)) 5 (off6 t 5) ?_
    refine R12 5 7 rfl ?_
    refine R5 (cI (2 * t.val + 1)) 6 (off6 t 6) ?_
    refine R12 6 7 rfl ?_
    refine R5 (cI (2 * t.val + 1)) 7 (off6 t 7) ?_
    refine R12 7 7 rfl ?_
    refine R9 7 rfl ?_
    refine T_load9 ?_
    refine V9cl rfl rfl ?_
    refine W10 ?_
    refine W14 ?_
    refine W10 ?_
    refine V10 (shapeCast S8x2048 (addf xl (fullL (lT xk qa (cI (2 * t.val + 1))))) shapeCasts_S8x2048_S8x2048) rfl ?_
    replace h := hI.add _ _ _ _ _ (by omega) h
    generalize fullA (aT xk xv qa acc (cI (2 * t.val + 1))) = acc at h ⊢
    generalize shapeCast S8x2048 (addf xl (fullL (lT xk qa (cI (2 * t.val + 1))))) shapeCasts_S8x2048_S8x2048 = xl at h ⊢
    refine R4 (cI (2 * t.val + 2)) 0 (off7 t 0) ?_
    refine R7 0 rfl ?_
    refine T_load11 ?_
    refine V11z (pT xk qa (cI (2 * t.val + 2))) rfl rfl ?_
    refine R4 (cI (2 * t.val + 2)) 1 (off7 t 1) ?_
    refine R7 0 rfl ?_
    refine T_load11 ?_
    refine V11 1 0 2 rfl rfl rfl rfl ?_
    refine R4 (cI (2 * t.val + 2)) 2 (off7 t 2) ?_
    refine R7 0 rfl ?_
    refine T_load11 ?_
    refine V11 2 0 3 rfl rfl rfl rfl ?_
    refine R4 (cI (2 * t.val + 2)) 3 (off7 t 3) ?_
    refine R7 0 rfl ?_
    refine T_load11 ?_
    refine V11 3 0 4 rfl rfl rfl rfl ?_
    refine R4 (cI (2 * t.val + 2)) 4 (off7 t 4) ?_
    refine R7 0 rfl ?_
    refine T_load11 ?_
    refine V11 4 0 5 rfl rfl rfl rfl ?_
    refine R4 (cI (2 * t.val + 2)) 5 (off7 t 5) ?_
    refine R7 0 rfl ?_
    refine T_load11 ?_
    refine V11 5 0 6 rfl rfl rfl rfl ?_
    refine R4 (cI (2 * t.val + 2)) 6 (off7 t 6) ?_
    refine R7 0 rfl ?_
    refine T_load11 ?_
    refine V11 6 0 7 rfl rfl rfl rfl ?_
    refine R4 (cI (2 * t.val + 2)) 7 (off7 t 7) ?_
    refine R7 0 rfl ?_
    refine T_load11 ?_
    refine V11 7 0 8 rfl rfl rfl rfl ?_
    refine T_load13 ?_
    refine V13cz (lT xk qa (cI (2 * t.val + 2))) rfl rfl ?_
    refine R4 (cI (2 * t.val + 2)) 0 (off7 t 0) ?_
    refine R7 1 rfl ?_
    refine T_load11 ?_
    refine V11 0 1 9 rfl rfl rfl rfl ?_
    refine R4 (cI (2 * t.val + 2)) 1 (off7 t 1) ?_
    refine R7 1 rfl ?_
    refine T_load11 ?_
    refine V11 1 1 10 rfl rfl rfl rfl ?_
    refine R4 (cI (2 * t.val + 2)) 2 (off7 t 2) ?_
    refine R7 1 rfl ?_
    refine T_load11 ?_
    refine V11 2 1 11 rfl rfl rfl rfl ?_
    refine R4 (cI (2 * t.val + 2)) 3 (off7 t 3) ?_
    refine R7 1 rfl ?_
    refine T_load11 ?_
    refine V11 3 1 12 rfl rfl rfl rfl ?_
    refine R4 (cI (2 * t.val + 2)) 4 (off7 t 4) ?_
    refine R7 1 rfl ?_
    refine T_load11 ?_
    refine V11 4 1 13 rfl rfl rfl rfl ?_
    refine R4 (cI (2 * t.val + 2)) 5 (off7 t 5) ?_
    refine R7 1 rfl ?_
    refine T_load11 ?_
    refine V11 5 1 14 rfl rfl rfl rfl ?_
    refine R4 (cI (2 * t.val + 2)) 6 (off7 t 6) ?_
    refine R7 1 rfl ?_
    refine T_load11 ?_
    refine V11 6 1 15 rfl rfl rfl rfl ?_
    refine R4 (cI (2 * t.val + 2)) 7 (off7 t 7) ?_
    refine R7 1 rfl ?_
    refine T_load11 ?_
    refine V11 7 1 16 rfl rfl rfl rfl ?_
    refine T_load13 ?_
    refine V13c 1 2 rfl rfl rfl rfl ?_
    refine R4 (cI (2 * t.val + 2)) 0 (off7 t 0) ?_
    refine R7 2 rfl ?_
    refine T_load11 ?_
    refine V11 0 2 17 rfl rfl rfl rfl ?_
    refine R4 (cI (2 * t.val + 2)) 1 (off7 t 1) ?_
    refine R7 2 rfl ?_
    refine T_load11 ?_
    refine V11 1 2 18 rfl rfl rfl rfl ?_
    refine R4 (cI (2 * t.val + 2)) 2 (off7 t 2) ?_
    refine R7 2 rfl ?_
    refine T_load11 ?_
    refine V11 2 2 19 rfl rfl rfl rfl ?_
    refine R4 (cI (2 * t.val + 2)) 3 (off7 t 3) ?_
    refine R7 2 rfl ?_
    refine T_load11 ?_
    refine V11 3 2 20 rfl rfl rfl rfl ?_
    refine R4 (cI (2 * t.val + 2)) 4 (off7 t 4) ?_
    refine R7 2 rfl ?_
    refine T_load11 ?_
    refine V11 4 2 21 rfl rfl rfl rfl ?_
    refine R4 (cI (2 * t.val + 2)) 5 (off7 t 5) ?_
    refine R7 2 rfl ?_
    refine T_load11 ?_
    refine V11 5 2 22 rfl rfl rfl rfl ?_
    refine R4 (cI (2 * t.val + 2)) 6 (off7 t 6) ?_
    refine R7 2 rfl ?_
    refine T_load11 ?_
    refine V11 6 2 23 rfl rfl rfl rfl ?_
    refine R4 (cI (2 * t.val + 2)) 7 (off7 t 7) ?_
    refine R7 2 rfl ?_
    refine T_load11 ?_
    refine V11 7 2 24 rfl rfl rfl rfl ?_
    refine T_load13 ?_
    refine V13c 2 3 rfl rfl rfl rfl ?_
    refine R4 (cI (2 * t.val + 2)) 0 (off7 t 0) ?_
    refine R7 3 rfl ?_
    refine T_load11 ?_
    refine V11 0 3 25 rfl rfl rfl rfl ?_
    refine R4 (cI (2 * t.val + 2)) 1 (off7 t 1) ?_
    refine R7 3 rfl ?_
    refine T_load11 ?_
    refine V11 1 3 26 rfl rfl rfl rfl ?_
    refine R4 (cI (2 * t.val + 2)) 2 (off7 t 2) ?_
    refine R7 3 rfl ?_
    refine T_load11 ?_
    refine V11 2 3 27 rfl rfl rfl rfl ?_
    refine R4 (cI (2 * t.val + 2)) 3 (off7 t 3) ?_
    refine R7 3 rfl ?_
    refine T_load11 ?_
    refine V11 3 3 28 rfl rfl rfl rfl ?_
    refine R4 (cI (2 * t.val + 2)) 4 (off7 t 4) ?_
    refine R7 3 rfl ?_
    refine T_load11 ?_
    refine V11 4 3 29 rfl rfl rfl rfl ?_
    refine R4 (cI (2 * t.val + 2)) 5 (off7 t 5) ?_
    refine R7 3 rfl ?_
    refine T_load11 ?_
    refine V11 5 3 30 rfl rfl rfl rfl ?_
    refine R4 (cI (2 * t.val + 2)) 6 (off7 t 6) ?_
    refine R7 3 rfl ?_
    refine T_load11 ?_
    refine V11 6 3 31 rfl rfl rfl rfl ?_
    refine R4 (cI (2 * t.val + 2)) 7 (off7 t 7) ?_
    refine R7 3 rfl ?_
    refine T_load11 ?_
    refine V11 7 3 32 rfl rfl rfl rfl ?_
    refine T_load13 ?_
    refine V13c 3 4 rfl rfl rfl rfl ?_
    refine R4 (cI (2 * t.val + 2)) 0 (off7 t 0) ?_
    refine R7 4 rfl ?_
    refine T_load11 ?_
    refine V11 0 4 33 rfl rfl rfl rfl ?_
    refine R4 (cI (2 * t.val + 2)) 1 (off7 t 1) ?_
    refine R7 4 rfl ?_
    refine T_load11 ?_
    refine V11 1 4 34 rfl rfl rfl rfl ?_
    refine R4 (cI (2 * t.val + 2)) 2 (off7 t 2) ?_
    refine R7 4 rfl ?_
    refine T_load11 ?_
    refine V11 2 4 35 rfl rfl rfl rfl ?_
    refine R4 (cI (2 * t.val + 2)) 3 (off7 t 3) ?_
    refine R7 4 rfl ?_
    refine T_load11 ?_
    refine V11 3 4 36 rfl rfl rfl rfl ?_
    refine R4 (cI (2 * t.val + 2)) 4 (off7 t 4) ?_
    refine R7 4 rfl ?_
    refine T_load11 ?_
    refine V11 4 4 37 rfl rfl rfl rfl ?_
    refine R4 (cI (2 * t.val + 2)) 5 (off7 t 5) ?_
    refine R7 4 rfl ?_
    refine T_load11 ?_
    refine V11 5 4 38 rfl rfl rfl rfl ?_
    refine R4 (cI (2 * t.val + 2)) 6 (off7 t 6) ?_
    refine R7 4 rfl ?_
    refine T_load11 ?_
    refine V11 6 4 39 rfl rfl rfl rfl ?_
    refine R4 (cI (2 * t.val + 2)) 7 (off7 t 7) ?_
    refine R7 4 rfl ?_
    refine T_load11 ?_
    refine V11 7 4 40 rfl rfl rfl rfl ?_
    refine T_load13 ?_
    refine V13c 4 5 rfl rfl rfl rfl ?_
    refine R4 (cI (2 * t.val + 2)) 0 (off7 t 0) ?_
    refine R7 5 rfl ?_
    refine T_load11 ?_
    refine V11 0 5 41 rfl rfl rfl rfl ?_
    refine R4 (cI (2 * t.val + 2)) 1 (off7 t 1) ?_
    refine R7 5 rfl ?_
    refine T_load11 ?_
    refine V11 1 5 42 rfl rfl rfl rfl ?_
    refine R4 (cI (2 * t.val + 2)) 2 (off7 t 2) ?_
    refine R7 5 rfl ?_
    refine T_load11 ?_
    refine V11 2 5 43 rfl rfl rfl rfl ?_
    refine R4 (cI (2 * t.val + 2)) 3 (off7 t 3) ?_
    refine R7 5 rfl ?_
    refine T_load11 ?_
    refine V11 3 5 44 rfl rfl rfl rfl ?_
    refine R4 (cI (2 * t.val + 2)) 4 (off7 t 4) ?_
    refine R7 5 rfl ?_
    refine T_load11 ?_
    refine V11 4 5 45 rfl rfl rfl rfl ?_
    refine R4 (cI (2 * t.val + 2)) 5 (off7 t 5) ?_
    refine R7 5 rfl ?_
    refine T_load11 ?_
    refine V11 5 5 46 rfl rfl rfl rfl ?_
    refine R4 (cI (2 * t.val + 2)) 6 (off7 t 6) ?_
    refine R7 5 rfl ?_
    refine T_load11 ?_
    refine V11 6 5 47 rfl rfl rfl rfl ?_
    refine R4 (cI (2 * t.val + 2)) 7 (off7 t 7) ?_
    refine R7 5 rfl ?_
    refine T_load11 ?_
    refine V11 7 5 48 rfl rfl rfl rfl ?_
    refine T_load13 ?_
    refine V13c 5 6 rfl rfl rfl rfl ?_
    refine R4 (cI (2 * t.val + 2)) 0 (off7 t 0) ?_
    refine R7 6 rfl ?_
    refine T_load11 ?_
    refine V11 0 6 49 rfl rfl rfl rfl ?_
    refine R4 (cI (2 * t.val + 2)) 1 (off7 t 1) ?_
    refine R7 6 rfl ?_
    refine T_load11 ?_
    refine V11 1 6 50 rfl rfl rfl rfl ?_
    refine R4 (cI (2 * t.val + 2)) 2 (off7 t 2) ?_
    refine R7 6 rfl ?_
    refine T_load11 ?_
    refine V11 2 6 51 rfl rfl rfl rfl ?_
    refine R4 (cI (2 * t.val + 2)) 3 (off7 t 3) ?_
    refine R7 6 rfl ?_
    refine T_load11 ?_
    refine V11 3 6 52 rfl rfl rfl rfl ?_
    refine R4 (cI (2 * t.val + 2)) 4 (off7 t 4) ?_
    refine R7 6 rfl ?_
    refine T_load11 ?_
    refine V11 4 6 53 rfl rfl rfl rfl ?_
    refine R4 (cI (2 * t.val + 2)) 5 (off7 t 5) ?_
    refine R7 6 rfl ?_
    refine T_load11 ?_
    refine V11 5 6 54 rfl rfl rfl rfl ?_
    refine R4 (cI (2 * t.val + 2)) 6 (off7 t 6) ?_
    refine R7 6 rfl ?_
    refine T_load11 ?_
    refine V11 6 6 55 rfl rfl rfl rfl ?_
    refine R4 (cI (2 * t.val + 2)) 7 (off7 t 7) ?_
    refine R7 6 rfl ?_
    refine T_load11 ?_
    refine V11 7 6 56 rfl rfl rfl rfl ?_
    refine T_load13 ?_
    refine V13c 6 7 rfl rfl rfl rfl ?_
    refine R4 (cI (2 * t.val + 2)) 0 (off7 t 0) ?_
    refine R7 7 rfl ?_
    refine T_load11 ?_
    refine V11 0 7 57 rfl rfl rfl rfl ?_
    refine R4 (cI (2 * t.val + 2)) 1 (off7 t 1) ?_
    refine R7 7 rfl ?_
    refine T_load11 ?_
    refine V11 1 7 58 rfl rfl rfl rfl ?_
    refine R4 (cI (2 * t.val + 2)) 2 (off7 t 2) ?_
    refine R7 7 rfl ?_
    refine T_load11 ?_
    refine V11 2 7 59 rfl rfl rfl rfl ?_
    refine R4 (cI (2 * t.val + 2)) 3 (off7 t 3) ?_
    refine R7 7 rfl ?_
    refine T_load11 ?_
    refine V11 3 7 60 rfl rfl rfl rfl ?_
    refine R4 (cI (2 * t.val + 2)) 4 (off7 t 4) ?_
    refine R7 7 rfl ?_
    refine T_load11 ?_
    refine V11 4 7 61 rfl rfl rfl rfl ?_
    refine R4 (cI (2 * t.val + 2)) 5 (off7 t 5) ?_
    refine R7 7 rfl ?_
    refine T_load11 ?_
    refine V11 5 7 62 rfl rfl rfl rfl ?_
    refine R4 (cI (2 * t.val + 2)) 6 (off7 t 6) ?_
    refine R7 7 rfl ?_
    refine T_load11 ?_
    refine V11 6 7 63 rfl rfl rfl rfl ?_
    refine R4 (cI (2 * t.val + 2)) 7 (off7 t 7) ?_
    refine R7 7 rfl ?_
    refine T_load11 ?_
    refine V11l rfl rfl ?_
    refine T_load13 ?_
    refine V13cl rfl rfl ?_
    refine T_if (fun s => ∃ (qa : Vec F S256x2048 .bf16) (xm : Vec F S1x2048 .f32) (acc : Vec F S128x2048 .f32) (xl : Vec F S8x2048 .f32) (p1 : Vec F S2048x2048 .bf16) (ls1 : Vec F S8x2048 .f32), s = ⟨xq, xk, xv, xo, qa, xm, acc, xl, full (pT xk qa (cI (2 * t.val + 2))), p1, fullL (lT xk qa (cI (2 * t.val + 2))), ls1⟩ ∧ I (2 * t.val + 2) qa xm acc xl) ⟨_, _, _, _, _, _, rfl, h⟩ ?_ ?_
    rotate_left
    · intro hR
      refine W8 ?_
      refine W9 ?_
      refine W9 ?_
      refine V9 (shapeCast S128x2048 (mulf acc (broadcastTo S128x2048 (shrink xm (newM xm (up (mA xk qa (cI (2 * t.val + 2)))))) broadcasts_S1x2048_S128x2048)) shapeCasts_S128x2048_S128x2048) rfl ?_
      refine W10 ?_
      refine W10 ?_
      refine V10 (shapeCast S8x2048 (mulf xl (broadcastTo S8x2048 (shrink xm (newM xm (up (mA xk qa (cI (2 * t.val + 2)))))) broadcasts_S1x2048_S8x2048)) shapeCasts_S8x2048_S8x2048) rfl ?_
      refine W8 ?_
      refine V8 (shapeCast S1x2048 (newM xm (up (mA xk qa (cI (2 * t.val + 2))))) shapeCasts_S1x2048_S1x2048) rfl ?_
      refine T_load7 ?_
      refine V7rows (stabRows (newM xm (up (mA xk qa (cI (2 * t.val + 2)))))) rfl ?_
      refine R4 (cI (2 * t.val + 2)) 0 (off8 t 0) ?_
      refine R7 0 rfl ?_
      refine T_load11 ?_
      refine V11z (pT xk (setRows qa (stabRows (newM xm (up (mA xk qa (cI (2 * t.val + 2))))))) (cI (2 * t.val + 2))) rfl rfl ?_
      refine R4 (cI (2 * t.val + 2)) 1 (off8 t 1) ?_
      refine R7 0 rfl ?_
      refine T_load11 ?_
      refine V11 1 0 2 rfl rfl rfl rfl ?_
      refine R4 (cI (2 * t.val + 2)) 2 (off8 t 2) ?_
      refine R7 0 rfl ?_
      refine T_load11 ?_
      refine V11 2 0 3 rfl rfl rfl rfl ?_
      refine R4 (cI (2 * t.val + 2)) 3 (off8 t 3) ?_
      refine R7 0 rfl ?_
      refine T_load11 ?_
      refine V11 3 0 4 rfl rfl rfl rfl ?_
      refine R4 (cI (2 * t.val + 2)) 4 (off8 t 4) ?_
      refine R7 0 rfl ?_
      refine T_load11 ?_
      refine V11 4 0 5 rfl rfl rfl rfl ?_
      refine R4 (cI (2 * t.val + 2)) 5 (off8 t 5) ?_
      refine R7 0 rfl ?_
      refine T_load11 ?_
      refine V11 5 0 6 rfl rfl rfl rfl ?_
      refine R4 (cI (2 * t.val + 2)) 6 (off8 t 6) ?_
      refine R7 0 rfl ?_
      refine T_load11 ?_
      refine V11 6 0 7 rfl rfl rfl rfl ?_
      refine R4 (cI (2 * t.val + 2)) 7 (off8 t 7) ?_
      refine R7 0 rfl ?_
      refine T_load11 ?_
      refine V11 7 0 8 rfl rfl rfl rfl ?_
      refine T_load13 ?_
      refine V13cz (lT xk (setRows qa (stabRows (newM xm (up (mA xk qa (cI (2 * t.val + 2))))))) (cI (2 * t.val + 2))) rfl rfl ?_
      refine R4 (cI (2 * t.val + 2)) 0 (off8 t 0) ?_
      refine R7 1 rfl ?_
      refine T_load11 ?_
      refine V11 0 1 9 rfl rfl rfl rfl ?_
      refine R4 (cI (2 * t.val + 2)) 1 (off8 t 1) ?_
      refine R7 1 rfl ?_
      refine T_load11 ?_
      refine V11 1 1 10 rfl rfl rfl rfl ?_
      refine R4 (cI (2 * t.val + 2)) 2 (off8 t 2) ?_
      refine R7 1 rfl ?_
      refine T_load11 ?_
      refine V11 2 1 11 rfl rfl rfl rfl ?_
      refine R4 (cI (2 * t.val + 2)) 3 (off8 t 3) ?_
      refine R7 1 rfl ?_
      refine T_load11 ?_
      refine V11 3 1 12 rfl rfl rfl rfl ?_
      refine R4 (cI (2 * t.val + 2)) 4 (off8 t 4) ?_
      refine R7 1 rfl ?_
      refine T_load11 ?_
      refine V11 4 1 13 rfl rfl rfl rfl ?_
      refine R4 (cI (2 * t.val + 2)) 5 (off8 t 5) ?_
      refine R7 1 rfl ?_
      refine T_load11 ?_
      refine V11 5 1 14 rfl rfl rfl rfl ?_
      refine R4 (cI (2 * t.val + 2)) 6 (off8 t 6) ?_
      refine R7 1 rfl ?_
      refine T_load11 ?_
      refine V11 6 1 15 rfl rfl rfl rfl ?_
      refine R4 (cI (2 * t.val + 2)) 7 (off8 t 7) ?_
      refine R7 1 rfl ?_
      refine T_load11 ?_
      refine V11 7 1 16 rfl rfl rfl rfl ?_
      refine T_load13 ?_
      refine V13c 1 2 rfl rfl rfl rfl ?_
      refine R4 (cI (2 * t.val + 2)) 0 (off8 t 0) ?_
      refine R7 2 rfl ?_
      refine T_load11 ?_
      refine V11 0 2 17 rfl rfl rfl rfl ?_
      refine R4 (cI (2 * t.val + 2)) 1 (off8 t 1) ?_
      refine R7 2 rfl ?_
      refine T_load11 ?_
      refine V11 1 2 18 rfl rfl rfl rfl ?_
      refine R4 (cI (2 * t.val + 2)) 2 (off8 t 2) ?_
      refine R7 2 rfl ?_
      refine T_load11 ?_
      refine V11 2 2 19 rfl rfl rfl rfl ?_
      refine R4 (cI (2 * t.val + 2)) 3 (off8 t 3) ?_
      refine R7 2 rfl ?_
      refine T_load11 ?_
      refine V11 3 2 20 rfl rfl rfl rfl ?_
      refine R4 (cI (2 * t.val + 2)) 4 (off8 t 4) ?_
      refine R7 2 rfl ?_
      refine T_load11 ?_
      refine V11 4 2 21 rfl rfl rfl rfl ?_
      refine R4 (cI (2 * t.val + 2)) 5 (off8 t 5) ?_
      refine R7 2 rfl ?_
      refine T_load11 ?_
      refine V11 5 2 22 rfl rfl rfl rfl ?_
      refine R4 (cI (2 * t.val + 2)) 6 (off8 t 6) ?_
      refine R7 2 rfl ?_
      refine T_load11 ?_
      refine V11 6 2 23 rfl rfl rfl rfl ?_
      refine R4 (cI (2 * t.val + 2)) 7 (off8 t 7) ?_
      refine R7 2 rfl ?_
      refine T_load11 ?_
      refine V11 7 2 24 rfl rfl rfl rfl ?_
      refine T_load13 ?_
      refine V13c 2 3 rfl rfl rfl rfl ?_
      refine R4 (cI (2 * t.val + 2)) 0 (off8 t 0) ?_
      refine R7 3 rfl ?_
      refine T_load11 ?_
      refine V11 0 3 25 rfl rfl rfl rfl ?_
      refine R4 (cI (2 * t.val + 2)) 1 (off8 t 1) ?_
      refine R7 3 rfl ?_
      refine T_load11 ?_
      refine V11 1 3 26 rfl rfl rfl rfl ?_
      refine R4 (cI (2 * t.val + 2)) 2 (off8 t 2) ?_
      refine R7 3 rfl ?_
      refine T_load11 ?_
      refine V11 2 3 27 rfl rfl rfl rfl ?_
      refine R4 (cI (2 * t.val + 2)) 3 (off8 t 3) ?_
      refine R7 3 rfl ?_
      refine T_load11 ?_
      refine V11 3 3 28 rfl rfl rfl rfl ?_
      refine R4 (cI (2 * t.val + 2)) 4 (off8 t 4) ?_
      refine R7 3 rfl ?_
      refine T_load11 ?_
      refine V11 4 3 29 rfl rfl rfl rfl ?_
      refine R4 (cI (2 * t.val + 2)) 5 (off8 t 5) ?_
      refine R7 3 rfl ?_
      refine T_load11 ?_
      refine V11 5 3 30 rfl rfl rfl rfl ?_
      refine R4 (cI (2 * t.val + 2)) 6 (off8 t 6) ?_
      refine R7 3 rfl ?_
      refine T_load11 ?_
      refine V11 6 3 31 rfl rfl rfl rfl ?_
      refine R4 (cI (2 * t.val + 2)) 7 (off8 t 7) ?_
      refine R7 3 rfl ?_
      refine T_load11 ?_
      refine V11 7 3 32 rfl rfl rfl rfl ?_
      refine T_load13 ?_
      refine V13c 3 4 rfl rfl rfl rfl ?_
      refine R4 (cI (2 * t.val + 2)) 0 (off8 t 0) ?_
      refine R7 4 rfl ?_
      refine T_load11 ?_
      refine V11 0 4 33 rfl rfl rfl rfl ?_
      refine R4 (cI (2 * t.val + 2)) 1 (off8 t 1) ?_
      refine R7 4 rfl ?_
      refine T_load11 ?_
      refine V11 1 4 34 rfl rfl rfl rfl ?_
      refine R4 (cI (2 * t.val + 2)) 2 (off8 t 2) ?_
      refine R7 4 rfl ?_
      refine T_load11 ?_
      refine V11 2 4 35 rfl rfl rfl rfl ?_
      refine R4 (cI (2 * t.val + 2)) 3 (off8 t 3) ?_
      refine R7 4 rfl ?_
      refine T_load11 ?_
      refine V11 3 4 36 rfl rfl rfl rfl ?_
      refine R4 (cI (2 * t.val + 2)) 4 (off8 t 4) ?_
      refine R7 4 rfl ?_
      refine T_load11 ?_
      refine V11 4 4 37 rfl rfl rfl rfl ?_
      refine R4 (cI (2 * t.val + 2)) 5 (off8 t 5) ?_
      refine R7 4 rfl ?_
      refine T_load11 ?_
      refine V11 5 4 38 rfl rfl rfl rfl ?_
      refine R4 (cI (2 * t.val + 2)) 6 (off8 t 6) ?_
      refine R7 4 rfl ?_
      refine T_load11 ?_
      refine V11 6 4 39 rfl rfl rfl rfl ?_
      refine R4 (cI (2 * t.val + 2)) 7 (off8 t 7) ?_
      refine R7 4 rfl ?_
      refine T_load11 ?_
      refine V11 7 4 40 rfl rfl rfl rfl ?_
      refine T_load13 ?_
      refine V13c 4 5 rfl rfl rfl rfl ?_
      refine R4 (cI (2 * t.val + 2)) 0 (off8 t 0) ?_
      refine R7 5 rfl ?_
      refine T_load11 ?_
      refine V11 0 5 41 rfl rfl rfl rfl ?_
      refine R4 (cI (2 * t.val + 2)) 1 (off8 t 1) ?_
      refine R7 5 rfl ?_
      refine T_load11 ?_
      refine V11 1 5 42 rfl rfl rfl rfl ?_
      refine R4 (cI (2 * t.val + 2)) 2 (off8 t 2) ?_
      refine R7 5 rfl ?_
      refine T_load11 ?_
      refine V11 2 5 43 rfl rfl rfl rfl ?_
      refine R4 (cI (2 * t.val + 2)) 3 (off8 t 3) ?_
      refine R7 5 rfl ?_
      refine T_load11 ?_
      refine V11 3 5 44 rfl rfl rfl rfl ?_
      refine R4 (cI (2 * t.val + 2)) 4 (off8 t 4) ?_
      refine R7 5 rfl ?_
      refine T_load11 ?_
      refine V11 4 5 45 rfl rfl rfl rfl ?_
      refine R4 (cI (2 * t.val + 2)) 5 (off8 t 5) ?_
      refine R7 5 rfl ?_
      refine T_load11 ?_
      refine V11 5 5 46 rfl rfl rfl rfl ?_
      refine R4 (cI (2 * t.val + 2)) 6 (off8 t 6) ?_
      refine R7 5 rfl ?_
      refine T_load11 ?_
      refine V11 6 5 47 rfl rfl rfl rfl ?_
      refine R4 (cI (2 * t.val + 2)) 7 (off8 t 7) ?_
      refine R7 5 rfl ?_
      refine T_load11 ?_
      refine V11 7 5 48 rfl rfl rfl rfl ?_
      refine T_load13 ?_
      refine V13c 5 6 rfl rfl rfl rfl ?_
      refine R4 (cI (2 * t.val + 2)) 0 (off8 t 0) ?_
      refine R7 6 rfl ?_
      refine T_load11 ?_
      refine V11 0 6 49 rfl rfl rfl rfl ?_
      refine R4 (cI (2 * t.val + 2)) 1 (off8 t 1) ?_
      refine R7 6 rfl ?_
      refine T_load11 ?_
      refine V11 1 6 50 rfl rfl rfl rfl ?_
      refine R4 (cI (2 * t.val + 2)) 2 (off8 t 2) ?_
      refine R7 6 rfl ?_
      refine T_load11 ?_
      refine V11 2 6 51 rfl rfl rfl rfl ?_
      refine R4 (cI (2 * t.val + 2)) 3 (off8 t 3) ?_
      refine R7 6 rfl ?_
      refine T_load11 ?_
      refine V11 3 6 52 rfl rfl rfl rfl ?_
      refine R4 (cI (2 * t.val + 2)) 4 (off8 t 4) ?_
      refine R7 6 rfl ?_
      refine T_load11 ?_
      refine V11 4 6 53 rfl rfl rfl rfl ?_
      refine R4 (cI (2 * t.val + 2)) 5 (off8 t 5) ?_
      refine R7 6 rfl ?_
      refine T_load11 ?_
      refine V11 5 6 54 rfl rfl rfl rfl ?_
      refine R4 (cI (2 * t.val + 2)) 6 (off8 t 6) ?_
      refine R7 6 rfl ?_
      refine T_load11 ?_
      refine V11 6 6 55 rfl rfl rfl rfl ?_
      refine R4 (cI (2 * t.val + 2)) 7 (off8 t 7) ?_
      refine R7 6 rfl ?_
      refine T_load11 ?_
      refine V11 7 6 56 rfl rfl rfl rfl ?_
      refine T_load13 ?_
      refine V13c 6 7 rfl rfl rfl rfl ?_
      refine R4 (cI (2 * t.val + 2)) 0 (off8 t 0) ?_
      refine R7 7 rfl ?_
      refine T_load11 ?_
      refine V11 0 7 57 rfl rfl rfl rfl ?_
      refine R4 (cI (2 * t.val + 2)) 1 (off8 t 1) ?_
      refine R7 7 rfl ?_
      refine T_load11 ?_
      refine V11 1 7 58 rfl rfl rfl rfl ?_
      refine R4 (cI (2 * t.val + 2)) 2 (off8 t 2) ?_
      refine R7 7 rfl ?_
      refine T_load11 ?_
      refine V11 2 7 59 rfl rfl rfl rfl ?_
      refine R4 (cI (2 * t.val + 2)) 3 (off8 t 3) ?_
      refine R7 7 rfl ?_
      refine T_load11 ?_
      refine V11 3 7 60 rfl rfl rfl rfl ?_
      refine R4 (cI (2 * t.val + 2)) 4 (off8 t 4) ?_
      refine R7 7 rfl ?_
      refine T_load11 ?_
      refine V11 4 7 61 rfl rfl rfl rfl ?_
      refine R4 (cI (2 * t.val + 2)) 5 (off8 t 5) ?_
      refine R7 7 rfl ?_
      refine T_load11 ?_
      refine V11 5 7 62 rfl rfl rfl rfl ?_
      refine R4 (cI (2 * t.val + 2)) 6 (off8 t 6) ?_
      refine R7 7 rfl ?_
      refine T_load11 ?_
      refine V11 6 7 63 rfl rfl rfl rfl ?_
      refine R4 (cI (2 * t.val + 2)) 7 (off8 t 7) ?_
      refine R7 7 rfl ?_
      refine T_load11 ?_
      refine V11l rfl rfl ?_
      refine T_load13 ?_
      refine V13cl rfl rfl ?_
      exact hR _ ⟨_, _, _, _, _, _, rfl, hI.rescale _ _ _ _ _ (by omega) h⟩
    rintro s ⟨qa, xm, acc, xl, p1, ls1, rfl, h⟩
    refine T_ret ?_
    exact ⟨_, _, _, _, _, _, rfl, h⟩
  rintro s ⟨qa, xm, acc, xl, p1, ls1, rfl, h⟩
  change I 6 _ _ _ _ at h
  refine R5 (cI 6) 0 (rfl) ?_
  refine R11 0 0 rfl ?_
  refine R5 (cI 6) 1 (rfl) ?_
  refine R11 1 0 rfl ?_
  refine R5 (cI 6) 2 (rfl) ?_
  refine R11 2 0 rfl ?_
  refine R5 (cI 6) 3 (rfl) ?_
  refine R11 3 0 rfl ?_
  refine R5 (cI 6) 4 (rfl) ?_
  refine R11 4 0 rfl ?_
  refine R5 (cI 6) 5 (rfl) ?_
  refine R11 5 0 rfl ?_
  refine R5 (cI 6) 6 (rfl) ?_
  refine R11 6 0 rfl ?_
  refine R5 (cI 6) 7 (rfl) ?_
  refine R11 7 0 rfl ?_
  refine R9z rfl ?_
  refine T_load9 ?_
  refine V9cz (aT xk xv qa acc (cI 6)) rfl rfl ?_
  refine R5 (cI 6) 0 (rfl) ?_
  refine R11 0 1 rfl ?_
  refine R5 (cI 6) 1 (rfl) ?_
  refine R11 1 1 rfl ?_
  refine R5 (cI 6) 2 (rfl) ?_
  refine R11 2 1 rfl ?_
  refine R5 (cI 6) 3 (rfl) ?_
  refine R11 3 1 rfl ?_
  refine R5 (cI 6) 4 (rfl) ?_
  refine R11 4 1 rfl ?_
  refine R5 (cI 6) 5 (rfl) ?_
  refine R11 5 1 rfl ?_
  refine R5 (cI 6) 6 (rfl) ?_
  refine R11 6 1 rfl ?_
  refine R5 (cI 6) 7 (rfl) ?_
  refine R11 7 1 rfl ?_
  refine R9 1 rfl ?_
  refine T_load9 ?_
  refine V9c 1 2 rfl rfl rfl rfl ?_
  refine R5 (cI 6) 0 (rfl) ?_
  refine R11 0 2 rfl ?_
  refine R5 (cI 6) 1 (rfl) ?_
  refine R11 1 2 rfl ?_
  refine R5 (cI 6) 2 (rfl) ?_
  refine R11 2 2 rfl ?_
  refine R5 (cI 6) 3 (rfl) ?_
  refine R11 3 2 rfl ?_
  refine R5 (cI 6) 4 (rfl) ?_
  refine R11 4 2 rfl ?_
  refine R5 (cI 6) 5 (rfl) ?_
  refine R11 5 2 rfl ?_
  refine R5 (cI 6) 6 (rfl) ?_
  refine R11 6 2 rfl ?_
  refine R5 (cI 6) 7 (rfl) ?_
  refine R11 7 2 rfl ?_
  refine R9 2 rfl ?_
  refine T_load9 ?_
  refine V9c 2 3 rfl rfl rfl rfl ?_
  refine R5 (cI 6) 0 (rfl) ?_
  refine R11 0 3 rfl ?_
  refine R5 (cI 6) 1 (rfl) ?_
  refine R11 1 3 rfl ?_
  refine R5 (cI 6) 2 (rfl) ?_
  refine R11 2 3 rfl ?_
  refine R5 (cI 6) 3 (rfl) ?_
  refine R11 3 3 rfl ?_
  refine R5 (cI 6) 4 (rfl) ?_
  refine R11 4 3 rfl ?_
  refine R5 (cI 6) 5 (rfl) ?_
  refine R11 5 3 rfl ?_
  refine R5 (cI 6) 6 (rfl) ?_
  refine R11 6 3 rfl ?_
  refine R5 (cI 6) 7 (rfl) ?_
  refine R11 7 3 rfl ?_
  refine R9 3 rfl ?_
  refine T_load9 ?_
  refine V9c 3 4 rfl rfl rfl rfl ?_
  refine R5 (cI 6) 0 (rfl) ?_
  refine R11 0 4 rfl ?_
  refine R5 (cI 6) 1 (rfl) ?_
  refine R11 1 4 rfl ?_
  refine R5 (cI 6) 2 (rfl) ?_
  refine R11 2 4 rfl ?_
  refine R5 (cI 6) 3 (rfl) ?_
  refine R11 3 4 rfl ?_
  refine R5 (cI 6) 4 (rfl) ?_
  refine R11 4 4 rfl ?_
  refine R5 (cI 6) 5 (rfl) ?_
  refine R11 5 4 rfl ?_
  refine R5 (cI 6) 6 (rfl) ?_
  refine R11 6 4 rfl ?_
  refine R5 (cI 6) 7 (rfl) ?_
  refine R11 7 4 rfl ?_
  refine R9 4 rfl ?_
  refine T_load9 ?_
  refine V9c 4 5 rfl rfl rfl rfl ?_
  refine R5 (cI 6) 0 (rfl) ?_
  refine R11 0 5 rfl ?_
  refine R5 (cI 6) 1 (rfl) ?_
  refine R11 1 5 rfl ?_
  refine R5 (cI 6) 2 (rfl) ?_
  refine R11 2 5 rfl ?_
  refine R5 (cI 6) 3 (rfl) ?_
  refine R11 3 5 rfl ?_
  refine R5 (cI 6) 4 (rfl) ?_
  refine R11 4 5 rfl ?_
  refine R5 (cI 6) 5 (rfl) ?_
  refine R11 5 5 rfl ?_
  refine R5 (cI 6) 6 (rfl) ?_
  refine R11 6 5 rfl ?_
  refine R5 (cI 6) 7 (rfl) ?_
  refine R11 7 5 rfl ?_
  refine R9 5 rfl ?_
  refine T_load9 ?_
  refine V9c 5 6 rfl rfl rfl rfl ?_
  refine R5 (cI 6) 0 (rfl) ?_
  refine R11 0 6 rfl ?_
  refine R5 (cI 6) 1 (rfl) ?_
  refine R11 1 6 rfl ?_
  refine R5 (cI 6) 2 (rfl) ?_
  refine R11 2 6 rfl ?_
  refine R5 (cI 6) 3 (rfl) ?_
  refine R11 3 6 rfl ?_
  refine R5 (cI 6) 4 (rfl) ?_
  refine R11 4 6 rfl ?_
  refine R5 (cI 6) 5 (rfl) ?_
  refine R11 5 6 rfl ?_
  refine R5 (cI 6) 6 (rfl) ?_
  refine R11 6 6 rfl ?_
  refine R5 (cI 6) 7 (rfl) ?_
  refine R11 7 6 rfl ?_
  refine R9 6 rfl ?_
  refine T_load9 ?_
  refine V9c 6 7 rfl rfl rfl rfl ?_
  refine R5 (cI 6) 0 (rfl) ?_
  refine R11 0 7 rfl ?_
  refine R5 (cI 6) 1 (rfl) ?_
  refine R11 1 7 rfl ?_
  refine R5 (cI 6) 2 (rfl) ?_
  refine R11 2 7 rfl ?_
  refine R5 (cI 6) 3 (rfl) ?_
  refine R11 3 7 rfl ?_
  refine R5 (cI 6) 4 (rfl) ?_
  refine R11 4 7 rfl ?_
  refine R5 (cI 6) 5 (rfl) ?_
  refine R11 5 7 rfl ?_
  refine R5 (cI 6) 6 (rfl) ?_
  refine R11 6 7 rfl ?_
  refine R5 (cI 6) 7 (rfl) ?_
  refine R11 7 7 rfl ?_
  refine R9 7 rfl ?_
  refine T_load9 ?_
  refine V9cl rfl rfl ?_
  refine W10 ?_
  refine W13 ?_
  refine W10 ?_
  refine V10 (shapeCast S8x2048 (addf xl (fullL (lT xk qa (cI 6)))) shapeCasts_S8x2048_S8x2048) rfl ?_
  replace h := hI.add _ _ _ _ _ (by omega) h
  generalize fullA (aT xk xv qa acc (cI 6)) = acc at h ⊢
  generalize shapeCast S8x2048 (addf xl (fullL (lT xk qa (cI 6)))) shapeCasts_S8x2048_S8x2048 = xl at h ⊢
  refine R4 (cI 7) 0 (rfl) ?_
  refine R7 0 rfl ?_
  refine T_load12 ?_
  refine V12z (pT xk qa (cI 7)) rfl rfl ?_
  refine R4 (cI 7) 1 (rfl) ?_
  refine R7 0 rfl ?_
  refine T_load12 ?_
  refine V12 1 0 2 rfl rfl rfl rfl ?_
  refine R4 (cI 7) 2 (rfl) ?_
  refine R7 0 rfl ?_
  refine T_load12 ?_
  refine V12 2 0 3 rfl rfl rfl rfl ?_
  refine R4 (cI 7) 3 (rfl) ?_
  refine R7 0 rfl ?_
  refine T_load12 ?_
  refine V12 3 0 4 rfl rfl rfl rfl ?_
  refine R4 (cI 7) 4 (rfl) ?_
  refine R7 0 rfl ?_
  refine T_load12 ?_
  refine V12 4 0 5 rfl rfl rfl rfl ?_
  refine R4 (cI 7) 5 (rfl) ?_
  refine R7 0 rfl ?_
  refine T_load12 ?_
  refine V12 5 0 6 rfl rfl rfl rfl ?_
  refine R4 (cI 7) 6 (rfl) ?_
  refine R7 0 rfl ?_
  refine T_load12 ?_
  refine V12 6 0 7 rfl rfl rfl rfl ?_
  refine R4 (cI 7) 7 (rfl) ?_
  refine R7 0 rfl ?_
  refine T_load12 ?_
  refine V12 7 0 8 rfl rfl rfl rfl ?_
  refine T_load14 ?_
  refine V14cz (lT xk qa (cI 7)) rfl rfl ?_
  refine R4 (cI 7) 0 (rfl) ?_
  refine R7 1 rfl ?_
  refine T_load12 ?_
  refine V12 0 1 9 rfl rfl rfl rfl ?_
  refine R4 (cI 7) 1 (rfl) ?_
  refine R7 1 rfl ?_
  refine T_load12 ?_
  refine V12 1 1 10 rfl rfl rfl rfl ?_
  refine R4 (cI 7) 2 (rfl) ?_
  refine R7 1 rfl ?_
  refine T_load12 ?_
  refine V12 2 1 11 rfl rfl rfl rfl ?_
  refine R4 (cI 7) 3 (rfl) ?_
  refine R7 1 rfl ?_
  refine T_load12 ?_
  refine V12 3 1 12 rfl rfl rfl rfl ?_
  refine R4 (cI 7) 4 (rfl) ?_
  refine R7 1 rfl ?_
  refine T_load12 ?_
  refine V12 4 1 13 rfl rfl rfl rfl ?_
  refine R4 (cI 7) 5 (rfl) ?_
  refine R7 1 rfl ?_
  refine T_load12 ?_
  refine V12 5 1 14 rfl rfl rfl rfl ?_
  refine R4 (cI 7) 6 (rfl) ?_
  refine R7 1 rfl ?_
  refine T_load12 ?_
  refine V12 6 1 15 rfl rfl rfl rfl ?_
  refine R4 (cI 7) 7 (rfl) ?_
  refine R7 1 rfl ?_
  refine T_load12 ?_
  refine V12 7 1 16 rfl rfl rfl rfl ?_
  refine T_load14 ?_
  refine V14c 1 2 rfl rfl rfl rfl ?_
  refine R4 (cI 7) 0 (rfl) ?_
  refine R7 2 rfl ?_
  refine T_load12 ?_
  refine V12 0 2 17 rfl rfl rfl rfl ?_
  refine R4 (cI 7) 1 (rfl) ?_
  refine R7 2 rfl ?_
  refine T_load12 ?_
  refine V12 1 2 18 rfl rfl rfl rfl ?_
  refine R4 (cI 7) 2 (rfl) ?_
  refine R7 2 rfl ?_
  refine T_load12 ?_
  refine V12 2 2 19 rfl rfl rfl rfl ?_
  refine R4 (cI 7) 3 (rfl) ?_
  refine R7 2 rfl ?_
  refine T_load12 ?_
  refine V12 3 2 20 rfl rfl rfl rfl ?_
  refine R4 (cI 7) 4 (rfl) ?_
  refine R7 2 rfl ?_
  refine T_load12 ?_
  refine V12 4 2 21 rfl rfl rfl rfl ?_
  refine R4 (cI 7) 5 (rfl) ?_
  refine R7 2 rfl ?_
  refine T_load12 ?_
  refine V12 5 2 22 rfl rfl rfl rfl ?_
  refine R4 (cI 7) 6 (rfl) ?_
  refine R7 2 rfl ?_
  refine T_load12 ?_
  refine V12 6 2 23 rfl rfl rfl rfl ?_
  refine R4 (cI 7) 7 (rfl) ?_
  refine R7 2 rfl ?_
  refine T_load12 ?_
  refine V12 7 2 24 rfl rfl rfl rfl ?_
  refine T_load14 ?_
  refine V14c 2 3 rfl rfl rfl rfl ?_
  refine R4 (cI 7) 0 (rfl) ?_
  refine R7 3 rfl ?_
  refine T_load12 ?_
  refine V12 0 3 25 rfl rfl rfl rfl ?_
  refine R4 (cI 7) 1 (rfl) ?_
  refine R7 3 rfl ?_
  refine T_load12 ?_
  refine V12 1 3 26 rfl rfl rfl rfl ?_
  refine R4 (cI 7) 2 (rfl) ?_
  refine R7 3 rfl ?_
  refine T_load12 ?_
  refine V12 2 3 27 rfl rfl rfl rfl ?_
  refine R4 (cI 7) 3 (rfl) ?_
  refine R7 3 rfl ?_
  refine T_load12 ?_
  refine V12 3 3 28 rfl rfl rfl rfl ?_
  refine R4 (cI 7) 4 (rfl) ?_
  refine R7 3 rfl ?_
  refine T_load12 ?_
  refine V12 4 3 29 rfl rfl rfl rfl ?_
  refine R4 (cI 7) 5 (rfl) ?_
  refine R7 3 rfl ?_
  refine T_load12 ?_
  refine V12 5 3 30 rfl rfl rfl rfl ?_
  refine R4 (cI 7) 6 (rfl) ?_
  refine R7 3 rfl ?_
  refine T_load12 ?_
  refine V12 6 3 31 rfl rfl rfl rfl ?_
  refine R4 (cI 7) 7 (rfl) ?_
  refine R7 3 rfl ?_
  refine T_load12 ?_
  refine V12 7 3 32 rfl rfl rfl rfl ?_
  refine T_load14 ?_
  refine V14c 3 4 rfl rfl rfl rfl ?_
  refine R4 (cI 7) 0 (rfl) ?_
  refine R7 4 rfl ?_
  refine T_load12 ?_
  refine V12 0 4 33 rfl rfl rfl rfl ?_
  refine R4 (cI 7) 1 (rfl) ?_
  refine R7 4 rfl ?_
  refine T_load12 ?_
  refine V12 1 4 34 rfl rfl rfl rfl ?_
  refine R4 (cI 7) 2 (rfl) ?_
  refine R7 4 rfl ?_
  refine T_load12 ?_
  refine V12 2 4 35 rfl rfl rfl rfl ?_
  refine R4 (cI 7) 3 (rfl) ?_
  refine R7 4 rfl ?_
  refine T_load12 ?_
  refine V12 3 4 36 rfl rfl rfl rfl ?_
  refine R4 (cI 7) 4 (rfl) ?_
  refine R7 4 rfl ?_
  refine T_load12 ?_
  refine V12 4 4 37 rfl rfl rfl rfl ?_
  refine R4 (cI 7) 5 (rfl) ?_
  refine R7 4 rfl ?_
  refine T_load12 ?_
  refine V12 5 4 38 rfl rfl rfl rfl ?_
  refine R4 (cI 7) 6 (rfl) ?_
  refine R7 4 rfl ?_
  refine T_load12 ?_
  refine V12 6 4 39 rfl rfl rfl rfl ?_
  refine R4 (cI 7) 7 (rfl) ?_
  refine R7 4 rfl ?_
  refine T_load12 ?_
  refine V12 7 4 40 rfl rfl rfl rfl ?_
  refine T_load14 ?_
  refine V14c 4 5 rfl rfl rfl rfl ?_
  refine R4 (cI 7) 0 (rfl) ?_
  refine R7 5 rfl ?_
  refine T_load12 ?_
  refine V12 0 5 41 rfl rfl rfl rfl ?_
  refine R4 (cI 7) 1 (rfl) ?_
  refine R7 5 rfl ?_
  refine T_load12 ?_
  refine V12 1 5 42 rfl rfl rfl rfl ?_
  refine R4 (cI 7) 2 (rfl) ?_
  refine R7 5 rfl ?_
  refine T_load12 ?_
  refine V12 2 5 43 rfl rfl rfl rfl ?_
  refine R4 (cI 7) 3 (rfl) ?_
  refine R7 5 rfl ?_
  refine T_load12 ?_
  refine V12 3 5 44 rfl rfl rfl rfl ?_
  refine R4 (cI 7) 4 (rfl) ?_
  refine R7 5 rfl ?_
  refine T_load12 ?_
  refine V12 4 5 45 rfl rfl rfl rfl ?_
  refine R4 (cI 7) 5 (rfl) ?_
  refine R7 5 rfl ?_
  refine T_load12 ?_
  refine V12 5 5 46 rfl rfl rfl rfl ?_
  refine R4 (cI 7) 6 (rfl) ?_
  refine R7 5 rfl ?_
  refine T_load12 ?_
  refine V12 6 5 47 rfl rfl rfl rfl ?_
  refine R4 (cI 7) 7 (rfl) ?_
  refine R7 5 rfl ?_
  refine T_load12 ?_
  refine V12 7 5 48 rfl rfl rfl rfl ?_
  refine T_load14 ?_
  refine V14c 5 6 rfl rfl rfl rfl ?_
  refine R4 (cI 7) 0 (rfl) ?_
  refine R7 6 rfl ?_
  refine T_load12 ?_
  refine V12 0 6 49 rfl rfl rfl rfl ?_
  refine R4 (cI 7) 1 (rfl) ?_
  refine R7 6 rfl ?_
  refine T_load12 ?_
  refine V12 1 6 50 rfl rfl rfl rfl ?_
  refine R4 (cI 7) 2 (rfl) ?_
  refine R7 6 rfl ?_
  refine T_load12 ?_
  refine V12 2 6 51 rfl rfl rfl rfl ?_
  refine R4 (cI 7) 3 (rfl) ?_
  refine R7 6 rfl ?_
  refine T_load12 ?_
  refine V12 3 6 52 rfl rfl rfl rfl ?_
  refine R4 (cI 7) 4 (rfl) ?_
  refine R7 6 rfl ?_
  refine T_load12 ?_
  refine V12 4 6 53 rfl rfl rfl rfl ?_
  refine R4 (cI 7) 5 (rfl) ?_
  refine R7 6 rfl ?_
  refine T_load12 ?_
  refine V12 5 6 54 rfl rfl rfl rfl ?_
  refine R4 (cI 7) 6 (rfl) ?_
  refine R7 6 rfl ?_
  refine T_load12 ?_
  refine V12 6 6 55 rfl rfl rfl rfl ?_
  refine R4 (cI 7) 7 (rfl) ?_
  refine R7 6 rfl ?_
  refine T_load12 ?_
  refine V12 7 6 56 rfl rfl rfl rfl ?_
  refine T_load14 ?_
  refine V14c 6 7 rfl rfl rfl rfl ?_
  refine R4 (cI 7) 0 (rfl) ?_
  refine R7 7 rfl ?_
  refine T_load12 ?_
  refine V12 0 7 57 rfl rfl rfl rfl ?_
  refine R4 (cI 7) 1 (rfl) ?_
  refine R7 7 rfl ?_
  refine T_load12 ?_
  refine V12 1 7 58 rfl rfl rfl rfl ?_
  refine R4 (cI 7) 2 (rfl) ?_
  refine R7 7 rfl ?_
  refine T_load12 ?_
  refine V12 2 7 59 rfl rfl rfl rfl ?_
  refine R4 (cI 7) 3 (rfl) ?_
  refine R7 7 rfl ?_
  refine T_load12 ?_
  refine V12 3 7 60 rfl rfl rfl rfl ?_
  refine R4 (cI 7) 4 (rfl) ?_
  refine R7 7 rfl ?_
  refine T_load12 ?_
  refine V12 4 7 61 rfl rfl rfl rfl ?_
  refine R4 (cI 7) 5 (rfl) ?_
  refine R7 7 rfl ?_
  refine T_load12 ?_
  refine V12 5 7 62 rfl rfl rfl rfl ?_
  refine R4 (cI 7) 6 (rfl) ?_
  refine R7 7 rfl ?_
  refine T_load12 ?_
  refine V12 6 7 63 rfl rfl rfl rfl ?_
  refine R4 (cI 7) 7 (rfl) ?_
  refine R7 7 rfl ?_
  refine T_load12 ?_
  refine V12l rfl rfl ?_
  refine T_load14 ?_
  refine V14cl rfl rfl ?_
  refine T_assoc ?_
  refine T_assoc ?_
  refine T_ifb (fun s => ∃ (qa : Vec F S256x2048 .bf16) (xm : Vec F S1x2048 .f32) (acc : Vec F S128x2048 .f32) (xl : Vec F S8x2048 .f32) (p0 : Vec F S2048x2048 .bf16) (ls0 : Vec F S8x2048 .f32), s = ⟨xq, xk, xv, xo, qa, xm, acc, xl, p0, full (pT xk qa (cI (7))), ls0, fullL (lT xk qa (cI (7)))⟩ ∧ I (7) qa xm acc xl) ⟨_, _, _, _, _, _, rfl, h⟩ ?_ ?_
  rotate_left
  · intro hR
    refine W8 ?_
    refine W9 ?_
    refine W9 ?_
    refine V9 (shapeCast S128x2048 (mulf acc (broadcastTo S128x2048 (shrink xm (newM xm (up (mA xk qa (cI (7)))))) broadcasts_S1x2048_S128x2048)) shapeCasts_S128x2048_S128x2048) rfl ?_
    refine W10 ?_
    refine W10 ?_
    refine V10 (shapeCast S8x2048 (mulf xl (broadcastTo S8x2048 (shrink xm (newM xm (up (mA xk qa (cI (7)))))) broadcasts_S1x2048_S8x2048)) shapeCasts_S8x2048_S8x2048) rfl ?_
    refine W8 ?_
    refine V8 (shapeCast S1x2048 (newM xm (up (mA xk qa (cI (7))))) shapeCasts_S1x2048_S1x2048) rfl ?_
    refine T_load7 ?_
    refine V7rows (stabRows (newM xm (up (mA xk qa (cI (7)))))) rfl ?_
    refine R4 (cI (7)) 0 (rfl) ?_
    refine R7 0 rfl ?_
    refine T_load12 ?_
    refine V12z (pT xk (setRows qa (stabRows (newM xm (up (mA xk qa (cI (7))))))) (cI (7))) rfl rfl ?_
    refine R4 (cI (7)) 1 (rfl) ?_
    refine R7 0 rfl ?_
    refine T_load12 ?_
    refine V12 1 0 2 rfl rfl rfl rfl ?_
    refine R4 (cI (7)) 2 (rfl) ?_
    refine R7 0 rfl ?_
    refine T_load12 ?_
    refine V12 2 0 3 rfl rfl rfl rfl ?_
    refine R4 (cI (7)) 3 (rfl) ?_
    refine R7 0 rfl ?_
    refine T_load12 ?_
    refine V12 3 0 4 rfl rfl rfl rfl ?_
    refine R4 (cI (7)) 4 (rfl) ?_
    refine R7 0 rfl ?_
    refine T_load12 ?_
    refine V12 4 0 5 rfl rfl rfl rfl ?_
    refine R4 (cI (7)) 5 (rfl) ?_
    refine R7 0 rfl ?_
    refine T_load12 ?_
    refine V12 5 0 6 rfl rfl rfl rfl ?_
    refine R4 (cI (7)) 6 (rfl) ?_
    refine R7 0 rfl ?_
    refine T_load12 ?_
    refine V12 6 0 7 rfl rfl rfl rfl ?_
    refine R4 (cI (7)) 7 (rfl) ?_
    refine R7 0 rfl ?_
    refine T_load12 ?_
    refine V12 7 0 8 rfl rfl rfl rfl ?_
    refine T_load14 ?_
    refine V14cz (lT xk (setRows qa (stabRows (newM xm (up (mA xk qa (cI (7))))))) (cI (7))) rfl rfl ?_
    refine R4 (cI (7)) 0 (rfl) ?_
    refine R7 1 rfl ?_
    refine T_load12 ?_
    refine V12 0 1 9 rfl rfl rfl rfl ?_
    refine R4 (cI (7)) 1 (rfl) ?_
    refine R7 1 rfl ?_
    refine T_load12 ?_
    refine V12 1 1 10 rfl rfl rfl rfl ?_
    refine R4 (cI (7)) 2 (rfl) ?_
    refine R7 1 rfl ?_
    refine T_load12 ?_
    refine V12 2 1 11 rfl rfl rfl rfl ?_
    refine R4 (cI (7)) 3 (rfl) ?_
    refine R7 1 rfl ?_
    refine T_load12 ?_
    refine V12 3 1 12 rfl rfl rfl rfl ?_
    refine R4 (cI (7)) 4 (rfl) ?_
    refine R7 1 rfl ?_
    refine T_load12 ?_
    refine V12 4 1 13 rfl rfl rfl rfl ?_
    refine R4 (cI (7)) 5 (rfl) ?_
    refine R7 1 rfl ?_
    refine T_load12 ?_
    refine V12 5 1 14 rfl rfl rfl rfl ?_
    refine R4 (cI (7)) 6 (rfl) ?_
    refine R7 1 rfl ?_
    refine T_load12 ?_
    refine V12 6 1 15 rfl rfl rfl rfl ?_
    refine R4 (cI (7)) 7 (rfl) ?_
    refine R7 1 rfl ?_
    refine T_load12 ?_
    refine V12 7 1 16 rfl rfl rfl rfl ?_
    refine T_load14 ?_
    refine V14c 1 2 rfl rfl rfl rfl ?_
    refine R4 (cI (7)) 0 (rfl) ?_
    refine R7 2 rfl ?_
    refine T_load12 ?_
    refine V12 0 2 17 rfl rfl rfl rfl ?_
    refine R4 (cI (7)) 1 (rfl) ?_
    refine R7 2 rfl ?_
    refine T_load12 ?_
    refine V12 1 2 18 rfl rfl rfl rfl ?_
    refine R4 (cI (7)) 2 (rfl) ?_
    refine R7 2 rfl ?_
    refine T_load12 ?_
    refine V12 2 2 19 rfl rfl rfl rfl ?_
    refine R4 (cI (7)) 3 (rfl) ?_
    refine R7 2 rfl ?_
    refine T_load12 ?_
    refine V12 3 2 20 rfl rfl rfl rfl ?_
    refine R4 (cI (7)) 4 (rfl) ?_
    refine R7 2 rfl ?_
    refine T_load12 ?_
    refine V12 4 2 21 rfl rfl rfl rfl ?_
    refine R4 (cI (7)) 5 (rfl) ?_
    refine R7 2 rfl ?_
    refine T_load12 ?_
    refine V12 5 2 22 rfl rfl rfl rfl ?_
    refine R4 (cI (7)) 6 (rfl) ?_
    refine R7 2 rfl ?_
    refine T_load12 ?_
    refine V12 6 2 23 rfl rfl rfl rfl ?_
    refine R4 (cI (7)) 7 (rfl) ?_
    refine R7 2 rfl ?_
    refine T_load12 ?_
    refine V12 7 2 24 rfl rfl rfl rfl ?_
    refine T_load14 ?_
    refine V14c 2 3 rfl rfl rfl rfl ?_
    refine R4 (cI (7)) 0 (rfl) ?_
    refine R7 3 rfl ?_
    refine T_load12 ?_
    refine V12 0 3 25 rfl rfl rfl rfl ?_
    refine R4 (cI (7)) 1 (rfl) ?_
    refine R7 3 rfl ?_
    refine T_load12 ?_
    refine V12 1 3 26 rfl rfl rfl rfl ?_
    refine R4 (cI (7)) 2 (rfl) ?_
    refine R7 3 rfl ?_
    refine T_load12 ?_
    refine V12 2 3 27 rfl rfl rfl rfl ?_
    refine R4 (cI (7)) 3 (rfl) ?_
    refine R7 3 rfl ?_
    refine T_load12 ?_
    refine V12 3 3 28 rfl rfl rfl rfl ?_
    refine R4 (cI (7)) 4 (rfl) ?_
    refine R7 3 rfl ?_
    refine T_load12 ?_
    refine V12 4 3 29 rfl rfl rfl rfl ?_
    refine R4 (cI (7)) 5 (rfl) ?_
    refine R7 3 rfl ?_
    refine T_load12 ?_
    refine V12 5 3 30 rfl rfl rfl rfl ?_
    refine R4 (cI (7)) 6 (rfl) ?_
    refine R7 3 rfl ?_
    refine T_load12 ?_
    refine V12 6 3 31 rfl rfl rfl rfl ?_
    refine R4 (cI (7)) 7 (rfl) ?_
    refine R7 3 rfl ?_
    refine T_load12 ?_
    refine V12 7 3 32 rfl rfl rfl rfl ?_
    refine T_load14 ?_
    refine V14c 3 4 rfl rfl rfl rfl ?_
    refine R4 (cI (7)) 0 (rfl) ?_
    refine R7 4 rfl ?_
    refine T_load12 ?_
    refine V12 0 4 33 rfl rfl rfl rfl ?_
    refine R4 (cI (7)) 1 (rfl) ?_
    refine R7 4 rfl ?_
    refine T_load12 ?_
    refine V12 1 4 34 rfl rfl rfl rfl ?_
    refine R4 (cI (7)) 2 (rfl) ?_
    refine R7 4 rfl ?_
    refine T_load12 ?_
    refine V12 2 4 35 rfl rfl rfl rfl ?_
    refine R4 (cI (7)) 3 (rfl) ?_
    refine R7 4 rfl ?_
    refine T_load12 ?_
    refine V12 3 4 36 rfl rfl rfl rfl ?_
    refine R4 (cI (7)) 4 (rfl) ?_
    refine R7 4 rfl ?_
    refine T_load12 ?_
    refine V12 4 4 37 rfl rfl rfl rfl ?_
    refine R4 (cI (7)) 5 (rfl) ?_
    refine R7 4 rfl ?_
    refine T_load12 ?_
    refine V12 5 4 38 rfl rfl rfl rfl ?_
    refine R4 (cI (7)) 6 (rfl) ?_
    refine R7 4 rfl ?_
    refine T_load12 ?_
    refine V12 6 4 39 rfl rfl rfl rfl ?_
    refine R4 (cI (7)) 7 (rfl) ?_
    refine R7 4 rfl ?_
    refine T_load12 ?_
    refine V12 7 4 40 rfl rfl rfl rfl ?_
    refine T_load14 ?_
    refine V14c 4 5 rfl rfl rfl rfl ?_
    refine R4 (cI (7)) 0 (rfl) ?_
    refine R7 5 rfl ?_
    refine T_load12 ?_
    refine V12 0 5 41 rfl rfl rfl rfl ?_
    refine R4 (cI (7)) 1 (rfl) ?_
    refine R7 5 rfl ?_
    refine T_load12 ?_
    refine V12 1 5 42 rfl rfl rfl rfl ?_
    refine R4 (cI (7)) 2 (rfl) ?_
    refine R7 5 rfl ?_
    refine T_load12 ?_
    refine V12 2 5 43 rfl rfl rfl rfl ?_
    refine R4 (cI (7)) 3 (rfl) ?_
    refine R7 5 rfl ?_
    refine T_load12 ?_
    refine V12 3 5 44 rfl rfl rfl rfl ?_
    refine R4 (cI (7)) 4 (rfl) ?_
    refine R7 5 rfl ?_
    refine T_load12 ?_
    refine V12 4 5 45 rfl rfl rfl rfl ?_
    refine R4 (cI (7)) 5 (rfl) ?_
    refine R7 5 rfl ?_
    refine T_load12 ?_
    refine V12 5 5 46 rfl rfl rfl rfl ?_
    refine R4 (cI (7)) 6 (rfl) ?_
    refine R7 5 rfl ?_
    refine T_load12 ?_
    refine V12 6 5 47 rfl rfl rfl rfl ?_
    refine R4 (cI (7)) 7 (rfl) ?_
    refine R7 5 rfl ?_
    refine T_load12 ?_
    refine V12 7 5 48 rfl rfl rfl rfl ?_
    refine T_load14 ?_
    refine V14c 5 6 rfl rfl rfl rfl ?_
    refine R4 (cI (7)) 0 (rfl) ?_
    refine R7 6 rfl ?_
    refine T_load12 ?_
    refine V12 0 6 49 rfl rfl rfl rfl ?_
    refine R4 (cI (7)) 1 (rfl) ?_
    refine R7 6 rfl ?_
    refine T_load12 ?_
    refine V12 1 6 50 rfl rfl rfl rfl ?_
    refine R4 (cI (7)) 2 (rfl) ?_
    refine R7 6 rfl ?_
    refine T_load12 ?_
    refine V12 2 6 51 rfl rfl rfl rfl ?_
    refine R4 (cI (7)) 3 (rfl) ?_
    refine R7 6 rfl ?_
    refine T_load12 ?_
    refine V12 3 6 52 rfl rfl rfl rfl ?_
    refine R4 (cI (7)) 4 (rfl) ?_
    refine R7 6 rfl ?_
    refine T_load12 ?_
    refine V12 4 6 53 rfl rfl rfl rfl ?_
    refine R4 (cI (7)) 5 (rfl) ?_
    refine R7 6 rfl ?_
    refine T_load12 ?_
    refine V12 5 6 54 rfl rfl rfl rfl ?_
    refine R4 (cI (7)) 6 (rfl) ?_
    refine R7 6 rfl ?_
    refine T_load12 ?_
    refine V12 6 6 55 rfl rfl rfl rfl ?_
    refine R4 (cI (7)) 7 (rfl) ?_
    refine R7 6 rfl ?_
    refine T_load12 ?_
    refine V12 7 6 56 rfl rfl rfl rfl ?_
    refine T_load14 ?_
    refine V14c 6 7 rfl rfl rfl rfl ?_
    refine R4 (cI (7)) 0 (rfl) ?_
    refine R7 7 rfl ?_
    refine T_load12 ?_
    refine V12 0 7 57 rfl rfl rfl rfl ?_
    refine R4 (cI (7)) 1 (rfl) ?_
    refine R7 7 rfl ?_
    refine T_load12 ?_
    refine V12 1 7 58 rfl rfl rfl rfl ?_
    refine R4 (cI (7)) 2 (rfl) ?_
    refine R7 7 rfl ?_
    refine T_load12 ?_
    refine V12 2 7 59 rfl rfl rfl rfl ?_
    refine R4 (cI (7)) 3 (rfl) ?_
    refine R7 7 rfl ?_
    refine T_load12 ?_
    refine V12 3 7 60 rfl rfl rfl rfl ?_
    refine R4 (cI (7)) 4 (rfl) ?_
    refine R7 7 rfl ?_
    refine T_load12 ?_
    refine V12 4 7 61 rfl rfl rfl rfl ?_
    refine R4 (cI (7)) 5 (rfl) ?_
    refine R7 7 rfl ?_
    refine T_load12 ?_
    refine V12 5 7 62 rfl rfl rfl rfl ?_
    refine R4 (cI (7)) 6 (rfl) ?_
    refine R7 7 rfl ?_
    refine T_load12 ?_
    refine V12 6 7 63 rfl rfl rfl rfl ?_
    refine R4 (cI (7)) 7 (rfl) ?_
    refine R7 7 rfl ?_
    refine T_load12 ?_
    refine V12l rfl rfl ?_
    refine T_load14 ?_
    refine V14cl rfl rfl ?_
    exact hR _ ⟨_, _, _, _, _, _, rfl, hI.rescale _ _ _ _ _ (by omega) h⟩
  rintro s ⟨qa, xm, acc, xl, p0, ls0, rfl, h⟩
  refine R5 (cI 7) 0 (rfl) ?_
  refine R12 0 0 rfl ?_
  refine R5 (cI 7) 1 (rfl) ?_
  refine R12 1 0 rfl ?_
  refine R5 (cI 7) 2 (rfl) ?_
  refine R12 2 0 rfl ?_
  refine R5 (cI 7) 3 (rfl) ?_
  refine R12 3 0 rfl ?_
  refine R5 (cI 7) 4 (rfl) ?_
  refine R12 4 0 rfl ?_
  refine R5 (cI 7) 5 (rfl) ?_
  refine R12 5 0 rfl ?_
  refine R5 (cI 7) 6 (rfl) ?_
  refine R12 6 0 rfl ?_
  refine R5 (cI 7) 7 (rfl) ?_
  refine R12 7 0 rfl ?_
  refine R9z rfl ?_
  refine T_load9 ?_
  refine V9cz (aT xk xv qa acc (cI 7)) rfl rfl ?_
  refine R5 (cI 7) 0 (rfl) ?_
  refine R12 0 1 rfl ?_
  refine R5 (cI 7) 1 (rfl) ?_
  refine R12 1 1 rfl ?_
  refine R5 (cI 7) 2 (rfl) ?_
  refine R12 2 1 rfl ?_
  refine R5 (cI 7) 3 (rfl) ?_
  refine R12 3 1 rfl ?_
  refine R5 (cI 7) 4 (rfl) ?_
  refine R12 4 1 rfl ?_
  refine R5 (cI 7) 5 (rfl) ?_
  refine R12 5 1 rfl ?_
  refine R5 (cI 7) 6 (rfl) ?_
  refine R12 6 1 rfl ?_
  refine R5 (cI 7) 7 (rfl) ?_
  refine R12 7 1 rfl ?_
  refine R9 1 rfl ?_
  refine T_load9 ?_
  refine V9c 1 2 rfl rfl rfl rfl ?_
  refine R5 (cI 7) 0 (rfl) ?_
  refine R12 0 2 rfl ?_
  refine R5 (cI 7) 1 (rfl) ?_
  refine R12 1 2 rfl ?_
  refine R5 (cI 7) 2 (rfl) ?_
  refine R12 2 2 rfl ?_
  refine R5 (cI 7) 3 (rfl) ?_
  refine R12 3 2 rfl ?_
  refine R5 (cI 7) 4 (rfl) ?_
  refine R12 4 2 rfl ?_
  refine R5 (cI 7) 5 (rfl) ?_
  refine R12 5 2 rfl ?_
  refine R5 (cI 7) 6 (rfl) ?_
  refine R12 6 2 rfl ?_
  refine R5 (cI 7) 7 (rfl) ?_
  refine R12 7 2 rfl ?_
  refine R9 2 rfl ?_
  refine T_load9 ?_
  refine V9c 2 3 rfl rfl rfl rfl ?_
  refine R5 (cI 7) 0 (rfl) ?_
  refine R12 0 3 rfl ?_
  refine R5 (cI 7) 1 (rfl) ?_
  refine R12 1 3 rfl ?_
  refine R5 (cI 7) 2 (rfl) ?_
  refine R12 2 3 rfl ?_
  refine R5 (cI 7) 3 (rfl) ?_
  refine R12 3 3 rfl ?_
  refine R5 (cI 7) 4 (rfl) ?_
  refine R12 4 3 rfl ?_
  refine R5 (cI 7) 5 (rfl) ?_
  refine R12 5 3 rfl ?_
  refine R5 (cI 7) 6 (rfl) ?_
  refine R12 6 3 rfl ?_
  refine R5 (cI 7) 7 (rfl) ?_
  refine R12 7 3 rfl ?_
  refine R9 3 rfl ?_
  refine T_load9 ?_
  refine V9c 3 4 rfl rfl rfl rfl ?_
  refine R5 (cI 7) 0 (rfl) ?_
  refine R12 0 4 rfl ?_
  refine R5 (cI 7) 1 (rfl) ?_
  refine R12 1 4 rfl ?_
  refine R5 (cI 7) 2 (rfl) ?_
  refine R12 2 4 rfl ?_
  refine R5 (cI 7) 3 (rfl) ?_
  refine R12 3 4 rfl ?_
  refine R5 (cI 7) 4 (rfl) ?_
  refine R12 4 4 rfl ?_
  refine R5 (cI 7) 5 (rfl) ?_
  refine R12 5 4 rfl ?_
  refine R5 (cI 7) 6 (rfl) ?_
  refine R12 6 4 rfl ?_
  refine R5 (cI 7) 7 (rfl) ?_
  refine R12 7 4 rfl ?_
  refine R9 4 rfl ?_
  refine T_load9 ?_
  refine V9c 4 5 rfl rfl rfl rfl ?_
  refine R5 (cI 7) 0 (rfl) ?_
  refine R12 0 5 rfl ?_
  refine R5 (cI 7) 1 (rfl) ?_
  refine R12 1 5 rfl ?_
  refine R5 (cI 7) 2 (rfl) ?_
  refine R12 2 5 rfl ?_
  refine R5 (cI 7) 3 (rfl) ?_
  refine R12 3 5 rfl ?_
  refine R5 (cI 7) 4 (rfl) ?_
  refine R12 4 5 rfl ?_
  refine R5 (cI 7) 5 (rfl) ?_
  refine R12 5 5 rfl ?_
  refine R5 (cI 7) 6 (rfl) ?_
  refine R12 6 5 rfl ?_
  refine R5 (cI 7) 7 (rfl) ?_
  refine R12 7 5 rfl ?_
  refine R9 5 rfl ?_
  refine T_load9 ?_
  refine V9c 5 6 rfl rfl rfl rfl ?_
  refine R5 (cI 7) 0 (rfl) ?_
  refine R12 0 6 rfl ?_
  refine R5 (cI 7) 1 (rfl) ?_
  refine R12 1 6 rfl ?_
  refine R5 (cI 7) 2 (rfl) ?_
  refine R12 2 6 rfl ?_
  refine R5 (cI 7) 3 (rfl) ?_
  refine R12 3 6 rfl ?_
  refine R5 (cI 7) 4 (rfl) ?_
  refine R12 4 6 rfl ?_
  refine R5 (cI 7) 5 (rfl) ?_
  refine R12 5 6 rfl ?_
  refine R5 (cI 7) 6 (rfl) ?_
  refine R12 6 6 rfl ?_
  refine R5 (cI 7) 7 (rfl) ?_
  refine R12 7 6 rfl ?_
  refine R9 6 rfl ?_
  refine T_load9 ?_
  refine V9c 6 7 rfl rfl rfl rfl ?_
  refine R5 (cI 7) 0 (rfl) ?_
  refine R12 0 7 rfl ?_
  refine R5 (cI 7) 1 (rfl) ?_
  refine R12 1 7 rfl ?_
  refine R5 (cI 7) 2 (rfl) ?_
  refine R12 2 7 rfl ?_
  refine R5 (cI 7) 3 (rfl) ?_
  refine R12 3 7 rfl ?_
  refine R5 (cI 7) 4 (rfl) ?_
  refine R12 4 7 rfl ?_
  refine R5 (cI 7) 5 (rfl) ?_
  refine R12 5 7 rfl ?_
  refine R5 (cI 7) 6 (rfl) ?_
  refine R12 6 7 rfl ?_
  refine R5 (cI 7) 7 (rfl) ?_
  refine R12 7 7 rfl ?_
  refine R9 7 rfl ?_
  refine T_load9 ?_
  refine V9cl rfl rfl ?_
  refine W10 ?_
  refine W14 ?_
  refine W10 ?_
  refine V10 (shapeCast S8x2048 (addf xl (fullL (lT xk qa (cI 7)))) shapeCasts_S8x2048_S8x2048) rfl ?_
  replace h := hI.add _ _ _ _ _ (by omega) h
  generalize fullA (aT xk xv qa acc (cI 7)) = acc at h ⊢
  generalize shapeCast S8x2048 (addf xl (fullL (lT xk qa (cI 7)))) shapeCasts_S8x2048_S8x2048 = xl at h ⊢
  refine W10 ?_
  refine W9 ?_
  refine W6 ?_
  refine V6 (finish acc xl) rfl ?_
  refine T_ret ?_
  exact ⟨_, _, _, _, h, rfl, rfl, rfl, rfl⟩

end Cert.KernelIdeal.Attn

end
-- ==== Proof.KI.Launch.lean ====
module

public import proofs.«01_k».proof.Proof.KI.Body
public import Idealize.ShloMosaic.Lib.Pipeline.Quiescent

@[expose] public section

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal.Gen

variable {F : FTy → Type} [FloatOps F]
variable (m : (ℓ : Loc nD τ sig) → Buf (Elt F) ℓ) (ρ : Dev nD → PrngReg)

/-! ## The body at one grid point -/

/-- Scratch buffers held at some contents each are scratch memrefs held at some contents each. -/
theorem scratch_owned (c : Dev nD) (b : Ref sig .tc) :
    (iprop(∃ f : Buf (Elt F) ((c : Thread nD τ).loc b), ((c : Thread nD τ).loc b) ↦{fullShare} f) : sProp (MT nD τ sig Unit (Elt F) ℕ (UR sig nD τ) ℕ))
      = iprop(∃ f : Buf (Elt F) ((c : Thread nD τ).loc b), owns (c : Thread nD τ) (Memref.whole b) fullShare f) := by
  congr 1; funext f; exact (owns_whole (c : Thread nD τ) b fullShare f).symm

/-- The kernel's body at a point, from the three blocks and any output block: it leaves the blocks in place and an
    output block of which every property `P` holds that the invariant gives. -/
theorem body_at (c : Dev nD) (t : Fin cfg0.N) (q : Vec F S1x1x256x2048 .bf16) (k : Vec F S1x1x16384x256 .bf16) (v : Vec F S1x1x128x16384 .bf16)
    {I : ℕ → Vec F S256x2048 .bf16 → Vec F S1x2048 .f32 → Vec F S128x2048 .f32 → Vec F S8x2048 .f32 → Prop} (hI : Inv q k v I)
    (P : Vec F S1x2048x128 .bf16 → Prop) (hP : ∀ qa xm acc l, I 8 qa xm acc l → P (finish acc l)) (o : Vec F S1x2048x128 .bf16) :
    (iprop(Pipeline.ΦA spec0 c ∗ owns (c : Thread nD τ) (st0_0 t) fullShare q ∗ owns (c : Thread nD τ) (st0_1 t) fullShare k
        ∗ owns (c : Thread nD τ) (st0_2 t) fullShare v ∗ owns (c : Thread nD τ) (st0_3 t) fullShare o) : sProp (MT nD τ sig Unit (Elt F) ℕ (UR sig nD τ) ℕ))
      ⊢ wp frame (wpE defs₀ Variants.none (c : Thread nD τ) none) Set.univ (bodyAt0 t) fun _ =>
        iprop(Pipeline.ΦA spec0 c ∗ owns (c : Thread nD τ) (st0_0 t) fullShare q ∗ owns (c : Thread nD τ) (st0_1 t) fullShare k
          ∗ owns (c : Thread nD τ) (st0_2 t) fullShare v ∗ ∃ y, ⌜P y⌝ ∗ owns (c : Thread nD τ) (st0_3 t) fullShare y) := by
  unfold Pipeline.ΦA
  rw [scopedRest0_eq]
  simp only [scratch_owned]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩⟩, Hr⟩, Hq, Hk, Hv, Ho⟩
  have h := body_T (c := c) (arg3 := st0_0 t) (arg4 := st0_1 t) (arg5 := st0_2 t) (arg6 := st0_3 t)
    (arg7 := Memref.whole cc0_scratch0) (arg8 := Memref.whole cc0_scratch1) (arg9 := Memref.whole cc0_scratch2) (arg10 := Memref.whole cc0_scratch3)
    (arg11 := Memref.whole cc0_scratch4) (arg12 := Memref.whole cc0_scratch5) (arg13 := Memref.whole cc0_scratch6) (arg14 := Memref.whole cc0_scratch7)
    (harg3 := hstage0_0 ((cfg0.slots t 0).cast nbuf0_0)) (harg4 := hstage0_1 ((cfg0.slots t 1).cast nbuf0_1))
    (harg5 := hstage0_2 ((cfg0.slots t 2).cast nbuf0_2)) (harg6 := hstage0_3 ((cfg0.slots t 3).cast nbuf0_3))
    (harg7 := Memref.isWhole_whole _) (harg8 := Memref.isWhole_whole _) (harg9 := Memref.isWhole_whole _) (harg10 := Memref.isWhole_whole _)
    (harg11 := Memref.isWhole_whole _) (harg12 := Memref.isWhole_whole _) (harg13 := Memref.isWhole_whole _) (harg14 := Memref.isWhole_whole _)
    (xo := o) (qa := f0) (xm := f1) (acc := f2) (xl := f3) (p0 := f4) (p1 := f5) (ls0 := f6) (ls1 := f7) (i := grid0.coords t) hI
  unfold T at h
  ihave Hw := h $$ [Hq Hk Hv Ho S0 S1 S2 S3 S4 S5 S6 S7]
  · unfold own
    isplitl [Hq]; · iexact Hq
    isplitl [Hk]; · iexact Hk
    isplitl [Hv]; · iexact Hv
    isplitl [Ho]; · iexact Ho
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iapply (wp_wand frame (wpE defs₀ Variants.none (c : Thread nD τ) none) Set.univ) $$ [Hw]
  · iexact Hw
  iintro %a ⟨%s, %hs, Hs⟩
  unfold own
  obtain ⟨qa, xm, acc, l, hi, h0, h1, h2, h3⟩ := hs
  rw [h0, h1, h2, h3]
  icases Hs with ⟨Hq, Hk, Hv, Ho, S0, S1, S2, S3, S4, S5, S6, S7⟩
  isplitl [Hr S0 S1 S2 S3 S4 S5 S6 S7]
  · isplitr [Hr]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      iexists _; iexact S7
    · iexact Hr
  isplitl [Hq]; · iexact Hq
  isplitl [Hk]; · iexact Hk
  isplitl [Hv]; · iexact Hv
  iexists _
  isplitr; · ipureintro; exact hP _ _ _ _ hi
  iexact Ho

/-! ## The pipeline's proof data -/

/-- The arrays as launched; each input's buffer at its block; the output's buffer after point `t` at `Y c t`. -/
def dats (Y : Dev nD → Fin cfg0.N → Vec F S1x2048x128 .bf16) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => Y c t
  Φ _ := Pipeline.ΦA spec0 c
  q _ := fullShare
  owed _ := 0

variable (Y : Dev nD → Fin cfg0.N → Vec F S1x2048x128 .bf16)

theorem A_eq (c : Dev nD) (w : Fin cfg0.W) : (dats m Y 0 c).A w = V m c (Pipeline.arrRef spec0 w) := rfl
theorem after_0 (c : Dev nD) (t : Fin cfg0.N) : (dats m Y 0 c).after 0 t = iblk m c 0 t := by dsimp only [dats]
theorem after_1 (c : Dev nD) (t : Fin cfg0.N) : (dats m Y 0 c).after 1 t = iblk m c 1 t := by dsimp only [dats]
theorem after_2 (c : Dev nD) (t : Fin cfg0.N) : (dats m Y 0 c).after 2 t = iblk m c 2 t := by dsimp only [dats]
theorem after_3 (c : Dev nD) (t : Fin cfg0.N) : (dats m Y 0 c).after 3 t = Y c t := by dsimp only [dats]
theorem before_0 (c : Dev nD) (t : Fin cfg0.N) (d) : (dats m Y 0 c).before 0 t d = iblk m c 0 t :=
  before0_0_of m (dats m Y 0 c) (A_eq m Y c 0) (after_0 m Y c) t d
theorem before_1 (c : Dev nD) (t : Fin cfg0.N) (d) : (dats m Y 0 c).before 1 t d = iblk m c 1 t :=
  before0_1_of m (dats m Y 0 c) (A_eq m Y c 1) (after_1 m Y c) t d
theorem before_2 (c : Dev nD) (t : Fin cfg0.N) (d) : (dats m Y 0 c).before 2 t d = iblk m c 2 t :=
  before0_2_of m (dats m Y 0 c) (A_eq m Y c 2) (after_2 m Y c) t d

/-- The body table's row at a point is the kernel's body there. -/
theorem row (t : Fin cfg0.N) : (defs₀ (F := F)) .tc cfg0.body (cfg0.bodyArgs t (cfg0.slots t)) = bodyAt0 t := by
  unfold defs₀; rw [Defs.onTc_tc]

/-- The output window's contents are left unsaid. -/
abbrev outOnly : Fin cfg0.W → Bool := fun w => w.val == 3

/-- The body obligation with nothing said of the output. -/
theorem obligation_frame (c : Dev nD) : BodyObligation (dats (F := F) m Y 0 c) (defs₀ (F := F)) Variants.none () Set.univ outOnly := fun t => by
  rw [bigSep_W0, bigSep_W0, row]
  rw [show outOnly 0 = false from rfl, show outOnly 1 = false from rfl, show outOnly 2 = false from rfl, show outOnly 3 = true from rfl]
  simp only [before_0, before_1, before_2]
  rw [show (dats m Y 0 c).Φ t.succ = Pipeline.ΦA spec0 c from rfl, show (dats m Y 0 c).Φ t.castSucc = Pipeline.ΦA spec0 c from rfl,
    show (dats m Y 0 c).owesAt () t.succ = (dats m Y 0 c).owesAt () t.castSucc from rfl, after_0, after_1, after_2]
  have h := fun o => body_at c t (iblk m c 0 t) (iblk m c 1 t) (iblk m c 2 t) (I := fun _ _ _ _ _ => True)
    ⟨trivial, fun _ _ _ _ _ => trivial, fun _ _ _ _ _ _ _ => trivial, fun _ _ _ _ _ _ _ => trivial⟩ (fun _ => True) (fun _ _ _ _ _ => trivial) o
  iintro ⟨HΦ, Ho, ⟨%d0, H0⟩, ⟨%d1, H1⟩, ⟨%d2, H2⟩, ⟨%d3, H3⟩⟩
  ihave Hw := (h d3) $$ [HΦ H0 H1 H2 H3]
  · isplitl [HΦ]; · iexact HΦ
    isplitl [H0]; · iexact H0
    isplitl [H1]; · iexact H1
    isplitl [H2]; · iexact H2
    iexact H3
  iapply (wp_wand frame (wpE defs₀ Variants.none (c : Thread nD τ) none) Set.univ) $$ [Hw]
  · iexact Hw
  iintro %a ⟨HΦ, H0, H1, H2, ⟨%y, %hy, H3⟩⟩
  isplitl [HΦ]; · iexact HΦ
  isplitl [Ho]; · iexact Ho
  isplitl [H0]; · iexact H0
  isplitl [H1]; · iexact H1
  isplitl [H2]; · iexact H2
  iexists y; iexact H3

/-- The body obligation with the output at `Y`, where an invariant gives it. -/
theorem obligation_value (c : Dev nD) (hY : ∀ t, ∃ I : ℕ → Vec F S256x2048 .bf16 → Vec F S1x2048 .f32 → Vec F S128x2048 .f32 → Vec F S8x2048 .f32 → Prop,
      Inv (iblk m c 0 t) (iblk m c 1 t) (iblk m c 2 t) I ∧ ∀ qa xm acc l, I 8 qa xm acc l → finish acc l = Y c t) :
    BodyObligation (dats (F := F) m Y 0 c) (defs₀ (F := F)) Variants.none () Set.univ := fun t => by
  rw [bigSep_W0, bigSep_W0, row]
  simp only [before_0, before_1, before_2]
  rw [show (dats m Y 0 c).Φ t.succ = Pipeline.ΦA spec0 c from rfl, show (dats m Y 0 c).Φ t.castSucc = Pipeline.ΦA spec0 c from rfl,
    show (dats m Y 0 c).owesAt () t.succ = (dats m Y 0 c).owesAt () t.castSucc from rfl, after_0, after_1, after_2, after_3]
  obtain ⟨I, hI, hP⟩ := hY t
  have h := fun o => body_at c t (iblk m c 0 t) (iblk m c 1 t) (iblk m c 2 t) hI (fun y => y = Y c t) hP o
  iintro ⟨HΦ, Ho, ⟨%d0, H0⟩, ⟨%d1, H1⟩, ⟨%d2, H2⟩, ⟨%d3, H3⟩⟩
  ihave Hw := (h ((dats m Y 0 c).before 3 t d3)) $$ [HΦ H0 H1 H2 H3]
  · isplitl [HΦ]; · iexact HΦ
    isplitl [H0]; · iexact H0
    isplitl [H1]; · iexact H1
    isplitl [H2]; · iexact H2
    iexact H3
  iapply (wp_wand frame (wpE defs₀ Variants.none (c : Thread nD τ) none) Set.univ) $$ [Hw]
  · iexact Hw
  iintro %a ⟨HΦ, H0, H1, H2, ⟨%y, %hy, H3⟩⟩
  isplitl [HΦ]; · iexact HΦ
  isplitl [Ho]; · iexact Ho
  isplitl [H0]; · iexact H0
  isplitl [H1]; · iexact H1
  isplitl [H2]; · iexact H2
  rw [← hy]; iexact H3

/-! ## The runs -/

/-- The kernel runs to its end from any memory with zero counters, and leaves its arguments as they were and every
    counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨h.1.arr_in c 0 rfl, h.1.arr_in c 1 rfl, h.1.arr_in c 2 rfl⟩, h.2⟩)
    (Pipeline.θ_run_frame_forget (Q' := fun r => Pipeline.RDat.FramePost (cfgs 0) (fun c => (dats m (fun _ _ _ => Scalar.ofBits .bf16 0) 0 c).toRForget outOnly) (V m) r ∧ r.2.sem = fun _ => 0)
      cfgs (dats m (fun _ _ _ => Scalar.ofBits .bf16 0)) (0 : Fin 1) launch0 defs₀ Variants.none outOnly m ρ main
      (hbody := fun c => (obligation_frame m _ c).loose) (hshare := fun c => (dats m _ 0 c).share_full fun _ => rfl)
      (howed := fun _ _ => rfl) (V := V m) (hmain := hmain m Variants.none) (hA := fun _ _ => rfl) (hΦ := fun _ _ => rfl))

set_option backward.isDefEq.respectTransparency.types false in
/-- The kernel's run with its output array named: the blocks `Y`, where an invariant gives them at every point. -/
theorem run_value (hY : ∀ c t, ∃ I : ℕ → Vec F S256x2048 .bf16 → Vec F S1x2048 .f32 → Vec F S128x2048 .f32 → Vec F S8x2048 .f32 → Prop,
      Inv (iblk m c 0 t) (iblk m c 1 t) (iblk m c 2 t) I ∧ ∀ qa xm acc l, I 8 qa xm acc l → finish acc l = Y c t) :
    θ_run defs (onTc (τ := τ) (main (F := F))) (s₀ m ρ)
      (fun r => Pipeline.FramePost cfgs (dats m Y) 0 (V m) r ∧ r.2.sem = fun _ => 0) :=
  Pipeline.θ_run_frame (Q' := _) cfgs (dats m Y) (0 : Fin 1) launch0 defs₀ Variants.none m ρ main
    (hbody := fun c => (obligation_value m Y c (hY c)).loose) (hshare := fun c => (dats m Y 0 c).share_full fun _ => rfl)
    (howed := fun _ _ => rfl) (V := V m) (hmain := hmain m Variants.none) (hA := fun _ _ => rfl) (hΦ := fun _ _ => rfl)

end Cert.KernelIdeal.Attn

end
-- ==== Proof.KI.Tiles.lean ====
module

public import proofs.«01_k».proof.Proof.KI.Model
public import Idealize.ShloMosaic.Lib.Pointwise

@[expose] public section

noncomputable section

namespace Cert.KernelIdeal.Attn

open Idealize.ShloMosaic Idealize.ShloMosaic.TcCoe
open Facts₀ Facts

/-! # The tiles of the attention call, element by element, over the extended reals -/

variable [Facts]

/-- Key `256 s + a` of chunk `c`. -/
def kIx (c s : Fin 8) (a : Fin 256) : Fin 16384 := ⟨2048 * c.val + 256 * s.val + a.val, by omega⟩

/-- Query `x` of the columns `256 h …`. -/
def qIx (h : Fin 8) (x : Fin 256) : Fin 2048 := ⟨256 * h.val + x.val, by omega⟩

/-- A score is the product of a key row and a query column. -/
theorem sT_at (xk : Vec Ideal S1x1x16384x256 .bf16) (qa : Vec Ideal S256x2048 .bf16) (c s h : Fin 8) (a x : Fin 256) :
    sT xk qa c s h (ix2 a x) = ∑ r : Fin 256, xk (ix4 0 0 (kIx c s a) r) * qa (ix2 r (qIx h x)) := by
  unfold sT kL qL
  pointwise [dot_S256x256_S256x256_S256x256_1_0_0_1_n_n]
  rfl

/-- A weighted value is the product of a value row and the weights' column. -/
theorem dT_at (xk : Vec Ideal S1x1x16384x256 .bf16) (xv : Vec Ideal S1x1x128x16384 .bf16) (qa : Vec Ideal S256x2048 .bf16) (c s h : Fin 8) (d : Fin 128) (x : Fin 256) :
    dT xk xv qa c s h (ix2 d x) = ∑ a : Fin 256, xv (ix4 0 0 d (kIx c s a)) * eT xk qa c s h (ix2 a x) := by
  unfold dT vL pT
  pointwise [dot_S128x256_S256x256_S128x256_1_0_0_1_n_n]
  rfl

/-- Every eighth weight summed. -/
theorem rT_at (xk : Vec Ideal S1x1x16384x256 .bf16) (qa : Vec Ideal S256x2048 .bf16) (c s h : Fin 8) (b : Fin 8) (x : Fin 256) :
    rT xk qa c s h (ix2 b x) = ∑ a : Fin 32, eT xk qa c s h (ix2 ⟨8 * a.val + b.val, by omega⟩ x) := by
  unfold rT
  pointwise
  exact Finset.sum_congr rfl fun a _ => congrArg (fun i => eT xk qa c s h (ix2 i x)) (Fin.ext (by show a.val * 8 + b.val = 8 * a.val + b.val; omega))

/-- An extended real that is a real. -/
def IsR (y : EReal) : Prop := ∃ r : ℝ, y = (r : EReal)

theorem isR_max {x y : EReal} (hx : IsR x) (hy : IsR y) : IsR (max x y) := by
  rcases le_total x y with h | h
  · rw [max_eq_right h]; exact hy
  · rw [max_eq_left h]; exact hx

/-- The greatest of finitely many reals, at least one, is a real. -/
theorem isR_fold {n : ℕ} (f : Fin (n + 1) → EReal) (hf : ∀ i, IsR (f i)) : IsR (Finset.fold max (Ideal.ofBits FTy.f32 4286578688#32) f Finset.univ) := by
  have hb : Ideal.ofBits FTy.f32 4286578688#32 = ⊥ := by simp [Ideal.ofBits, Ideal.ieee]
  rw [hb]
  have h1 : Finset.fold max ⊥ f Finset.univ < ⊤ := (Finset.fold_max_lt ⊤).2 ⟨bot_lt_top, fun i _ => by
    obtain ⟨r, hr⟩ := hf i; rw [hr]; exact EReal.coe_lt_top r⟩
  have h2 : ⊥ < Finset.fold max ⊥ f Finset.univ := (Finset.lt_fold_max ⊥).2 (.inr ⟨0, Finset.mem_univ _, by
    obtain ⟨r, hr⟩ := hf 0; rw [hr]; exact EReal.bot_lt_coe r⟩)
  exact ⟨_, (EReal.coe_toReal h1.ne h2.ne').symm⟩

/-- The largest score of a tile is a real where the scores are. -/
theorem mT_real (xk : Vec Ideal S1x1x16384x256 .bf16) (qa : Vec Ideal S256x2048 .bf16) (c s h : Fin 8) (x : Fin 256)
    (H : ∀ a, IsR (sT xk qa c s h (ix2 a x))) : IsR (mT xk qa c s h (ix2 0 x)) := by
  unfold mT
  pointwise
  exact isR_fold _ H

theorem mC_real (xk : Vec Ideal S1x1x16384x256 .bf16) (qa : Vec Ideal S256x2048 .bf16) (c h : Fin 8) (x : Fin 256)
    (H : ∀ s a, IsR (sT xk qa c s h (ix2 a x))) : IsR (mC xk qa c h (ix2 0 x)) := by
  have H' := fun s => mT_real xk qa c s h x (H s)
  unfold mC
  pointwise
  exact isR_max (isR_max (isR_max (isR_max (isR_max (isR_max (isR_max (H' 0) (H' 1)) (H' 2)) (H' 3)) (H' 4)) (H' 5)) (H' 6)) (H' 7)

/-- The largest score of a chunk is a real where the scores are. -/
theorem mA_real (xk : Vec Ideal S1x1x16384x256 .bf16) (qa : Vec Ideal S256x2048 .bf16) (c : Fin 8) (x : Fin 2048)
    (H : ∀ s h a x, IsR (sT xk qa c s h (ix2 a x))) : IsR (mA xk qa c (ix2 0 x)) := by
  have H' := fun h x => mC_real xk qa c h x (fun s a => H s h a x)
  unfold mA
  pointwise
  split_ifs <;> exact H' _ _

/-- The output block: each accumulated value over the summed weights of its query. -/
theorem finish_at (acc : FVec Ideal S128x2048 .f32) (l : FVec Ideal S8x2048 .f32) (q : Fin 2048) (d : Fin 128) :
    finish acc l (ix3 0 q d) = Ideal.div (acc (ix2 d q)) (∑ b : Fin 8, l (ix2 b q)) := by
  unfold finish
  pointwise

theorem stabRows_at (m : FVec Ideal S1x2048 .f32) (r : Fin 16) (x : Fin 2048) :
    stabRows m (ix2 r x) = if r.val = 0 then - m (ix2 0 x) else 0 := by
  unfold stabRows row0
  pointwise
  have h1 : BitVec.ofNat 32 r.val = 0#32 ↔ r.val = 0 := by
    constructor
    · intro e
      have := congrArg BitVec.toNat e
      simp only [BitVec.toNat_ofNat] at this
      omega
    · intro e; rw [e]
  by_cases hr : r.val = 0
  · rw [if_pos hr, h1.2 hr]
    show Scalar.select 1#1 _ _ = _
    rw [ValueIdx.select_one]
    exact zero_sub _
  · rw [if_neg hr]
    have : IntOp.cmpi CmpIPredicate.eq (BitVec.ofNat 32 r.val) 0#32 = 0#1 := by
      show BitVec.ofBool (BitVec.ofNat 32 r.val == 0#32) = 0#1
      rw [beq_eq_false_iff_ne.2 (fun e => hr (h1.1 e))]; rfl
    rw [this, ValueIdx.select_zero]

theorem newM_at (m y : FVec Ideal S1x2048 .f32) (x : Fin 2048) :
    newM m y (ix2 0 x) = m (ix2 0 x) + y (ix2 0 x) := by
  unfold newM
  pointwise

theorem up_at (y : FVec Ideal S1x2048 .f32) (x : Fin 2048) :
    up y (ix2 0 x) = max (y (ix2 0 x)) 0 := by
  unfold up
  pointwise

theorem shrink_at (m y : FVec Ideal S1x2048 .f32) (x : Fin 2048) :
    shrink m y (ix2 0 x) = Ideal.exp2 (m (ix2 0 x) - y (ix2 0 x)) := by
  unfold shrink
  pointwise
  rfl

theorem aL_at (acc : Vec Ideal S128x2048 .f32) (h : Fin 8) (d : Fin 128) (x : Fin 256) : aL acc h (ix2 d x) = acc (ix2 d (qIx h x)) := by
  unfold aL
  pointwise
  rfl

theorem eT_at (xk : Vec Ideal S1x1x16384x256 .bf16) (qa : Vec Ideal S256x2048 .bf16) (c s h : Fin 8) (a x : Fin 256) :
    eT xk qa c s h (ix2 a x) = Ideal.exp2 (sT xk qa c s h (ix2 a x)) := rfl

theorem lT_at (xk : Vec Ideal S1x1x16384x256 .bf16) (qa : Vec Ideal S256x2048 .bf16) (c h : Fin 8) (b : Fin 8) (x : Fin 256) :
    lT xk qa c h (ix2 b x) = ∑ s : Fin 8, rT xk qa c s h (ix2 b x) := by
  unfold lT
  pointwise
  rw [Fin.sum_univ_eight]

theorem aT_at (xk : Vec Ideal S1x1x16384x256 .bf16) (xv : Vec Ideal S1x1x128x16384 .bf16) (qa : Vec Ideal S256x2048 .bf16) (acc : Vec Ideal S128x2048 .f32) (c h : Fin 8) (d : Fin 128) (x : Fin 256) :
    aT xk xv qa acc c h (ix2 d x) = acc (ix2 d (qIx h x)) + ∑ s : Fin 8, dT xk xv qa c s h (ix2 d x) := by
  unfold aT
  pointwise
  rw [Fin.sum_univ_eight, aL_at]

end Cert.KernelIdeal.Attn

end
-- ==== Proof.KI.Softmax.lean ====
module

public import proofs.«01_k».proof.Proof.KI.Tiles
public import proofs.«01_k».proof.Proof.KI.Body
public import Mathlib.Analysis.SpecialFunctions.Pow.Real

@[expose] public section

noncomputable section

namespace Cert.KernelIdeal.Attn

open Idealize.ShloMosaic Idealize.ShloMosaic.TcCoe
open Facts₀ Facts

/-! # What the attention body computes over the extended reals -/

/-- A sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Sums over the keys, chunk by chunk -/

/-- A key by its chunk, its slice and its place in the slice. -/
def keyEquiv : Fin 8 × Fin 8 × Fin 256 ≃ Fin 16384 where
  toFun p := kIx p.1 p.2.1 p.2.2
  invFun j := (⟨j.val / 2048, by omega⟩, ⟨j.val % 2048 / 256, by omega⟩, ⟨j.val % 256, by omega⟩)
  left_inv := by
    rintro ⟨c, s, a⟩
    simp only [kIx]
    refine Prod.ext (Fin.ext ?_) (Prod.ext (Fin.ext ?_) (Fin.ext ?_)) <;> simp only <;> omega
  right_inv j := Fin.ext (by simp only [kIx]; omega)

/-- The sum of `f` over the keys of chunk `c`. -/
def chunk (f : Fin 16384 → ℝ) (c : Fin 8) : ℝ := ∑ s : Fin 8, ∑ a : Fin 256, f (kIx c s a)

/-- The sum of `f` over the keys of the first `n` chunks. -/
def part (n : ℕ) (f : Fin 16384 → ℝ) : ℝ := ∑ c ∈ Finset.univ.filter (fun c : Fin 8 => c.val < n), chunk f c

theorem part_zero (f : Fin 16384 → ℝ) : part 0 f = 0 := by
  unfold part
  rw [Finset.filter_false_of_mem (fun c _ => Nat.not_lt_zero _), Finset.sum_empty]

theorem part_succ (n : ℕ) (hn : n < 8) (f : Fin 16384 → ℝ) : part (n + 1) f = part n f + chunk f (cI n) := by
  unfold part
  have e : Finset.univ.filter (fun c : Fin 8 => c.val < n + 1) = insert (cI n) (Finset.univ.filter (fun c : Fin 8 => c.val < n)) := by
    ext c
    simp only [Finset.mem_filter, Finset.mem_univ, true_and, Finset.mem_insert, Fin.ext_iff, cI]
    omega
  rw [e, Finset.sum_insert, add_comm]
  simp only [Finset.mem_filter, Finset.mem_univ, true_and, cI]
  omega

theorem part_all (f : Fin 16384 → ℝ) : part 8 f = ∑ j, f j := by
  unfold part chunk
  rw [Finset.filter_true_of_mem (fun c _ => c.isLt), ← Equiv.sum_comp keyEquiv f, Fintype.sum_prod_type]
  exact Finset.sum_congr rfl fun c _ => (Fintype.sum_prod_type (fun p : Fin 8 × Fin 256 => f (kIx c p.1 p.2))).symm

theorem part_mul (n : ℕ) (f : Fin 16384 → ℝ) (r : ℝ) : part n (fun j => f j * r) = part n f * r := by
  unfold part chunk
  simp only [Finset.sum_mul]

/-- A row of a slice by its place among every eighth. -/
def rowEquiv : Fin 8 × Fin 32 ≃ Fin 256 where
  toFun p := ⟨8 * p.2.val + p.1.val, by omega⟩
  invFun a := (⟨a.val % 8, by omega⟩, ⟨a.val / 8, by omega⟩)
  left_inv := by
    rintro ⟨b, a⟩
    refine Prod.ext (Fin.ext ?_) (Fin.ext ?_) <;> simp only <;> omega
  right_inv a := Fin.ext (by simp only; omega)

/-! ## The arguments as reals -/

variable [Facts]

/-- The score of a key and a query. -/
def sc (K : Fin 16384 → Fin 256 → ℝ) (Q : Fin 256 → Fin 2048 → ℝ) (j : Fin 16384) (x : Fin 2048) : ℝ := ∑ r, K j r * Q r x

/-- A weight, against the stabiliser `M`. -/
def wt (K : Fin 16384 → Fin 256 → ℝ) (Q : Fin 256 → Fin 2048 → ℝ) (M : Fin 2048 → ℝ) (x : Fin 2048) (j : Fin 16384) : ℝ :=
  Real.rpow 2 (sc K Q j x - M x)

/-- The queries with row 192 holding the negative of the stabiliser. -/
def aug (Q : Fin 256 → Fin 2048 → ℝ) (M : Fin 2048 → ℝ) (r : Fin 256) (x : Fin 2048) : ℝ := if r.val = 192 then - M x else Q r x

/-- A block's arguments are these reals, the keys' column 192 is 1 and the queries' rows from 192 are 0. -/
structure Args (xq : Vec Ideal S1x1x256x2048 .bf16) (xk : Vec Ideal S1x1x16384x256 .bf16) (xv : Vec Ideal S1x1x128x16384 .bf16)
    (Q : Fin 256 → Fin 2048 → ℝ) (K : Fin 16384 → Fin 256 → ℝ) (V : Fin 128 → Fin 16384 → ℝ) : Prop where
  q : ∀ r x, xq (ix4 0 0 r x) = (Q r x : EReal)
  k : ∀ j r, xk (ix4 0 0 j r) = (K j r : EReal)
  v : ∀ d j, xv (ix4 0 0 d j) = (V d j : EReal)
  one : ∀ j, K j 192 = 1
  zero : ∀ r x, 192 ≤ r.val → Q r x = 0

variable {xq : Vec Ideal S1x1x256x2048 .bf16} {xk : Vec Ideal S1x1x16384x256 .bf16} {xv : Vec Ideal S1x1x128x16384 .bf16}
variable {Q : Fin 256 → Fin 2048 → ℝ} {K : Fin 16384 → Fin 256 → ℝ} {V : Fin 128 → Fin 16384 → ℝ}

/-- A score of the augmented queries is the score less the stabiliser. -/
theorem sT_val (A : Args xq xk xv Q K V) (M : Fin 2048 → ℝ) (qa : Vec Ideal S256x2048 .bf16)
    (hq : ∀ r x, qa (ix2 r x) = (aug Q M r x : EReal)) (c s h : Fin 8) (a x : Fin 256) :
    sT xk qa c s h (ix2 a x) = ((sc K Q (kIx c s a) (qIx h x) - M (qIx h x) : ℝ) : EReal) := by
  rw [sT_at]
  have e : sc K Q (kIx c s a) (qIx h x) - M (qIx h x) = ∑ r : Fin 256, K (kIx c s a) r * aug Q M r (qIx h x) := by
    have e1 : ∀ r : Fin 256, K (kIx c s a) r * aug Q M r (qIx h x) = K (kIx c s a) r * Q r (qIx h x) + (if r = (192 : Fin 256) then - M (qIx h x) else 0) := by
      intro r
      unfold aug
      by_cases hr : r = (192 : Fin 256)
      · subst hr
        rw [if_pos (show ((192 : Fin 256)).val = 192 from rfl), if_pos rfl, A.one, A.zero _ _ (le_refl _)]
        ring
      · rw [if_neg (show ¬ r.val = 192 from fun e => hr (Fin.ext e)), if_neg hr, add_zero]
    rw [Finset.sum_congr rfl (fun r _ => e1 r), Finset.sum_add_distrib, Finset.sum_ite_eq' Finset.univ (192 : Fin 256), if_pos (Finset.mem_univ _)]
    unfold sc
    ring
  rw [e, coe_sum]
  refine Finset.sum_congr rfl fun r _ => ?_
  rw [A.k, hq, EReal.coe_mul]

theorem eT_val (A : Args xq xk xv Q K V) (M : Fin 2048 → ℝ) (qa : Vec Ideal S256x2048 .bf16)
    (hq : ∀ r x, qa (ix2 r x) = (aug Q M r x : EReal)) (c s h : Fin 8) (a x : Fin 256) :
    eT xk qa c s h (ix2 a x) = ((wt K Q M (qIx h x) (kIx c s a) : ℝ) : EReal) := by
  rw [eT_at, sT_val A M qa hq, Ideal.exp2_coe]; rfl

/-- A chunk's largest score is a real. -/
theorem mA_val (A : Args xq xk xv Q K V) (M : Fin 2048 → ℝ) (qa : Vec Ideal S256x2048 .bf16)
    (hq : ∀ r x, qa (ix2 r x) = (aug Q M r x : EReal)) (c : Fin 8) : ∃ N : Fin 2048 → ℝ, ∀ x, mA xk qa c (ix2 0 x) = (N x : EReal) :=
  Classical.axiomOfChoice fun x => mA_real xk qa c x fun s h a y => ⟨_, sT_val A M qa hq c s h a y⟩

/-- The accumulator's columns with a chunk added. -/
theorem aT_val (A : Args xq xk xv Q K V) (M : Fin 2048 → ℝ) (qa : Vec Ideal S256x2048 .bf16)
    (hq : ∀ r x, qa (ix2 r x) = (aug Q M r x : EReal)) (acc : Vec Ideal S128x2048 .f32) (c h : Fin 8) (d : Fin 128) (x : Fin 256) :
    aT xk xv qa acc c h (ix2 d x) = acc (ix2 d (qIx h x)) + ((chunk (fun j => V d j * wt K Q M (qIx h x) j) c : ℝ) : EReal) := by
  rw [aT_at]
  unfold chunk
  rw [coe_sum]
  refine congrArg (_ + ·) (Finset.sum_congr rfl fun s _ => ?_)
  rw [dT_at, coe_sum]
  refine Finset.sum_congr rfl fun a _ => ?_
  rw [A.v, eT_val A M qa hq, EReal.coe_mul]

/-- The sums of weights of a chunk are reals, and their total is the chunk's. -/
theorem lT_val (A : Args xq xk xv Q K V) (M : Fin 2048 → ℝ) (qa : Vec Ideal S256x2048 .bf16)
    (hq : ∀ r x, qa (ix2 r x) = (aug Q M r x : EReal)) (c h b : Fin 8) (x : Fin 256) :
    lT xk qa c h (ix2 b x) = ((∑ s : Fin 8, ∑ a : Fin 32, wt K Q M (qIx h x) (kIx c s (rowEquiv (b, a))) : ℝ) : EReal) := by
  rw [lT_at, coe_sum]
  refine Finset.sum_congr rfl fun s _ => ?_
  rw [rT_at, coe_sum]
  exact Finset.sum_congr rfl fun a _ => eT_val A M qa hq c s h _ x

theorem chunk_rows (f : Fin 16384 → ℝ) (c : Fin 8) : ∑ b : Fin 8, ∑ s : Fin 8, ∑ a : Fin 32, f (kIx c s (rowEquiv (b, a))) = chunk f c := by
  unfold chunk
  rw [Finset.sum_comm]
  refine Finset.sum_congr rfl fun s _ => ?_
  rw [← Equiv.sum_comp rowEquiv (fun a => f (kIx c s a)), Fintype.sum_prod_type]

/-! ## The buffers -/

theorem setRows_at (qa : Vec Ideal S256x2048 .bf16) (w : Vec Ideal S16x2048 .bf16) (r : Fin 256) (x : Fin 2048) :
    setRows qa w (ix2 r x) = if h : 192 ≤ r.val ∧ r.val < 208 then w (ix2 ⟨r.val - 192, by omega⟩ x) else qa (ix2 r x) := by
  unfold setRows
  split_ifs with h
  · have e : (Rect.unit (s := S256x2048) ![192, 0] S16x2048.size inb_S256x2048_S16x2048_192_0).emb (ix2 (⟨r.val - 192, by omega⟩ : Fin 16) x) = ix2 r x := by
      funext a
      fin_cases a
      · exact Fin.ext (by show 192 + 1 * (r.val - 192) = r.val; omega)
      · exact Fin.ext (by show 0 + 1 * x.val = x.val; omega)
    conv_lhs => rw [← e]
    rw [Rect.overlay_emb]
  · rw [Rect.overlay_of_not_mem]
    rw [Rect.mem_set_unit]
    intro H
    have H0 := H (0 : Fin 2)
    apply h
    change 192 ≤ r.val ∧ r.val < 192 + 16 at H0
    omega

/-- The augmented queries with the stabiliser's rows put in. -/
theorem setRows_val (hz : ∀ r x, 192 ≤ r.val → Q r x = 0) (M M' : Fin 2048 → ℝ) (qa : Vec Ideal S256x2048 .bf16)
    (hq : ∀ r x, qa (ix2 r x) = (aug Q M r x : EReal)) (m : FVec Ideal S1x2048 .f32) (hm : ∀ x, m (ix2 0 x) = (M' x : EReal)) (r : Fin 256) (x : Fin 2048) :
    setRows qa (stabRows m) (ix2 r x) = (aug Q M' r x : EReal) := by
  rw [setRows_at]
  split_ifs with h
  · rw [stabRows_at, hm]
    unfold aug
    by_cases hr : r.val = 192
    · rw [if_pos (by show r.val - 192 = 0; omega), if_pos hr, EReal.coe_neg]
    · rw [if_neg (by show ¬ r.val - 192 = 0; omega), if_neg hr, hz r x (by omega), EReal.coe_zero]
  · rw [hq]
    unfold aug
    rw [if_neg (by omega), if_neg (by omega)]

theorem fullA_at (W : Fin 8 → Vec Ideal S128x256 .f32) (d : Fin 128) (h : Fin 8) (x : Fin 256) : fullA W (ix2 d (qIx h x)) = W h (ix2 d x) := by
  have e : (Rect.unit (s := S128x2048) ![0, 256 * h.val] S128x256.size (by have := h.isLt; intro a; fin_cases a <;> simp [S128x2048, S128x256] <;> omega)).emb (ix2 d x) = ix2 d (qIx h x) := by
    funext a
    fin_cases a
    · exact Fin.ext (by show 0 + 1 * d.val = d.val; omega)
    · exact Fin.ext (by show 256 * h.val + 1 * x.val = 256 * h.val + x.val; omega)
  rw [← e]
  exact fullA_emb _

theorem fullL_at (W : Fin 8 → Vec Ideal S8x256 .f32) (d : Fin 8) (h : Fin 8) (x : Fin 256) : fullL W (ix2 d (qIx h x)) = W h (ix2 d x) := by
  have e : (Rect.unit (s := S8x2048) ![0, 256 * h.val] S8x256.size (by have := h.isLt; intro a; fin_cases a <;> simp [S8x2048, S8x256] <;> omega)).emb (ix2 d x) = ix2 d (qIx h x) := by
    funext a
    fin_cases a
    · exact Fin.ext (by show 0 + 1 * d.val = d.val; omega)
    · exact Fin.ext (by show 256 * h.val + 1 * x.val = 256 * h.val + x.val; omega)
  rw [← e]
  exact fullL_emb _

/-- Every query is one of the columns of a block of 256. -/
theorem exists_qIx (x : Fin 2048) : ∃ h y, qIx h y = x :=
  ⟨⟨x.val / 256, by omega⟩, ⟨x.val % 256, by omega⟩, Fin.ext (by simp only [qIx]; omega)⟩

/-! ## The invariant -/

/-- After `n` chunks, against a stabiliser `M` of reals: the augmented queries hold its negative, the accumulator the
    weighted values of the chunks seen, and the eight rows of sums the weights' total. -/
def Held (Q : Fin 256 → Fin 2048 → ℝ) (K : Fin 16384 → Fin 256 → ℝ) (V : Fin 128 → Fin 16384 → ℝ) (n : ℕ) (qa : Vec Ideal S256x2048 .bf16)
    (m : Vec Ideal S1x2048 .f32) (acc : Vec Ideal S128x2048 .f32) (l : Vec Ideal S8x2048 .f32) : Prop :=
  ∃ (M : Fin 2048 → ℝ) (L : Fin 8 → Fin 2048 → ℝ), (∀ x, m (ix2 0 x) = (M x : EReal)) ∧ (∀ r x, qa (ix2 r x) = (aug Q M r x : EReal))
    ∧ (∀ d x, acc (ix2 d x) = ((part n (fun j => V d j * wt K Q M x j) : ℝ) : EReal))
    ∧ (∀ b x, l (ix2 b x) = (L b x : EReal)) ∧ ∀ x, ∑ b, L b x = part n (wt K Q M x)

/-- A weight against a moved stabiliser. -/
theorem wt_move (M M' : Fin 2048 → ℝ) (x : Fin 2048) (j : Fin 16384) :
    wt K Q M x j * Real.rpow 2 (M x - M' x) = wt K Q M' x j := by
  unfold wt
  have := Real.rpow_add (show (0 : ℝ) < 2 by norm_num) (sc K Q j x - M x) (M x - M' x)
  exact this.symm.trans (congrArg (Real.rpow 2) (by ring))

/-- The four steps of the body keep the invariant. -/
theorem held_inv (A : Args xq xk xv Q K V) : Inv xq xk xv (Held Q K V) where
  init := by
    refine ⟨fun _ => 0, fun _ _ => 0, fun x => ?_, fun r x => ?_, fun d x => ?_, fun b x => ?_, fun x => ?_⟩
    · pointwise
      rfl
    · pointwise
      rw [A.q]
      unfold aug
      by_cases hr : r.val = 192
      · rw [if_pos hr, A.zero _ _ (by omega), neg_zero]
      · rw [if_neg hr]
    · rw [part_zero]; pointwise
      rfl
    · pointwise
      rfl
    · rw [part_zero, Finset.sum_const_zero]
  first := by
    rintro qa m acc l ⟨M, L, hm, hq, ha, hl, ht⟩
    obtain ⟨N, hN⟩ := mA_val A M qa hq (cI 0)
    have hm' : ∀ x, newM m (mA xk qa (cI 0)) (ix2 0 x) = ((M x + N x : ℝ) : EReal) := fun x => by
      rw [newM_at, hm, hN, EReal.coe_add]
    refine ⟨fun x => M x + N x, L, fun x => ?_, fun r x => setRows_val A.zero M _ qa hq _ hm' r x, fun d x => ?_, hl, fun x => ?_⟩
    · pointwise
      exact hm' x
    · rw [ha, part_zero, part_zero]
    · rw [ht, part_zero, part_zero]
  rescale := by
    rintro n qa m acc l hn ⟨M, L, hm, hq, ha, hl, ht⟩
    obtain ⟨N, hN⟩ := mA_val A M qa hq (cI n)
    have hm' : ∀ x, newM m (up (mA xk qa (cI n))) (ix2 0 x) = ((M x + max (N x) 0 : ℝ) : EReal) := fun x => by
      rw [newM_at, hm, up_at, hN, EReal.coe_add, ← EReal.coe_zero, EReal.coe_strictMono.monotone.map_max]
    have hs : ∀ x, shrink m (newM m (up (mA xk qa (cI n)))) (ix2 0 x) = ((Real.rpow 2 (M x - (M x + max (N x) 0)) : ℝ) : EReal) := fun x => by
      rw [shrink_at, hm, hm', ← EReal.coe_sub, Ideal.exp2_coe]
    refine ⟨fun x => M x + max (N x) 0, fun b x => L b x * Real.rpow 2 (M x - (M x + max (N x) 0)), fun x => ?_, fun r x => setRows_val A.zero M _ qa hq _ hm' r x, fun d x => ?_, fun b x => ?_, fun x => ?_⟩
    · pointwise
      exact hm' x
    · pointwise
      rw [hs, ha, ← EReal.coe_mul, ← part_mul]
      refine congrArg (fun f => ((part n f : ℝ) : EReal)) (funext fun j => ?_)
      rw [mul_assoc]
      exact congrArg (V d j * ·) (wt_move M (fun x => M x + max (N x) 0) x j)
    · pointwise
      rw [hs, hl, ← EReal.coe_mul]
    · rw [← Finset.sum_mul, ht, ← part_mul]
      exact congrArg (part n) (funext fun j => wt_move M (fun x => M x + max (N x) 0) x j)
  add := by
    rintro n qa m acc l hn ⟨M, L, hm, hq, ha, hl, ht⟩
    refine ⟨M, fun b x => L b x + ∑ s : Fin 8, ∑ a : Fin 32, wt K Q M x (kIx (cI n) s (rowEquiv (b, a))), hm, hq, fun d x => ?_, fun b x => ?_, fun x => ?_⟩
    · obtain ⟨h, y, rfl⟩ := exists_qIx x
      rw [fullA_at, aT_val A M qa hq, ha, ← EReal.coe_add, part_succ n hn]
    · obtain ⟨h, y, rfl⟩ := exists_qIx x
      pointwise
      rw [fullL_at, lT_val A M qa hq, hl, ← EReal.coe_add]
    · rw [Finset.sum_add_distrib, ht, part_succ n hn, chunk_rows]

/-! ## The block -/

/-- Attention: a query's values weighted by the powers of two of its scores, over the weights' total. -/
def att (K : Fin 16384 → Fin 256 → ℝ) (Q : Fin 256 → Fin 2048 → ℝ) (V : Fin 128 → Fin 16384 → ℝ) (d : Fin 128) (x : Fin 2048) : ℝ :=
  (∑ j, V d j * Real.rpow 2 (sc K Q j x)) / ∑ j, Real.rpow 2 (sc K Q j x)

theorem finish_val (A : Args xq xk xv Q K V) {qa : Vec Ideal S256x2048 .bf16} {m : Vec Ideal S1x2048 .f32} {acc : Vec Ideal S128x2048 .f32}
    {l : Vec Ideal S8x2048 .f32} (H : Held Q K V 8 qa m acc l) (q : Fin 2048) (d : Fin 128) : finish (F := Ideal) acc l (ix3 0 q d) = (att K Q V d q : EReal) := by
  obtain ⟨M, L, hm, hq, ha, hl, ht⟩ := H
  rw [finish_at, ha, Finset.sum_congr rfl (fun b _ => hl b q), ← coe_sum, ht, part_all, part_all]
  have e1 : ∀ j, wt K Q M q j = Real.rpow 2 (sc K Q j q) * Real.rpow 2 (- M q) := fun j =>
    (congrArg (Real.rpow 2) (sub_eq_add_neg _ _)).trans (Real.rpow_add (show (0 : ℝ) < 2 by norm_num) _ _)
  have hM : Real.rpow 2 (- M q) ≠ 0 := (Real.rpow_pos_of_pos (show (0 : ℝ) < 2 by norm_num) _).ne'
  have hp : 0 < ∑ j, Real.rpow 2 (sc K Q j q) := Finset.sum_pos (fun j _ => Real.rpow_pos_of_pos (show (0 : ℝ) < 2 by norm_num) _) ⟨0, Finset.mem_univ _⟩
  have e2 : ∑ j, wt K Q M q j = (∑ j, Real.rpow 2 (sc K Q j q)) * Real.rpow 2 (- M q) := by
    rw [Finset.sum_mul]; exact Finset.sum_congr rfl fun j _ => e1 j
  have e3 : ∑ j, V d j * wt K Q M q j = (∑ j, V d j * Real.rpow 2 (sc K Q j q)) * Real.rpow 2 (- M q) := by
    rw [Finset.sum_mul]; exact Finset.sum_congr rfl fun j _ => by rw [e1, mul_assoc]
  rw [e2, e3, Ideal.div_coe (mul_ne_zero hp.ne' hM), ← EReal.coe_mul]
  refine congrArg _ ?_
  unfold att
  field_simp

end Cert.KernelIdeal.Attn

end
-- ==== Proof.KI.Ref.lean ====
module

public import proofs.«01_k».proof.Proof.KI.Softmax
public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe
open Cert.KernelIdeal.Attn (coe_sum IsR isR_max isR_fold)

/-! # What the reference computes over the extended reals -/

/-- The arguments of the reference, as reals; the queries' rows from 192 on are zero. -/
structure Reals (x0 : FVec Ideal S2x8x256x16384 .bf16) (x1 : FVec Ideal S2x8x16384x256 .bf16) (x2 : FVec Ideal S2x8x128x16384 .bf16)
    (Q : Fin 2 → Fin 8 → Fin 256 → Fin 16384 → ℝ) (K : Fin 2 → Fin 8 → Fin 16384 → Fin 256 → ℝ) (V : Fin 2 → Fin 8 → Fin 128 → Fin 16384 → ℝ) : Prop where
  q : ∀ b n r q, x0 (ix4 b n r q) = (Q b n r q : EReal)
  k : ∀ b n j r, x1 (ix4 b n j r) = (K b n j r : EReal)
  v : ∀ b n d j, x2 (ix4 b n d j) = (V b n d j : EReal)
  one : ∀ b n j, K b n j 192 = 1
  zero : ∀ b n r q, 192 ≤ r.val → Q b n r q = 0

variable {x0 : FVec Ideal S2x8x256x16384 .bf16} {x1 : FVec Ideal S2x8x16384x256 .bf16} {x2 : FVec Ideal S2x8x128x16384 .bf16}
variable {Q : Fin 2 → Fin 8 → Fin 256 → Fin 16384 → ℝ} {K : Fin 2 → Fin 8 → Fin 16384 → Fin 256 → ℝ} {V : Fin 2 → Fin 8 → Fin 128 → Fin 16384 → ℝ}

/-- The score of key `j` for query `q` of head `n`. -/
def score (Q : Fin 2 → Fin 8 → Fin 256 → Fin 16384 → ℝ) (K : Fin 2 → Fin 8 → Fin 16384 → Fin 256 → ℝ) (b : Fin 2) (n : Fin 8) (j q : Fin 16384) : ℝ :=
  ∑ r : Fin 256, K b n j r * Q b n r q

/-- Attention: a query's values weighted by the powers of two of its scores, over the weights' total. -/
def attn (Q : Fin 2 → Fin 8 → Fin 256 → Fin 16384 → ℝ) (K : Fin 2 → Fin 8 → Fin 16384 → Fin 256 → ℝ) (V : Fin 2 → Fin 8 → Fin 128 → Fin 16384 → ℝ)
    (b : Fin 2) (n : Fin 8) (d : Fin 128) (q : Fin 16384) : ℝ :=
  (∑ j, V b n d j * Real.rpow 2 (score Q K b n j q)) / ∑ j, Real.rpow 2 (score Q K b n j q)

/-- The word of two. -/
theorem two_f32 : Ideal.ofBits FTy.f32 0x40000000#32 = ((2 : ℝ) : EReal) := by
  simp [Ideal.ofBits, Ideal.ieee]
  rw [← EReal.coe_mul]
  norm_num

/-- A score over the first 192 rows is the whole score: the other rows are zero. -/
theorem v4_at (A : Reals x0 x1 x2 Q K V) (b : Fin 2) (n : Fin 8) (q j : Fin 16384) :
    val_main_v4 (F := Ideal) x0 x1 (ix4 b n q j) = (score Q K b n j q : EReal) := by
  unfold val_main_v4 val_main_v3 val_main_v2 val_main_v1 val_main_v0
  pointwise [dot_S2x8x192x16384_S2x8x16384x192_S2x8x16384x16384_2_3_3_2_01_01]
  have e : score Q K b n j q = ∑ r : Fin 192, Q b n ⟨r.val, by omega⟩ q * K b n j ⟨r.val, by omega⟩ := by
    unfold score
    rw [show (∑ r : Fin 256, K b n j r * Q b n r q) = ∑ r : Fin (192 + 64), K b n j r * Q b n r q from rfl, Fin.sum_univ_add]
    rw [show (∑ r : Fin 64, K b n j (Fin.natAdd 192 r) * Q b n (Fin.natAdd 192 r) q) = 0 from
      Finset.sum_eq_zero fun r _ => by rw [A.zero b n _ q (by simp), mul_zero], add_zero]
    exact Finset.sum_congr rfl fun r _ => mul_comm _ _
  rw [e, coe_sum]
  exact Finset.sum_congr rfl fun r _ => by rw [A.q, A.k, EReal.coe_mul]

/-- The largest score of a query is a real. -/
theorem v5_real (A : Reals x0 x1 x2 Q K V) (b : Fin 2) (n : Fin 8) (q : Fin 16384) : IsR (val_main_v5 (F := Ideal) x0 x1 (ix3 b n q)) := by
  unfold val_main_v5 val_main_cst
  pointwise
  exact isR_fold _ fun j => ⟨_, v4_at A b n q j⟩

/-- A weight: two to the score less a real that the query's keys share. -/
theorem v10_at (A : Reals x0 x1 x2 Q K V) (b : Fin 2) (n : Fin 8) (q : Fin 16384) :
    ∃ M : ℝ, ∀ j, val_main_v10 (F := Ideal) x0 x1 (ix4 b n q j) = ((Real.rpow 2 (score Q K b n j q) * Real.rpow 2 (-M) : ℝ) : EReal) := by
  obtain ⟨M, hM⟩ := v5_real A b n q
  refine ⟨M, fun j => ?_⟩
  unfold val_main_v10 val_main_v9 val_main_cst_0 val_main_v8 val_main_v7 val_main_v6
  pointwise
  rw [hM, v4_at A, two_f32, ← EReal.coe_sub, Ideal.pow_coe_coe]
  exact congrArg _ ((congrArg (Real.rpow 2) (sub_eq_add_neg _ _)).trans (Real.rpow_add (show (0 : ℝ) < 2 by norm_num) _ _))

/-- A normalised weight. -/
theorem v14_at (A : Reals x0 x1 x2 Q K V) (b : Fin 2) (n : Fin 8) (q j : Fin 16384) :
    val_main_v14 (F := Ideal) x0 x1 (ix4 b n q j) = ((Real.rpow 2 (score Q K b n j q) / ∑ i, Real.rpow 2 (score Q K b n i q) : ℝ) : EReal) := by
  obtain ⟨M, hM⟩ := v10_at A b n q
  have h2 : ∀ y : ℝ, 0 < Real.rpow 2 y := fun y => Real.rpow_pos_of_pos (show (0 : ℝ) < 2 by norm_num) y
  have hp : 0 < ∑ i, Real.rpow 2 (score Q K b n i q) := Finset.sum_pos (fun i _ => h2 _) ⟨0, Finset.mem_univ _⟩
  unfold val_main_v14 val_main_v13 val_main_v12 val_main_v11 val_main_cst_1
  pointwise
  rw [hM, Finset.sum_congr rfl (fun i _ => hM i), ← coe_sum, ← Finset.sum_mul, Ideal.div_coe (mul_ne_zero hp.ne' (h2 _).ne'), ← EReal.coe_mul]
  refine congrArg _ ?_
  have := (h2 (-M)).ne'
  field_simp

/-- The reference's result, at a query and a feature of a head. -/
theorem v19_at (A : Reals x0 x1 x2 Q K V) (b : Fin 2) (q : Fin 16384) (e : Fin 1024) :
    val_main_v19 (F := Ideal) x0 x1 x2 (ix3 b q e) = (attn Q K V b ⟨e.val / 128, by omega⟩ ⟨e.val % 128, by omega⟩ q : EReal) := by
  unfold val_main_v19 val_main_v18 val_main_v17 val_main_v16 val_main_v15
  pointwise [dot_S2x8x128x16384_S2x8x16384x16384_S2x8x128x16384_3_3_2_2_01_01]
  unfold attn
  rw [Finset.sum_div, coe_sum]
  exact Finset.sum_congr rfl fun j _ => by rw [A.v, v14_at A, ← EReal.coe_mul, mul_div_assoc]

end Cert.ReferenceIdeal.Attn

end
-- ==== Proof.KI.Pre.lean ====
module

public import proofs.«01_k».proof.Defs
public import proofs.«01_k».proof.Proof.KI.Tiles
public import proofs.«01_k».proof.Proof.Gen.Pre_attention_arguments
public import Idealize.ShloMosaic.Lib.Pointwise

@[expose] public section

set_option maxRecDepth 16384

noncomputable section

namespace Cert.KernelIdeal.Attn

open Idealize.ShloMosaic Idealize.ShloMosaic.TcCoe

/-! # The precondition, read as facts about real numbers -/

/-- An extended real of absolute value below infinity is a real. -/
theorem real_of_abs {x : EReal} (h : max x (-x) < ⊤) : x = (x.toReal : EReal) := by
  refine (EReal.coe_toReal ?_ ?_).symm
  · rintro rfl; exact absurd h (by simp)
  · rintro rfl; exact absurd h (by simp)

/-- A bit that says a decidable fact holds. -/
theorem of_bit {p : Prop} [Decidable p] (h : BitVec.ofBool (decide p) = 1#1) : p := by
  by_contra hp
  rw [decide_eq_false hp] at h
  exact absurd h (by decide)

/-- The word of the largest exponent and no fraction is infinity. -/
theorem inf_bf16 : Ideal.ofBits FTy.bf16 0x7F80#16 = ⊤ := by simp [Ideal.ofBits, Ideal.ieee]

variable (a0 : FVec Ideal S2x8x256x16384 .bf16) (a1 : FVec Ideal S2x8x16384x256 .bf16) (a2 : FVec Ideal S2x8x128x16384 .bf16)

/-- Every entry of the queries is a real. -/
theorem real_q (h : (Cert.Pre_attention_arguments.fn (F := Ideal) a0 a1 a2).1 = fun _ => 1#1) (b : Fin 2) (n : Fin 8) (r : Fin 256) (q : Fin 16384) :
    a0 (ix4 b n r q) = ((a0 (ix4 b n r q)).toReal : EReal) := by
  have e := congrFun h (ix4 b n r q)
  unfold Cert.Pre_attention_arguments.fn at e
  pointwise at e
  have e' := of_bit e
  rw [inf_bf16] at e'
  exact real_of_abs e'

/-- Every entry of the keys is a real. -/
theorem real_k (h : (Cert.Pre_attention_arguments.fn (F := Ideal) a0 a1 a2).2.1 = fun _ => 1#1) (b : Fin 2) (n : Fin 8) (j : Fin 16384) (r : Fin 256) :
    a1 (ix4 b n j r) = ((a1 (ix4 b n j r)).toReal : EReal) := by
  have e := congrFun h (ix4 b n j r)
  unfold Cert.Pre_attention_arguments.fn at e
  pointwise at e
  have e' := of_bit e
  rw [inf_bf16] at e'
  exact real_of_abs e'

/-- Every entry of the values is a real. -/
theorem real_v (h : (Cert.Pre_attention_arguments.fn (F := Ideal) a0 a1 a2).2.2.1 = fun _ => 1#1) (b : Fin 2) (n : Fin 8) (d : Fin 128) (j : Fin 16384) :
    a2 (ix4 b n d j) = ((a2 (ix4 b n d j)).toReal : EReal) := by
  have e := congrFun h (ix4 b n d j)
  unfold Cert.Pre_attention_arguments.fn at e
  pointwise at e
  have e' := of_bit e
  rw [inf_bf16] at e'
  exact real_of_abs e'

/-- Column 192 of the keys is one. -/
theorem one_k (h : (Cert.Pre_attention_arguments.fn (F := Ideal) a0 a1 a2).2.2.2.1 = fun _ => 1#1) (b : Fin 2) (n : Fin 8) (j : Fin 16384) :
    a1 (ix4 b n j 192) = (1 : EReal) := by
  have e := congrFun h (ix3 b n j)
  unfold Cert.Pre_attention_arguments.fn at e
  pointwise at e
  exact of_bit e

/-- The rows of the queries from 192 on are zero. -/
theorem zero_q (h : (Cert.Pre_attention_arguments.fn (F := Ideal) a0 a1 a2).2.2.2.2 = fun _ => 1#1) (b : Fin 2) (n : Fin 8) (r : Fin 256) (q : Fin 16384) (hr : 192 ≤ r.val) :
    a0 (ix4 b n r q) = (0 : EReal) := by
  have e := congrFun h (ix4 b n (⟨r.val - 192, by omega⟩ : Fin 64) q)
  unfold Cert.Pre_attention_arguments.fn at e
  pointwise at e
  have e' := of_bit e
  rwa [show (⟨192 + (r.val - 192), by omega⟩ : Fin 256) = r from Fin.ext (by simp only; omega)] at e'

end Cert.KernelIdeal.Attn

end
-- ==== Proof.KI.Value.lean ====
module

public import proofs.«01_k».proof.Proof.KI.Launch
public import proofs.«01_k».proof.Proof.KI.Ref
public import proofs.«01_k».proof.Proof.KI.Pre
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen
open Cert.ReferenceIdeal.Attn (Reals attn score)

/-! # The kernel's result array -/

/-- The windows' blocks: batch `t / 64`, head `t / 8 % 8`, queries' block `t % 8`. -/
theorem idx : ∀ t : Fin cfg0.N, win0_0.index t = ![t.val / 64, t.val / 8 % 8, 0, t.val % 8] ∧ win0_1.index t = ![t.val / 64, t.val / 8 % 8, 0, 0]
    ∧ win0_2.index t = ![t.val / 64, t.val / 8 % 8, 0, 0] ∧ win0_3.index t = ![t.val / 64, t.val % 8, t.val / 8 % 8] ∧ t.val < 128 :=
  (by decide +kernel : ∀ t : Fin grid0.N, _)

variable (m : (ℓ : Loc nD τ sig) → Buf (Elt Ideal) ℓ) (ρ : Dev nD → PrngReg)
variable {Q : Fin 2 → Fin 8 → Fin 256 → Fin 16384 → ℝ} {K : Fin 2 → Fin 8 → Fin 16384 → Fin 256 → ℝ} {V : Fin 2 → Fin 8 → Fin 128 → Fin 16384 → ℝ}

variable {Qs : Dev nD → Fin 2 → Fin 8 → Fin 256 → Fin 16384 → ℝ} {Ks : Dev nD → Fin 2 → Fin 8 → Fin 16384 → Fin 256 → ℝ} {Vs : Dev nD → Fin 2 → Fin 8 → Fin 128 → Fin 16384 → ℝ}

/-- A point's batch, head and queries. -/
abbrev bOf (t : Fin cfg0.N) : Fin 2 := ⟨t.val / 64, by have := (idx t).2.2.2.2; omega⟩
abbrev nOf (t : Fin cfg0.N) : Fin 8 := ⟨t.val / 8 % 8, by omega⟩
abbrev qOf (t : Fin cfg0.N) (x : Fin 2048) : Fin 16384 := ⟨t.val % 8 * 2048 + x.val, by omega⟩

/-- The three input blocks at a point, as reals. -/
theorem blocks (c : Dev nD) (A : Reals (m ((c : Thread nD τ).loc main_arg0)) (m ((c : Thread nD τ).loc main_arg1)) (m ((c : Thread nD τ).loc main_arg2)) Q K V) (t : Fin cfg0.N) :
    Args (iblk m c 0 t) (iblk m c 1 t) (iblk m c 2 t) (fun r x => Q (bOf t) (nOf t) r (qOf t x)) (K (bOf t) (nOf t)) (V (bOf t) (nOf t)) where
  q r x := by
    rw [← A.q]
    blk_ext [iblk, Gen.V, idx t]
  k j r := by
    rw [← A.k]
    blk_ext [iblk, Gen.V, idx t]
  v d j := by
    rw [← A.v]
    blk_ext [iblk, Gen.V, idx t]
  one j := A.one _ _ j
  zero r x h := A.zero _ _ r _ h

/-- The output block at a point. -/
def block (Q : Fin 2 → Fin 8 → Fin 256 → Fin 16384 → ℝ) (K : Fin 2 → Fin 8 → Fin 16384 → Fin 256 → ℝ) (V : Fin 2 → Fin 8 → Fin 128 → Fin 16384 → ℝ) (t : Fin cfg0.N) :
    Vec Ideal S1x2048x128 .bf16 := fun i => (attn Q K V (bOf t) (nOf t) (i 2) (qOf t (i 1)) : EReal)

/-- The output block is what the body leaves. -/
theorem leaves (c : Dev nD) (A : Reals (m ((c : Thread nD τ).loc main_arg0)) (m ((c : Thread nD τ).loc main_arg1)) (m ((c : Thread nD τ).loc main_arg2)) Q K V) (t : Fin cfg0.N) :
    ∃ I : ℕ → Vec Ideal S256x2048 .bf16 → Vec Ideal S1x2048 .f32 → Vec Ideal S128x2048 .f32 → Vec Ideal S8x2048 .f32 → Prop,
      Inv (iblk m c 0 t) (iblk m c 1 t) (iblk m c 2 t) I ∧ ∀ qa xm acc l, I 8 qa xm acc l → finish (F := Ideal) acc l = block Q K V t :=
  ⟨_, held_inv (blocks m c A t), fun qa xm acc l H => funext fun i => by
    have h := finish_val (blocks m c A t) H (i 1) (i 2)
    have e : (i : S1x2048x128.Idx) = ix3 0 (i 1) (i 2) := by
      funext a; fin_cases a
      · exact Fin.ext (by have := (i 0).isLt; simp at this; simpa using this)
      · rfl
      · rfl
    rw [e]
    exact h⟩

/-- The result array: at query `q` and feature `e` the attention of head `e / 128`, feature `e % 128`. -/
def result (Q : Fin 2 → Fin 8 → Fin 256 → Fin 16384 → ℝ) (K : Fin 2 → Fin 8 → Fin 16384 → Fin 256 → ℝ) (V : Fin 2 → Fin 8 → Fin 128 → Fin 16384 → ℝ) : Vec Ideal S2x16384x1024 .bf16 := fun i =>
  (attn Q K V (i 0) ⟨(i 2).val / 128, by have : (i 2).val < 1024 := (i 2).isLt; omega⟩ ⟨(i 2).val % 128, by omega⟩ (i 1) : EReal)

/-- Attention at equal indices. -/
theorem attn_congr {b b' : Fin 2} {n n' : Fin 8} {d d' : Fin 128} {q q' : Fin 16384} (hb : b = b') (hn : n = n') (hd : d = d') (hq : q = q') :
    ((attn Q K V b n d q : ℝ) : EReal) = (attn Q K V b' n' d' q' : EReal) := by rw [hb, hn, hd, hq]

/-- The output array ends holding the attention. -/
theorem final (c : Dev nD) : (dats m (fun c => block (Qs c) (Ks c) (Vs c)) 0 c).arrAt 3 cfg0.N = result (Qs c) (Ks c) (Vs c) := by
  refine (dats m (fun c => block (Qs c) (Ks c) (Vs c)) 0 c).arrAt_eq_of_covers 3 _ (by decide +kernel) fun t _ y => ?_
  blk_simp
  rw [after_3]
  unfold block result
  have h1 : (y 1).val < 2048 := (y 1).isLt
  have h2 : (y 2).val < 128 := (y 2).isLt
  have h0 : (y 0).val < 1 := (y 0).isLt
  have e0 : ((win0_3.blk t).view.emb y 0).val = t.val / 64 := by
    blk_simp [idx t]
  have e1 : ((win0_3.blk t).view.emb y 1).val = t.val % 8 * 2048 + (y 1).val := by
    blk_simp [idx t]
  have e2 : ((win0_3.blk t).view.emb y 2).val = t.val / 8 % 8 * 128 + (y 2).val := by
    blk_simp [idx t]
  exact attn_congr (Fin.ext e0.symm) (Fin.ext (by show t.val / 8 % 8 = _ / 128; rw [e2]; omega))
    (Fin.ext (by show (y 2).val = _ % 128; rw [e2]; omega)) (Fin.ext e1.symm)

/-- The kernel's run: the result array is the attention of its arguments, and the arguments are unchanged. -/
theorem run_result (A : ∀ c : Dev nD, Reals (m ((c.tc : Thread nD τ).loc main_arg0)) (m ((c.tc : Thread nD τ).loc main_arg1)) (m ((c.tc : Thread nD τ).loc main_arg2)) (Qs c) (Ks c) (Vs c)) :
    θ_run defs (onTc (τ := τ) (main (F := Ideal))) ⟨m, fun _ => 0, ρ⟩ (fun r => ∀ c : Dev nD,
      r.2.mem ((c.tc : Thread nD τ).loc main_v0) = result (Qs c) (Ks c) (Vs c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c),
      ((h.1 c).1 0).trans ((dats m _ 0 c).arrAt_in 0 rfl _), ((h.1 c).1 1).trans ((dats m _ 0 c).arrAt_in 1 rfl _), ((h.1 c).1 2).trans ((dats m _ 0 c).arrAt_in 2 rfl _)⟩)
    (run_value m ρ (fun c => block (Qs c) (Ks c) (Vs c)) (fun c t => leaves m c (A c) t))

end Cert.KernelIdeal.Attn

end
-- ==== Proof.Ffn.lean ====
module

public import proofs.«01_k».proof.Proof.Gen.FfnIdeal.Frame
public import proofs.«01_k».proof.Proof.Gen.FfnReferenceIdeal
public import proofs.«01_k».proof.Proof.Gen.FfnReferenceIdeal.Read
public import Idealize.ShloMosaic.Lib.Pipeline.ValueKit

@[expose] public section

set_option maxRecDepth 16384

noncomputable section

namespace Cert.FfnIdeal.Result

open Idealize.ShloMosaic Idealize.ShloMosaic.TcCoe Idealize.SL.Sem
open Idealize.ShloMosaic.Pipeline (Dat)
open Cert.FfnIdeal Cert.FfnIdeal.Gen
open Cert.FfnReferenceIdeal.Read

/-! # The feed-forward call: its result array -/

/-- The windows' blocks: rows' block `t / 11`, hidden columns' block `t % 11`; the weights' second layer. -/
theorem idx : ∀ t : Fin cfg0.N, win0_0.index t = ![t.val / 11, 0] ∧ win0_1.index t = ![0, 0] ∧ win0_2.index t = ![0, 0]
    ∧ win0_3.index t = ![1, 0, t.val % 11] ∧ win0_4.index t = ![1, 0, t.val % 11] ∧ win0_5.index t = ![1, t.val % 11, 0]
    ∧ win0_6.index t = ![t.val / 11, 0] ∧ t.val < 704 :=
  (by decide +kernel : ∀ t : Fin grid0.N, _)

/-- A hidden block's part of the second product. -/
def part (x : FVec Ideal S512x2048 .bf16) (u v : FVec Ideal S1x2048x512 .bf16) (w : FVec Ideal S1x512x2048 .bf16) (i : S512x2048.Idx) : EReal :=
  k0_pay4 (F := Ideal) x u v (k0_pay3 (F := Ideal)) w i

/-- What a point leaves in the sum: what it held plus the block's part. -/
theorem added (x : FVec Ideal S512x2048 .bf16) (u v : FVec Ideal S1x2048x512 .bf16) (a : FVec Ideal S512x2048 .f32) (w : FVec Ideal S1x512x2048 .bf16) (i : S512x2048.Idx) :
    k0_pay4 (F := Ideal) x u v a w i = a i + part x u v w i := by
  pointwise [part, k0_pay4, k0_pay3]

variable (m : (ℓ : Loc nD τ sig) → Buf (Elt Ideal) ℓ)

/-- The normalised rows a point holds are those of its own block: made at the first hidden block, kept for the others. -/
theorem held (c : Dev nD) : ∀ (n : ℕ) (h : n < cfg0.N), (outsAt0 m c n h).2.1 = k0_pay2 (iblk m c 0 ⟨n, h⟩) (iblk m c 1 ⟨n, h⟩) := by
  intro n
  induction n with
  | zero =>
    intro h
    rw [outsAt0_A m c ⟨0, h⟩ rfl (by show ¬0 % 11 = 10; omega)]
    frame_out
  | succ n ih =>
    intro h
    by_cases h0 : (n + 1) % 11 = 0
    · rw [outsAt0_A m c ⟨n + 1, h⟩ h0 (by dsimp only; omega)]
      frame_out
    · have e0 : iblk m c 0 (⟨n, Nat.lt_of_succ_lt h⟩ : Fin cfg0.N) = iblk m c 0 ⟨n + 1, h⟩ := by
        funext x
        blk_ext [iblk, V, idx ⟨n, Nat.lt_of_succ_lt h⟩, idx ⟨n + 1, h⟩]
      have e1 : iblk m c 1 (⟨n, Nat.lt_of_succ_lt h⟩ : Fin cfg0.N) = iblk m c 1 ⟨n + 1, h⟩ := by
        funext x
        blk_ext [iblk, V, idx ⟨n, Nat.lt_of_succ_lt h⟩, idx ⟨n + 1, h⟩]
      rw [← e0, ← e1, ← ih (Nat.lt_of_succ_lt h)]
      by_cases h1 : (n + 1) % 11 = 10
      · rw [outsAt0_C m c ⟨n + 1, h⟩ h0 h1]
        rfl
      · rw [outsAt0_B m c ⟨n + 1, h⟩ h0 h1]
        rfl

/-- The part a point adds. -/
abbrev term (c : Dev nD) (t : Fin cfg0.N) : S512x2048.Idx → EReal :=
  part (k0_pay2 (iblk m c 0 t) (iblk m c 1 t)) (iblk m c 3 t) (iblk m c 4 t) (iblk m c 5 t)

/-- At a row block's first point the sum is its part. -/
theorem sum_first (c : Dev nD) (t : Fin cfg0.N) (h : t.val % 11 = 0) (i : S512x2048.Idx) : (outsAt0 m c t.val t.isLt).2.2 i = 0 + term m c t i := by
  rw [outsAt0_A m c t h (by omega), zero_add]
  frame_out
  rfl

/-- At the others the part is added to what was held. -/
theorem sum_next (c : Dev nD) (t : Fin cfg0.N) (h : ¬t.val % 11 = 0) (i : S512x2048.Idx) :
    (outsAt0 m c t.val t.isLt).2.2 i = (outsAt0 m c (t.val - 1) (Nat.lt_of_le_of_lt (Nat.sub_le _ _) t.isLt)).2.2 i + term m c t i := by
  have hh := held m c t.val t.isLt
  by_cases h1 : t.val % 11 = 10
  · rw [outsAt0_C m c t h h1] at hh ⊢
    change (outsAt0 m c (t.val - 1) (Nat.lt_of_le_of_lt (Nat.sub_le _ _) t.isLt)).2.1 = _ at hh
    frame_out
    refine (congrArg₂ (fun x a => k0_pay4 (F := Ideal) x (iblk m c 3 t) (iblk m c 4 t) a (iblk m c 5 t) i) (Memref.IsWhole.read_unread _ _) (Memref.IsWhole.read_unread _ _)).trans ?_
    rw [hh]
    exact added _ _ _ _ _ i
  · rw [outsAt0_B m c t h h1] at hh ⊢
    change (outsAt0 m c (t.val - 1) (Nat.lt_of_le_of_lt (Nat.sub_le _ _) t.isLt)).2.1 = _ at hh
    frame_out
    refine (congrArg₂ (fun x a => k0_pay4 (F := Ideal) x (iblk m c 3 t) (iblk m c 4 t) a (iblk m c 5 t) i) (Memref.IsWhole.read_unread _ _) (Memref.IsWhole.read_unread _ _)).trans ?_
    rw [hh]
    exact added _ _ _ _ _ i

/-- At a row block's last point the sum is the reference's second product. -/
theorem sum_last (c : Dev nD) (t : Fin cfg0.N) (h : t.val % 11 = 11 - 1) (r : Fin 512) (d : Fin 2048) : (outsAt0 m c t.val t.isLt).2.2 (ix2 r d)
    = val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (ix2 (⟨t.val / 11 * 512 + r.val, by have := (idx t).2.2.2.2.2.2.2; omega⟩ : Fin 32768) d) := by
  rw [Pipeline.eq_sum_fin_of_reset_step_apply_of_flush (fun n h => (outsAt0 m c n h).2.2) 11 (fun _ => 0) (term m c) (sum_first m c) (sum_next m c) t h (ix2 r d), zero_add]
  pointwise [part, k0_pay4, k0_pay3, k0_pay2, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v0, val_main_call0_v1, val_main_call0_v2, val_main_call0_v3, val_main_call0_v4, val_main_call0_v5, val_main_call0_cst, val_main_call0_cst_0, val_main_cst, val_main_cst_0, val_main_cst_1]
  refine Fin.sum_mul_add_congr fun s k hl => ?_
  rw [zero_sub]
  blk_point [iblk, V, idx t, idx ⟨11 * (t.val / 11) + s.val, Pipeline.run_point_lt_of_flush t h s⟩]

/-- What the last point of a row block stores. -/
theorem stored (c : Dev nD) (t : Fin cfg0.N) (h : t.val % 11 = 10) : (outsAt0 m c t.val t.isLt).1 = k0_pay1 (iblk m c 0 t) ((outsAt0 m c t.val t.isLt).2.2) (iblk m c 2 t) := by
  rw [outsAt0_C m c t (by omega) h]
  frame_out

/-- The result array is the reference's. -/
theorem final (c : Dev nD) : (dats m 0 c).arrAt 6 (cfgs 0).N
    = val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  have h : t.val % 11 = 10 := by
    have := (flush0_6 t).mp hf
    omega
  have e : (outsAt0 m c t.val t.isLt).2.2 = fun i => val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (((cfg0.win 6).blk t).view.emb i) := by
    funext i
    refine (congrArg (outsAt0 m c t.val t.isLt).2.2 (eq_ix2 i)).trans ((sum_last m c t h (i 0) (i 1)).trans ?_)
    blk_ext [idx t]
  blk_simp
  rw [after0_6, stored m c t h, e]
  pointwise [k0_pay1, val_main_v38, val_main_v37, val_main_v36, val_main_v35, val_main_v34, val_main_v33, val_main_v32, val_main_v31, val_main_v30, val_main_v29, val_main_v28, val_main_v27, val_main_v26, val_main_cst_2, val_main_cst_3, val_main_cst_4]
  blk_point [iblk, V, idx t]

end Cert.FfnIdeal.Result

end
-- ==== Proof.InProj.lean ====
module

public import proofs.«01_k».proof.Proof.Gen.InProjIdeal.Frame
public import proofs.«01_k».proof.Proof.Gen.InProjReferenceIdeal
public import proofs.«01_k».proof.Proof.Gen.InProjReferenceIdeal.Read
public import Idealize.ShloMosaic.Lib.Pipeline.ValueKit

@[expose] public section

set_option maxRecDepth 16384

noncomputable section

namespace Cert.InProjIdeal.Result

open Idealize.ShloMosaic Idealize.ShloMosaic.TcCoe Idealize.SL.Sem
open Idealize.ShloMosaic.Pipeline (Dat)
open Cert.InProjIdeal Cert.InProjIdeal.Gen

/-! # The input projection: its result array -/

/-- The windows' blocks: rows' block `t / 2`, columns' half `t % 2`. -/
theorem idx : ∀ t : Fin cfg0.N, win0_0.index t = ![t.val / 2, 0] ∧ win0_1.index t = ![0, 0] ∧ win0_2.index t = ![0, 0]
    ∧ win0_3.index t = ![t.val / 2, t.val % 2] ∧ t.val < 128 ∧ (grid0.coords t 1).val = t.val % 2 :=
  (by decide +kernel : ∀ t : Fin grid0.N, _)

/-- The columns of the weights a point multiplies by. -/
theorem off : ∀ t : Fin cfg0.N, k0_off1 (grid0.coords t) = ![0, t.val % 2 * 2944] :=
  (by decide +kernel : ∀ t : Fin grid0.N, _)

variable (m : (ℓ : Loc nD τ sig) → Buf (Elt Ideal) ℓ)

/-- The normalised rows a point finds are those of its own block: made at the block's first half, kept for the second. -/
theorem held (c : Dev nD) (t : Fin cfg0.N) : (outsAt0 m c t.val t.isLt).2 = k0_pay1 (iblk m c 0 t) (iblk m c 1 t) := by
  by_cases h : t.val % 2 = 0
  · rw [outsAt0_A m c t h]
    frame_out
  · have hN := (idx t).2.2.2.2.1
    have h' : (t.val - 1) % 2 = 0 := by omega
    have e0 : iblk m c 0 (⟨t.val - 1, Nat.lt_of_le_of_lt (Nat.sub_le _ _) t.isLt⟩ : Fin cfg0.N) = iblk m c 0 t := by
      funext x
      blk_ext [iblk, V, idx t, idx ⟨t.val - 1, Nat.lt_of_le_of_lt (Nat.sub_le _ _) t.isLt⟩]
    have e1 : iblk m c 1 (⟨t.val - 1, Nat.lt_of_le_of_lt (Nat.sub_le _ _) t.isLt⟩ : Fin cfg0.N) = iblk m c 1 t := by
      funext x
      blk_ext [iblk, V, idx t, idx ⟨t.val - 1, Nat.lt_of_le_of_lt (Nat.sub_le _ _) t.isLt⟩]
    rw [outsAt0_B m c t h]
    show (outsAt0 m c (t.val - 1) (Nat.lt_of_le_of_lt (Nat.sub_le _ _) t.isLt)).2 = _
    rw [outsAt0_A m c ⟨t.val - 1, Nat.lt_of_le_of_lt (Nat.sub_le _ _) t.isLt⟩ h']
    frame_out
    rw [e0, e1]

/-- The result array is the reference's. -/
theorem final (c : Dev nD) : (dats m 0 c).arrAt 3 (cfgs 0).N
    = Cert.InProjReferenceIdeal.Read.val_main_v13 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have e : (outsAt0 m c t.val t.isLt).1 = k0_pay2 (k0_pay1 (iblk m c 0 t) (iblk m c 1 t)) (View.ld (iblk m c 2 t) (Rect.unit (k0_off1 (grid0.coords t)) ![2048, 2944] (k0_off1_inb _))) := by
    by_cases h : t.val % 2 = 0
    · rw [outsAt0_A m c t h]
      frame_out
      rfl
    · have hh := held m c t
      rw [outsAt0_B m c t h] at hh ⊢
      frame_out
      rw [← hh]
      exact congrArg (fun z => k0_pay2 z _) (Memref.IsWhole.read_unread _ _)
  rw [e]
  pointwise [k0_pay1, k0_pay2, Cert.InProjReferenceIdeal.Read.val_main_v13, Cert.InProjReferenceIdeal.Read.val_main_v12, Cert.InProjReferenceIdeal.Read.val_main_v11, Cert.InProjReferenceIdeal.Read.val_main_v10, Cert.InProjReferenceIdeal.Read.val_main_v9, Cert.InProjReferenceIdeal.Read.val_main_v8, Cert.InProjReferenceIdeal.Read.val_main_v7, Cert.InProjReferenceIdeal.Read.val_main_v6, Cert.InProjReferenceIdeal.Read.val_main_v5, Cert.InProjReferenceIdeal.Read.val_main_v4, Cert.InProjReferenceIdeal.Read.val_main_v3, Cert.InProjReferenceIdeal.Read.val_main_v2, Cert.InProjReferenceIdeal.Read.val_main_v1, Cert.InProjReferenceIdeal.Read.val_main_v0, Cert.InProjReferenceIdeal.Read.val_main_cst, Cert.InProjReferenceIdeal.Read.val_main_cst_0, Cert.InProjReferenceIdeal.Read.val_main_cst_1]
  blk_point [iblk, V, idx t, off t]

end Cert.InProjIdeal.Result

end
-- ==== Proof.OutProj.lean ====
module

public import proofs.«01_k».proof.Proof.Gen.OutProjIdeal.Frame
public import proofs.«01_k».proof.Proof.Gen.OutProjReferenceIdeal
public import proofs.«01_k».proof.Proof.Gen.OutProjReferenceIdeal.Read
public import Idealize.ShloMosaic.Lib.Pipeline.ValueKit

@[expose] public section

set_option maxRecDepth 16384

noncomputable section

namespace Cert.OutProjIdeal.Result

open Idealize.ShloMosaic Idealize.ShloMosaic.TcCoe Idealize.SL.Sem
open Idealize.ShloMosaic.Pipeline (Dat)
open Cert.OutProjIdeal Cert.OutProjIdeal.Gen

/-! # The output projection: its result array -/

/-- The windows' blocks: block `t` of the rows; the weights' second layer. -/
theorem idx : ∀ t : Fin cfg0.N, win0_0.index t = ![t.val, 0] ∧ win0_1.index t = ![t.val, 0] ∧ win0_2.index t = ![t.val, 0]
    ∧ win0_3.index t = ![1, 0, 0] ∧ win0_4.index t = ![t.val, 0] ∧ t.val < 64 :=
  (by decide +kernel : ∀ t : Fin grid0.N, _)

variable (m : (ℓ : Loc nD τ sig) → Buf (Elt Ideal) ℓ)

/-- The result array is the reference's. -/
theorem final (c : Dev nD) : (dats m 0 c).arrAt 4 (cfgs 0).N
    = Cert.OutProjReferenceIdeal.Read.val_main_v6 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  pointwise [k0_pay1, Cert.OutProjReferenceIdeal.Read.val_main_v6, Cert.OutProjReferenceIdeal.Read.val_main_v5, Cert.OutProjReferenceIdeal.Read.val_main_v4, Cert.OutProjReferenceIdeal.Read.val_main_v3, Cert.OutProjReferenceIdeal.Read.val_main_v2, Cert.OutProjReferenceIdeal.Read.val_main_v1, Cert.OutProjReferenceIdeal.Read.val_main_v0]
  rw [add_assoc]
  blk_point [iblk, V, idx t]

end Cert.OutProjIdeal.Result

end
-- ==== Proof.Prep.Host.lean ====
module

public import proofs.«01_k».proof.Proof.Gen.PrepIdeal.Frame
public import proofs.«01_k».proof.Proof.Gen.PrepReferenceIdeal
public import proofs.«01_k».proof.Proof.Gen.PrepReferenceIdeal.Read
public import Idealize.ShloMosaic.Lib.Pipeline.ValueKit

@[expose] public section

set_option maxRecDepth 16384

noncomputable section

namespace Cert.PrepIdeal.Result

open Idealize.ShloMosaic Idealize.ShloMosaic.TcCoe Idealize.SL.Sem
open Idealize.ShloMosaic.Pipeline (Dat)
open Cert.PrepIdeal Cert.PrepIdeal.Gen

variable (m : (ℓ : Loc nD τ sig) → Buf (Elt Ideal) ℓ)

/-! # What the host prepares for the call -/

/-- The cosines and sines of a token's angles, in the four columns' order of the call. -/
def csArr (x1 : IVec S2x16384 32) : FVec Ideal S32768x128 .f32 :=
  shapeCast S32768x128 (concatenate S2x16384x128 2 [⟨S2x16384x32, (Cert.PrepReferenceIdeal.Read.val_main_v17 (F := Ideal) x1 : FVec Ideal S2x16384x32 .f32)⟩,
    ⟨S2x16384x32, (Cert.PrepReferenceIdeal.Read.val_main_v17 (F := Ideal) x1 : FVec Ideal S2x16384x32 .f32)⟩,
    ⟨S2x16384x32, (Host.negf (Cert.PrepReferenceIdeal.Read.val_main_v18 (F := Ideal) x1 : FVec Ideal S2x16384x32 .f32) : FVec Ideal S2x16384x32 .f32)⟩,
    ⟨S2x16384x32, (Cert.PrepReferenceIdeal.Read.val_main_v18 (F := Ideal) x1 : FVec Ideal S2x16384x32 .f32)⟩]
    concatenates_S2x16384x32_S2x16384x32_S2x16384x32_S2x16384x32_S2x16384x128_d2) shapeCasts_S2x16384x128_S32768x128

/-- The queries' weights, head by head. -/
def wqHeads (x3 : FVec Ideal S512x1536 .f32) : FVec Ideal S512x8x192 .bf16 :=
  shapeCast S512x8x192 (truncf .bf16 x3 bitsLt_bf16_f32) shapeCasts_S512x1536_S512x8x192

/-- The rotary columns of every head. -/
def wqRot (x3 : FVec Ideal S512x1536 .f32) : FVec Ideal S512x8x64 .bf16 :=
  extractStridedSlice S512x8x64 ![0, 0, 128] (wqHeads x3) slices_S512x8x192_S512x8x64_0_0_128

/-- The rotary columns with their halves exchanged. -/
def wqSwap (x3 : FVec Ideal S512x1536 .f32) : FVec Ideal S512x8x64 .bf16 :=
  concatenate S512x8x64 2
    [⟨S512x8x32, extractStridedSlice S512x8x32 ![0, 0, 32] (wqRot x3) slices_S512x8x64_S512x8x32_0_0_32⟩,
     ⟨S512x8x32, extractStridedSlice S512x8x32 ![0, 0, 0] (wqRot x3) slices_S512x8x64_S512x8x32_0_0_0⟩] concatenates_S512x8x32_S512x8x32_S512x8x64_d2

/-- The queries' weights with the exchanged rotary columns beside each head. -/
def wqArr (x3 : FVec Ideal S512x1536 .f32) : FVec Ideal S512x2048 .bf16 :=
  shapeCast S512x2048 (concatenate S512x8x256 2 [⟨S512x8x192, wqHeads x3⟩, ⟨S512x8x64, wqSwap x3⟩]
    concatenates_S512x8x192_S512x8x64_S512x8x256_d2) shapeCasts_S512x8x256_S512x2048

/-- The host operations up to the angles' cosines, sines and negated sines, and those after them. -/
theorem V_split (c : Dev nD) (b : Ref sig .tc) : V m c b
    = StableHlo.after (hostOps0.drop 25) (StableHlo.after (hostOps0.take 25) (fun b => m (c, b))) b := by
  rw [← StableHlo.after_append, List.take_append_drop]

/-- The cosines, as the host leaves them. -/
theorem W_cos (c : Dev nD) : StableHlo.after (hostOps0.take 25) (fun b => m (c, b)) main_v17
    = Cert.PrepReferenceIdeal.Read.val_main_v17 (F := Ideal) (m ((c : Thread nD τ).loc main_arg1)) := by
  simp only [hostOps0, List.flatten_cons, List.flatten_nil, List.append_nil, List.cons_append, List.nil_append, List.take_succ_cons, List.take_zero]
  after_results
  rfl

/-- The sines, as the host leaves them. -/
theorem W_sin (c : Dev nD) : StableHlo.after (hostOps0.take 25) (fun b => m (c, b)) main_v18
    = Cert.PrepReferenceIdeal.Read.val_main_v18 (F := Ideal) (m ((c : Thread nD τ).loc main_arg1)) := by
  simp only [hostOps0, List.flatten_cons, List.flatten_nil, List.append_nil, List.cons_append, List.nil_append, List.take_succ_cons, List.take_zero]
  after_results
  rfl

/-- The negated sines, as the host leaves them. -/
theorem W_neg (c : Dev nD) : StableHlo.after (hostOps0.take 25) (fun b => m (c, b)) main_v19
    = (Host.negf (Cert.PrepReferenceIdeal.Read.val_main_v18 (F := Ideal) (m ((c : Thread nD τ).loc main_arg1)) : FVec Ideal S2x16384x32 .f32) : FVec Ideal S2x16384x32 .f32) := by
  simp only [hostOps0, List.flatten_cons, List.flatten_nil, List.append_nil, List.cons_append, List.nil_append, List.take_succ_cons, List.take_zero]
  after_results
  rfl

/-- The region finds the table of cosines and sines. -/
theorem V_cs (c : Dev nD) : V m c main_v21 = csArr (m ((c : Thread nD τ).loc main_arg1)) := by
  have h17 := W_cos m c
  have h18 := W_sin m c
  have h19 := W_neg m c
  rw [V_split]
  generalize StableHlo.after (hostOps0.take 25) (fun b => m (c, b)) = W at h17 h18 h19
  simp only [hostOps0, List.flatten_cons, List.flatten_nil, List.append_nil, List.cons_append, List.nil_append, List.drop_succ_cons, List.drop_zero]
  after_results
  simp only [Matrix.cons_val_zero, Matrix.cons_val_one, Matrix.cons_val]
  unfold csArr
  rw [← h19, ← h17, ← h18]
  rfl

/-- The region finds the laid-out weights. -/
theorem V_wq (c : Dev nD) : V m c main_v31 = wqArr (m ((c : Thread nD τ).loc main_arg3)) := by
  unfold V; after_results; rfl

/-- The region finds the keys' and values' weights. -/
theorem V_wkv (c : Dev nD) : V m c main_v32 = (truncf .bf16 (m ((c : Thread nD τ).loc main_arg5) : FVec Ideal S512x2048 .f32) bitsLt_bf16_f32 : FVec Ideal S512x2048 .bf16) := by
  unfold V; after_results

/-- The region finds the first norm's scales as a row. -/
theorem V_gq (c : Dev nD) : V m c main_v22 = (shapeCast S1x512 (m ((c : Thread nD τ).loc main_arg2) : FVec Ideal S512 .f32) shapeCasts_S512_S1x512 : FVec Ideal S1x512 .f32) := by
  unfold V; after_results; rfl

/-- The region finds the second norm's scales as a row. -/
theorem V_gkv (c : Dev nD) : V m c main_v23 = (shapeCast S1x512 (m ((c : Thread nD τ).loc main_arg4) : FVec Ideal S512 .f32) shapeCasts_S512_S1x512 : FVec Ideal S1x512 .f32) := by
  unfold V; after_results; rfl

/-- The table of cosines and sines at a token and a lane. -/
theorem csArr_at (x1 : IVec S2x16384 32) (r : Fin 32768) (j : Fin 128) (b : Fin 2) (t : Fin 16384) (l : Fin 32)
    (hb : b.val = r.val / 16384) (ht : t.val = r.val % 16384) (hl : l.val = j.val % 32) :
    csArr x1 (ix2 r j) = if j.val < 64 then Cert.PrepReferenceIdeal.Read.val_main_v17 (F := Ideal) x1 (ix3 b t l)
      else if j.val < 96 then - Cert.PrepReferenceIdeal.Read.val_main_v18 (F := Ideal) x1 (ix3 b t l)
      else Cert.PrepReferenceIdeal.Read.val_main_v18 (F := Ideal) x1 (ix3 b t l) := by
  pointwise [csArr]
  have hj := j.isLt
  repeat' split
  all_goals first
    | (exfalso; omega)
    | blk_point

/-- The laid-out weights at a row, a head and a column of the head. -/
theorem wqArr_at (x3 : FVec Ideal S512x1536 .f32) (k : Fin 512) (j : Fin 2048) (l : Fin 1536)
    (hl : l.val = j.val / 256 * 192 + (if j.val % 256 < 192 then j.val % 256 else if j.val % 256 < 224 then j.val % 256 - 32 else j.val % 256 - 96)) :
    wqArr x3 (ix2 k j) = x3 (ix2 k l) := by
  pointwise [wqArr, wqSwap, wqRot, wqHeads]
  repeat' split
  all_goals first
    | (exfalso; omega)
    | blk_point
  all_goals (split_ifs at hl <;> omega)

end Cert.PrepIdeal.Result

end
-- ==== Proof.Prep.Blocks.lean ====
module

public import proofs.«01_k».proof.Proof.Prep.Host

@[expose] public section

set_option maxRecDepth 16384

noncomputable section

namespace Cert.PrepIdeal.Result

open Idealize.ShloMosaic Idealize.ShloMosaic.TcCoe Idealize.SL.Sem
open Idealize.ShloMosaic.Pipeline (Dat)
open Cert.PrepIdeal Cert.PrepIdeal.Gen

/-! # The two up-projections of a block of tokens -/

/-- The windows' blocks: the rows of point `t`, in the columns of the two latents and of the rotary key. -/
theorem idx : ∀ t : Fin cfg0.N, win0_0.index t = ![t.val, 9] ∧ win0_1.index t = ![t.val, 10] ∧ win0_2.index t = ![t.val, 44]
    ∧ win0_3.index t = ![t.val, 0] ∧ win0_4.index t = ![0, 0] ∧ win0_5.index t = ![0, 0] ∧ win0_6.index t = ![0, 0] ∧ win0_7.index t = ![0, 0]
    ∧ win0_8.index t = ![t.val / 32, 0, 0, t.val % 32] ∧ win0_9.index t = ![t.val / 32, 0, t.val % 32, 0] ∧ win0_10.index t = ![t.val / 32, 0, 0, t.val % 32]
    ∧ t.val < 64 :=
  (by decide +kernel : ∀ t : Fin grid0.N, _)

variable (m : (ℓ : Loc nD τ sig) → Buf (Elt Ideal) ℓ)

/-- The queries' latent of a block, in the projected activations. -/
theorem X0_at (c : Dev nD) (t : Fin cfg0.N) (r k : Fin 512) (row : Fin 32768) (col : Fin 5888)
    (hr : row.val = t.val * 512 + r.val) (hc : col.val = 4608 + k.val) :
    X0_0 m c t (ix2 r k) = m ((c : Thread nD τ).loc main_arg0) (ix2 row col) := by
  unfold X0_0 Pipeline.Window.fill
  rw [dif_pos (moved0_0 t _)]
  blk_ext [iblk, V_main_arg0, idx t]

/-- The keys' and values' latent of a block, in the projected activations. -/
theorem X1_at (c : Dev nD) (t : Fin cfg0.N) (r k : Fin 512) (row : Fin 32768) (col : Fin 5888)
    (hr : row.val = t.val * 512 + r.val) (hc : col.val = 5120 + k.val) :
    X0_1 m c t (ix2 r k) = m ((c : Thread nD τ).loc main_arg0) (ix2 row col) := by
  unfold X0_1 Pipeline.Window.fill
  rw [dif_pos (moved0_1 t _)]
  blk_ext [iblk, V_main_arg0, idx t]

/-- The rotary key's columns of a block. -/
theorem kr_at (c : Dev nD) (t : Fin cfg0.N) (r : Fin 512) (k : Fin 128) (row : Fin 32768) (col : Fin 5888)
    (hr : row.val = t.val * 512 + r.val) (hc : col.val = 5632 + k.val) :
    iblk m c 2 t (ix2 r k) = m ((c : Thread nD τ).loc main_arg0) (ix2 row col) := by
  blk_ext [iblk, V_main_arg0, idx t]

/-- The table of cosines and sines of a block. -/
theorem cs_at (c : Dev nD) (t : Fin cfg0.N) (r : Fin 512) (k : Fin 128) (row : Fin 32768)
    (hr : row.val = t.val * 512 + r.val) :
    iblk m c 3 t (ix2 r k) = csArr (m ((c : Thread nD τ).loc main_arg1)) (ix2 row k) := by
  rw [← V_cs]
  blk_ext [iblk, idx t]

/-- The first norm's scales. -/
theorem gq_at (c : Dev nD) (t : Fin cfg0.N) (k : Fin 512) :
    iblk m c 4 t (ix2 0 k) = m ((c : Thread nD τ).loc main_arg2) (ix1 k) := by
  trans V m c main_v22 (ix2 0 k)
  · blk_ext [iblk, idx t]
  · rw [V_gq]
    pointwise

/-- The second norm's scales. -/
theorem gkv_at (c : Dev nD) (t : Fin cfg0.N) (k : Fin 512) :
    iblk m c 5 t (ix2 0 k) = m ((c : Thread nD τ).loc main_arg4) (ix1 k) := by
  trans V m c main_v23 (ix2 0 k)
  · blk_ext [iblk, idx t]
  · rw [V_gkv]
    pointwise

/-- The laid-out weights of the queries. -/
theorem wq_at (c : Dev nD) (t : Fin cfg0.N) (k : Fin 512) (j : Fin 2048) :
    iblk m c 6 t (ix2 k j) = wqArr (m ((c : Thread nD τ).loc main_arg3)) (ix2 k j) := by
  rw [← V_wq]
  blk_ext [iblk, idx t]

/-- The weights of the keys and values. -/
theorem wkv_at (c : Dev nD) (t : Fin cfg0.N) (k : Fin 512) (j : Fin 2048) :
    iblk m c 7 t (ix2 k j) = m ((c : Thread nD τ).loc main_arg5) (ix2 k j) := by
  trans V m c main_v32 (ix2 k j)
  · blk_ext [iblk, idx t]
  · rw [V_wkv]
    rfl

/-- The queries' up-projection of a block at a token and a laid-out column is the reference's at the column's own place. -/
theorem yq_at (c : Dev nD) (t : Fin cfg0.N) (r : Fin 512) (j : Fin 2048) (b : Fin 2) (s : Fin 16384) (l : Fin 1536)
    (hb : b.val = t.val / 32) (hs : s.val = t.val % 32 * 512 + r.val)
    (hl : l.val = j.val / 256 * 192 + (if j.val % 256 < 192 then j.val % 256 else if j.val % 256 < 224 then j.val % 256 - 32 else j.val % 256 - 96)) :
    k0_pay7 (F := Ideal) (X0_0 m c t) (iblk m c 4 t) (iblk m c 6 t) (ix2 r j)
      = Cert.PrepReferenceIdeal.Read.val_main_v36 (F := Ideal) (m ((c : Thread nD τ).loc main_arg0)) (m ((c : Thread nD τ).loc main_arg2)) (m ((c : Thread nD τ).loc main_arg3)) (ix3 b s l) := by
  have ht : t.val < 64 := (idx t).2.2.2.2.2.2.2.2.2.2.2
  pointwise [k0_pay7, Cert.PrepReferenceIdeal.Read.val_main_v36, Cert.PrepReferenceIdeal.Read.val_main_v35, Cert.PrepReferenceIdeal.Read.val_main_v34, Cert.PrepReferenceIdeal.Read.val_main_v33, Cert.PrepReferenceIdeal.Read.val_main_v32, Cert.PrepReferenceIdeal.Read.val_main_v31, Cert.PrepReferenceIdeal.Read.val_main_v30, Cert.PrepReferenceIdeal.Read.val_main_v29, Cert.PrepReferenceIdeal.Read.val_main_v28, Cert.PrepReferenceIdeal.Read.val_main_v27, Cert.PrepReferenceIdeal.Read.val_main_v26, Cert.PrepReferenceIdeal.Read.val_main_v25, Cert.PrepReferenceIdeal.Read.val_main_v24, Cert.PrepReferenceIdeal.Read.val_main_v23, Cert.PrepReferenceIdeal.Read.val_main_v20, Cert.PrepReferenceIdeal.Read.val_main_v19, Cert.PrepReferenceIdeal.Read.val_main_cst_4, Cert.PrepReferenceIdeal.Read.val_main_cst_5, Cert.PrepReferenceIdeal.Read.val_main_cst_6]
  have hX : ∀ k : Fin 512, X0_0 m c t (ix2 r k) = m ((c : Thread nD τ).loc main_arg0) (ix2 ⟨b.val * 16384 + s.val, by omega⟩ ⟨4608 + k.val, by omega⟩) :=
    fun k => X0_at m c t r k _ _ (by show b.val * 16384 + s.val = _; omega) rfl
  have hw : ∀ k : Fin 512, iblk m c 6 t (ix2 k j) = m ((c : Thread nD τ).loc main_arg3) (ix2 k l) :=
    fun k => (wq_at m c t k j).trans (wqArr_at _ k j l hl)
  simp only [hX, gq_at, hw]

/-- The keys' and values' up-projection of a block is the reference's. -/
theorem ykv_at (c : Dev nD) (t : Fin cfg0.N) (r : Fin 512) (j : Fin 2048) (b : Fin 2) (s : Fin 16384)
    (hb : b.val = t.val / 32) (hs : s.val = t.val % 32 * 512 + r.val) :
    k0_pay9 (F := Ideal) (k0_pay8 (F := Ideal) (X0_1 m c t) (iblk m c 5 t)) (iblk m c 7 t) (ix2 r j)
      = Cert.PrepReferenceIdeal.Read.val_main_v71 (F := Ideal) (m ((c : Thread nD τ).loc main_arg0)) (m ((c : Thread nD τ).loc main_arg4)) (m ((c : Thread nD τ).loc main_arg5)) (ix3 b s j) := by
  have ht : t.val < 64 := (idx t).2.2.2.2.2.2.2.2.2.2.2
  pointwise [k0_pay9, k0_pay8, Cert.PrepReferenceIdeal.Read.val_main_v71, Cert.PrepReferenceIdeal.Read.val_main_v70, Cert.PrepReferenceIdeal.Read.val_main_v69, Cert.PrepReferenceIdeal.Read.val_main_v68, Cert.PrepReferenceIdeal.Read.val_main_v67, Cert.PrepReferenceIdeal.Read.val_main_v66, Cert.PrepReferenceIdeal.Read.val_main_v65, Cert.PrepReferenceIdeal.Read.val_main_v64, Cert.PrepReferenceIdeal.Read.val_main_v63, Cert.PrepReferenceIdeal.Read.val_main_v62, Cert.PrepReferenceIdeal.Read.val_main_v61, Cert.PrepReferenceIdeal.Read.val_main_v60, Cert.PrepReferenceIdeal.Read.val_main_v59, Cert.PrepReferenceIdeal.Read.val_main_v58, Cert.PrepReferenceIdeal.Read.val_main_v21, Cert.PrepReferenceIdeal.Read.val_main_v19, Cert.PrepReferenceIdeal.Read.val_main_cst_8, Cert.PrepReferenceIdeal.Read.val_main_cst_9, Cert.PrepReferenceIdeal.Read.val_main_cst_10]
  have hX : ∀ k : Fin 512, X0_1 m c t (ix2 r k) = m ((c : Thread nD τ).loc main_arg0) (ix2 ⟨b.val * 16384 + s.val, by omega⟩ ⟨5120 + k.val, by omega⟩) :=
    fun k => X1_at m c t r k _ _ (by show b.val * 16384 + s.val = _; omega) rfl
  simp only [hX, gkv_at, wkv_at]

end Cert.PrepIdeal.Result

end
-- ==== Proof.Prep.Result.lean ====
module

public import proofs.«01_k».proof.Proof.Prep.Blocks

@[expose] public section

set_option maxHeartbeats 8000000
set_option maxRecDepth 16384

noncomputable section

namespace Cert.PrepIdeal.Result

open Idealize.ShloMosaic Idealize.ShloMosaic.TcCoe Idealize.SL.Sem
open Idealize.ShloMosaic.Pipeline (Dat)
open Cert.PrepIdeal Cert.PrepIdeal.Gen

/-- A lane below 64 takes the first operand. -/
theorem select_lane {α : Type} (n : ℕ) (hn : n < 128) (a b : α) :
    Scalar.select (IntOp.cmpi CmpIPredicate.slt (BitVec.ofNat 32 n) 64#32) a b = if n < 64 then a else b := by
  have e : ∀ n : Fin 128, IntOp.cmpi CmpIPredicate.slt (BitVec.ofNat 32 n.val) 64#32 = if n.val < 64 then 1#1 else 0#1 := by decide
  rw [e ⟨n, hn⟩]
  by_cases h : n < 64
  · rw [if_pos h, if_pos h]; rfl
  · rw [if_neg h, if_neg h]; rfl

/-- The bit of lane 64 as a number. -/
theorem lane_one (n : ℕ) (hn : n < 128) :
    (FloatOps.sitofp (F := Ideal) FTy.f32 (BitVec.setWidth 32 (IntOp.cmpi CmpIPredicate.eq (BitVec.ofNat 32 n) 64#32)) : EReal) = if n = 64 then 1 else 0 := by
  have e : ∀ n : Fin 128, BitVec.setWidth 32 (IntOp.cmpi CmpIPredicate.eq (BitVec.ofNat 32 n.val) 64#32) = if n.val = 64 then 1#32 else 0#32 := by decide
  rw [e ⟨n, hn⟩]
  by_cases h : n = 64
  · rw [if_pos h, if_pos h]
    show (((1#32 : BitVec 32).toInt : ℝ) : EReal) = 1
    norm_num
  · rw [if_neg h, if_neg h]
    show (((0#32 : BitVec 32).toInt : ℝ) : EReal) = 0
    norm_num

variable (m : (ℓ : Loc nD τ sig) → Buf (Elt Ideal) ℓ)

/-- The values a point writes: each head's last columns of the up-projection, transposed. -/
theorem point10 (c : Dev nD) (t : Fin cfg0.N) (y : S1x8x128x512.Idx) (r : Fin 512) (j : Fin 2048)
    (hr : r.val = y 3) (hj : j.val = (y 1 : ℕ) * 256 + 128 + y 2) :
    (outsAt0 m c t).2.2 y = k0_pay9 (F := Ideal) (k0_pay8 (F := Ideal) (X0_1 m c t) (iblk m c 5 t)) (iblk m c 7 t) (ix2 r j) := by
  unfold outsAt0
  frame_out
  canon_tiles x h
  all_goals (open_payloads; pointwise; blk_ext)

/-- The keys a point writes: each head's first columns of the up-projection, then the rotary key's half. -/
theorem point9 (c : Dev nD) (t : Fin cfg0.N) (y : S1x8x512x256.Idx) (r : Fin 512) (j : Fin 2048) (k : Fin 128)
    (hr : r.val = y 2) (hj : j.val = (y 1 : ℕ) * 256 + y 3) (hk : k.val = (y 3 : ℕ) % 128) :
    (outsAt0 m c t).2.1 y = if (y 3 : ℕ) < 128 then k0_pay9 (F := Ideal) (k0_pay8 (F := Ideal) (X0_1 m c t) (iblk m c 5 t)) (iblk m c 7 t) (ix2 r j)
      else k0_pay11 (F := Ideal) (k0_pay6 (F := Ideal) (iblk m c 3 t)) (iblk m c 2 t) (ix2 r k) := by
  unfold outsAt0
  frame_out
  canon_tiles x h
  all_goals
    open_payloads
    pointwise
    split
    all_goals first
      | (exfalso; omega)
      | blk_ext

/-- The rotary key's half of a block: the turned columns, a one, zeros. -/
theorem khi_at (c : Dev nD) (t : Fin cfg0.N) (r : Fin 512) (k k2 : Fin 128) (hk : k2.val = (k.val + 64) % 128) :
    k0_pay11 (F := Ideal) (k0_pay6 (F := Ideal) (iblk m c 3 t)) (iblk m c 2 t) (ix2 r k)
      = if k.val < 64 then HMul.hMul (α := EReal) (β := EReal) (iblk m c 2 t (ix2 r k)) (iblk m c 3 t (ix2 r k))
          + HMul.hMul (α := EReal) (β := EReal) (iblk m c 2 t (ix2 r k2)) (iblk m c 3 t (ix2 r k2))
        else if k.val = 64 then 1 else 0 := by
  have e : (⟨(k.val + 128 - 64) % 128, Nat.mod_lt _ (by decide)⟩ : Fin 128) = k2 := Fin.ext (by show (k.val + 128 - 64) % 128 = k2.val; omega)
  pointwise [k0_pay11, k0_pay10, k0_pay6]
  rw [select_lane _ k.isLt, lane_one _ k.isLt, e]

/-- The queries a point writes: each head's first columns of the up-projection, the turned columns, zeros; scaled and transposed. -/
theorem point8 (c : Dev nD) (t : Fin cfg0.N) (y : S1x8x256x512.Idx) (r : Fin 512) (j j2 : Fin 2048) (k k2 : Fin 128)
    (hr : r.val = y 3) (hj : j.val = (y 1 : ℕ) * 256 + y 2) (hj2 : (y 2 : ℕ) < 192 → j2.val = (y 1 : ℕ) * 256 + y 2 + 64)
    (hk : k.val = (y 2 : ℕ) % 128) (hk2 : k2.val = ((y 2 : ℕ) + 64) % 128) :
    (outsAt0 m c t).1 y = (if (y 2 : ℕ) < 128 then k0_pay7 (F := Ideal) (X0_0 m c t) (iblk m c 4 t) (iblk m c 6 t) (ix2 r j)
      else if (y 2 : ℕ) < 192 then k0_pay7 (F := Ideal) (X0_0 m c t) (iblk m c 4 t) (iblk m c 6 t) (ix2 r j) * iblk m c 3 t (ix2 r k)
        + k0_pay7 (F := Ideal) (X0_0 m c t) (iblk m c 4 t) (iblk m c 6 t) (ix2 r j2) * iblk m c 3 t (ix2 r k2)
      else 0) * Ideal.ofBits FTy.f32 1037384597#32 := by
  unfold outsAt0
  frame_out
  canon_tiles x h
  all_goals
    open_payloads
    generalize k0_pay7 (F := Ideal) (X0_0 m c t) (iblk m c 4 t) (iblk m c 6 t) = T
    generalize iblk m c 3 t = C
    have hx : (x 2).val - 128 < 128 := by omega
    pointwise
    refine congrArg (· * Ideal.ofBits FTy.f32 1037384597#32) ?_
    split
    · rw [if_pos (show (y 2).val < 128 by omega)]
      blk_ext
    · rw [if_neg (show ¬ (y 2).val < 128 by omega)]
      rw [select_lane _ hx]
      split
      · rw [if_pos (show (y 2).val < 192 by omega)]
        refine congrArg₂ (· + ·) (congrArg₂ (· * ·) (congrArg T ?_) (congrArg C ?_)) (congrArg₂ (· * ·) (congrArg T ?_) (congrArg C ?_))
        all_goals exact congrArg₂ ix2 (Fin.ext (by simp only []; omega)) (Fin.ext (by simp only []; omega))
      · rw [if_neg (show ¬ (y 2).val < 192 by omega)]

end Cert.PrepIdeal.Result

end
-- ==== Proof.Prep.Entries.lean ====
module

public import proofs.«01_k».proof.Proof.Gen.PrepReferenceIdeal
public import proofs.«01_k».proof.Proof.Gen.PrepReferenceIdeal.Read
public import Idealize.ShloMosaic.Lib.Pointwise
public import Idealize.ShloMosaic.Lib.Pipeline.ValueKit

@[expose] public section

set_option maxRecDepth 16384
set_option maxHeartbeats 1000000

noncomputable section

namespace Cert.PrepReferenceIdeal.Entries

open Idealize.ShloMosaic Idealize.ShloMosaic.TcCoe
open Cert.PrepReferenceIdeal Cert.PrepReferenceIdeal.Read

/-! # The reference's results, entry by entry -/

variable (x0 : FVec Ideal S32768x5888 .f32) (x1 : IVec S2x16384 32) (x2 : FVec Ideal S512 .f32) (x3 : FVec Ideal S512x1536 .f32)
  (x4 : FVec Ideal S512 .f32) (x5 : FVec Ideal S512x2048 .f32)

/-- The first half of a head's turned columns. -/
theorem q_lo (b : Fin 2) (s : Fin 16384) (h : Fin 8) (e : Fin 32) (l l2 : Fin 1536)
    (hl : l.val = h.val * 192 + 128 + e.val) (hl2 : l2.val = h.val * 192 + 160 + e.val) :
    val_main_v47 (F := Ideal) x0 x1 x2 x3 (ix4 b s h e)
      = val_main_v36 (F := Ideal) x0 x2 x3 (ix3 b s l) * val_main_v17 (F := Ideal) x1 (ix3 b s e)
        - val_main_v36 (F := Ideal) x0 x2 x3 (ix3 b s l2) * val_main_v18 (F := Ideal) x1 (ix3 b s e) := by
  pointwise [val_main_v47, val_main_v46, val_main_v45, val_main_v44, val_main_v43, val_main_v42, val_main_v41, val_main_v40, val_main_v39, val_main_v38, val_main_v37]
  blk_point

/-- The second half of a head's turned columns. -/
theorem q_hi (b : Fin 2) (s : Fin 16384) (h : Fin 8) (e : Fin 32) (l l2 : Fin 1536)
    (hl : l.val = h.val * 192 + 160 + e.val) (hl2 : l2.val = h.val * 192 + 128 + e.val) :
    val_main_v52 (F := Ideal) x0 x1 x2 x3 (ix4 b s h e)
      = val_main_v36 (F := Ideal) x0 x2 x3 (ix3 b s l) * val_main_v17 (F := Ideal) x1 (ix3 b s e)
        + val_main_v36 (F := Ideal) x0 x2 x3 (ix3 b s l2) * val_main_v18 (F := Ideal) x1 (ix3 b s e) := by
  pointwise [val_main_v52, val_main_v51, val_main_v50, val_main_v49, val_main_v48, val_main_v42, val_main_v41, val_main_v40, val_main_v39, val_main_v38, val_main_v37]
  blk_point

/-- The queries: a head's first columns, the turned columns, scaled; zeros. -/
theorem q_at (b : Fin 2) (h : Fin 8) (d : Fin 256) (s : Fin 16384) (l l2 : Fin 1536) (e : Fin 32)
    (hl : d.val < 192 → l.val = h.val * 192 + d.val) (hl2 : 128 ≤ d.val → d.val < 160 → l2.val = h.val * 192 + d.val + 32)
    (hl3 : 160 ≤ d.val → d.val < 192 → l2.val = h.val * 192 + d.val - 32) (he : e.val = d.val % 32) :
    val_main_v91 (F := Ideal) x0 x1 x2 x3 (ix4 b h d s)
      = (if d.val < 128 then val_main_v36 (F := Ideal) x0 x2 x3 (ix3 b s l)
        else if d.val < 160 then val_main_v36 (F := Ideal) x0 x2 x3 (ix3 b s l) * val_main_v17 (F := Ideal) x1 (ix3 b s e)
          - val_main_v36 (F := Ideal) x0 x2 x3 (ix3 b s l2) * val_main_v18 (F := Ideal) x1 (ix3 b s e)
        else if d.val < 192 then val_main_v36 (F := Ideal) x0 x2 x3 (ix3 b s l) * val_main_v17 (F := Ideal) x1 (ix3 b s e)
          + val_main_v36 (F := Ideal) x0 x2 x3 (ix3 b s l2) * val_main_v18 (F := Ideal) x1 (ix3 b s e)
        else 0) * Ideal.ofBits FTy.f32 1037384597#32 := by
  pointwise [val_main_v91, val_main_v90, val_main_v86, val_main_v85, val_main_cst_12, val_main_v57, val_main_v56, val_main_cst_7, val_main_v55, val_main_v54, val_main_v53, val_main_v37]
  by_cases h192 : d.val < 192
  · rw [dif_pos h192]
    refine congrArg (· * Ideal.ofBits FTy.f32 1037384597#32) ?_
    by_cases h128 : d.val < 128
    · rw [dif_pos h128, if_pos h128]
      blk_point
    · rw [dif_neg h128, if_neg h128]
      by_cases h160 : d.val < 160
      · rw [dif_pos (show d.val - 128 < 32 by omega), if_pos h160,
          q_lo x0 x1 x2 x3 b s h _ l l2 (by simp only []; omega) (by simp only []; omega)]
        blk_point
      · rw [dif_neg (show ¬ d.val - 128 < 32 by omega), if_neg h160, if_pos h192,
          q_hi x0 x1 x2 x3 b s h _ l l2 (by simp only []; omega) (by simp only []; omega)]
        blk_point
  · rw [dif_neg h192, if_neg (show ¬ d.val < 128 by omega), if_neg (show ¬ d.val < 160 by omega), if_neg h192, zero_mul]

/-- The values: a head's last columns, transposed. -/
theorem v_at (b : Fin 2) (h : Fin 8) (d : Fin 128) (s : Fin 16384) (j : Fin 2048) (hj : j.val = h.val * 256 + 128 + d.val) :
    val_main_v96 (F := Ideal) x0 x4 x5 (ix4 b h d s) = val_main_v71 (F := Ideal) x0 x4 x5 (ix3 b s j) := by
  pointwise [val_main_v96, val_main_v95, val_main_v94, val_main_v72]
  blk_point

/-- The first half of the turned key. -/
theorem k_lo (b : Fin 2) (s : Fin 16384) (e : Fin 32) (r : Fin 32768) (l l2 : Fin 5888) (hr : r.val = b.val * 16384 + s.val)
    (hl : l.val = 5632 + e.val) (hl2 : l2.val = 5664 + e.val) :
    val_main_v77 (F := Ideal) x0 x1 (ix3 b s e) = x0 (ix2 r l) * val_main_v17 (F := Ideal) x1 (ix3 b s e) - x0 (ix2 r l2) * val_main_v18 (F := Ideal) x1 (ix3 b s e) := by
  pointwise [val_main_v77, val_main_v76, val_main_v75, val_main_v74, val_main_v73, val_main_v22, val_main_v19]
  blk_point

/-- The second half of the turned key. -/
theorem k_hi (b : Fin 2) (s : Fin 16384) (e : Fin 32) (r : Fin 32768) (l l2 : Fin 5888) (hr : r.val = b.val * 16384 + s.val)
    (hl : l.val = 5664 + e.val) (hl2 : l2.val = 5632 + e.val) :
    val_main_v80 (F := Ideal) x0 x1 (ix3 b s e) = x0 (ix2 r l) * val_main_v17 (F := Ideal) x1 (ix3 b s e) + x0 (ix2 r l2) * val_main_v18 (F := Ideal) x1 (ix3 b s e) := by
  pointwise [val_main_v80, val_main_v79, val_main_v78, val_main_v74, val_main_v73, val_main_v22, val_main_v19]
  blk_point

/-- The keys: a head's first columns, the turned key, a one, zeros. -/
theorem k_at (b : Fin 2) (h : Fin 8) (s : Fin 16384) (d : Fin 256) (j : Fin 2048) (e : Fin 32) (hj : j.val = h.val * 256 + d.val) (he : e.val = d.val % 32) :
    val_main_v93 (F := Ideal) x0 x1 x4 x5 (ix4 b h s d)
      = if d.val < 128 then val_main_v71 (F := Ideal) x0 x4 x5 (ix3 b s j)
        else if d.val < 160 then val_main_v77 (F := Ideal) x0 x1 (ix3 b s e)
        else if d.val < 192 then val_main_v80 (F := Ideal) x0 x1 (ix3 b s e)
        else if d.val = 192 then 1 else 0 := by
  pointwise [val_main_v93, val_main_v92, val_main_v89, val_main_v88, val_main_v87, val_main_v85, val_main_cst_12, val_main_v84, val_main_cst_11, val_main_v83, val_main_v82, val_main_v81, val_main_v72]
  by_cases h128 : d.val < 128
  · rw [dif_pos h128, if_pos h128]
    blk_point
  · rw [dif_neg h128, if_neg h128]
    by_cases h160 : d.val < 160
    · rw [dif_pos (show d.val - 128 < 64 by omega), dif_pos (show d.val - 128 < 32 by omega), if_pos h160]
      blk_point
    · rw [if_neg h160]
      by_cases h192 : d.val < 192
      · rw [dif_pos (show d.val - 128 < 64 by omega), dif_neg (show ¬ d.val - 128 < 32 by omega), if_pos h192]
        blk_point
      · rw [dif_neg (show ¬ d.val - 128 < 64 by omega), if_neg h192]
        by_cases h1 : d.val = 192
        · rw [dif_pos (show d.val - 128 - 64 < 1 by omega), if_pos h1]
        · rw [dif_neg (show ¬ d.val - 128 - 64 < 1 by omega), if_neg h1]

end Cert.PrepReferenceIdeal.Entries

end
-- ==== Proof.Prep.Final.lean ====
module

public import proofs.«01_k».proof.Proof.Prep.Result
public import proofs.«01_k».proof.Proof.Prep.Entries
public import proofs.«01_k».proof.Defs
public import proofs.«01_k».proof.Proof.Gen.Pre_rotary_columns

@[expose] public section

set_option maxHeartbeats 1000000
set_option maxRecDepth 16384

noncomputable section

namespace Cert.PrepIdeal.Result

open Idealize.ShloMosaic Idealize.ShloMosaic.TcCoe Idealize.SL.Sem
open Idealize.ShloMosaic.Pipeline (Dat)
open Cert.PrepIdeal Cert.PrepIdeal.Gen
open Cert.PrepReferenceIdeal.Read
open Cert.PrepReferenceIdeal.Entries

/-! # The call's three results are the reference's -/

/-- A bit that says a decidable fact holds. -/
theorem of_bit {p : Prop} [Decidable p] (h : BitVec.ofBool (decide p) = 1#1) : p := by
  by_contra hp
  rw [decide_eq_false hp] at h
  exact absurd h (by decide)

/-- The rotary key's second half lies again behind the key. -/
theorem again_hi (a0 : FVec Ideal Cert.Pre_rotary_columns.S32768x5888 .f32) (a1 : IVec Cert.Pre_rotary_columns.S2x16384 32) (a2 : FVec Ideal Cert.Pre_rotary_columns.S512 .f32) (a3 : FVec Ideal Cert.Pre_rotary_columns.S512x1536 .f32)
    (a4 : FVec Ideal Cert.Pre_rotary_columns.S512 .f32) (a5 : FVec Ideal Cert.Pre_rotary_columns.S512x2048 .f32)
    (h : (Cert.Pre_rotary_columns.fn (F := Ideal) a0 a1 a2 a3 a4 a5).1 = fun _ => 1#1) (r : Fin 32768) (l l2 : Fin 5888) (hl : 5696 ≤ l.val ∧ l.val < 5728) (hl2 : l2.val = l.val - 32) :
    a0 (ix2 r l) = a0 (ix2 r l2) := by
  have e := congrFun h (ix2 r (⟨l.val - 5696, by omega⟩ : Fin 32))
  unfold Cert.Pre_rotary_columns.fn at e
  pointwise at e
  have e' := of_bit e
  rw [show l = (⟨5696 + (l.val - 5696), by omega⟩ : Fin 5888) from Fin.ext (by simp only []; omega), show l2 = (⟨5664 + (l.val - 5696), by omega⟩ : Fin 5888) from Fin.ext (by simp only []; omega)]
  exact e'

/-- The rotary key's first half lies again behind it. -/
theorem again_lo (a0 : FVec Ideal Cert.Pre_rotary_columns.S32768x5888 .f32) (a1 : IVec Cert.Pre_rotary_columns.S2x16384 32) (a2 : FVec Ideal Cert.Pre_rotary_columns.S512 .f32) (a3 : FVec Ideal Cert.Pre_rotary_columns.S512x1536 .f32)
    (a4 : FVec Ideal Cert.Pre_rotary_columns.S512 .f32) (a5 : FVec Ideal Cert.Pre_rotary_columns.S512x2048 .f32)
    (h : (Cert.Pre_rotary_columns.fn (F := Ideal) a0 a1 a2 a3 a4 a5).2 = fun _ => 1#1) (r : Fin 32768) (l l2 : Fin 5888) (hl : 5728 ≤ l.val ∧ l.val < 5760) (hl2 : l2.val = l.val - 96) :
    a0 (ix2 r l) = a0 (ix2 r l2) := by
  have e := congrFun h (ix2 r (⟨l.val - 5728, by omega⟩ : Fin 32))
  unfold Cert.Pre_rotary_columns.fn at e
  pointwise at e
  have e' := of_bit e
  rw [show l = (⟨5728 + (l.val - 5728), by omega⟩ : Fin 5888) from Fin.ext (by simp only []; omega), show l2 = (⟨5632 + (l.val - 5728), by omega⟩ : Fin 5888) from Fin.ext (by simp only []; omega)]
  exact e'

variable (m : (ℓ : Loc nD τ sig) → Buf (Elt Ideal) ℓ)

/-- The third result: the values. -/
theorem final10 (c : Dev nD) : (dats m 0 c).arrAt 10 (cfgs 0).N = val_main_v96 (F := Ideal) (m ((c : Thread nD τ).loc main_arg0)) (m ((c : Thread nD τ).loc main_arg4)) (m ((c : Thread nD τ).loc main_arg5)) := by
  refine (dats m 0 c).arrAt_eq_of_covers 10 _ (by decide +kernel) fun t _ y => ?_
  have ht : t.val < 64 := (idx t).2.2.2.2.2.2.2.2.2.2.2
  have y0 : (y 0 : ℕ) < 1 := (y 0).isLt
  have y1 : (y 1 : ℕ) < 8 := (y 1).isLt
  have y2 : (y 2 : ℕ) < 128 := (y 2).isLt
  have y3 : (y 3 : ℕ) < 512 := (y 3).isLt
  obtain ⟨b, hb⟩ : ∃ b : Fin 2, b.val = t.val / 32 := ⟨⟨t.val / 32, by omega⟩, rfl⟩
  obtain ⟨h, hh⟩ : ∃ h : Fin 8, h.val = y 1 := ⟨⟨(y 1 : ℕ), y1⟩, rfl⟩
  obtain ⟨d, hd⟩ : ∃ d : Fin 128, d.val = y 2 := ⟨⟨(y 2 : ℕ), by omega⟩, rfl⟩
  obtain ⟨r, hr⟩ : ∃ r : Fin 512, r.val = y 3 := ⟨⟨(y 3 : ℕ), by omega⟩, rfl⟩
  obtain ⟨s, hs⟩ : ∃ s : Fin 16384, s.val = t.val % 32 * 512 + r.val := ⟨⟨t.val % 32 * 512 + r.val, by omega⟩, rfl⟩
  have ei : (win0_10.blk t).view.emb y = ix4 b h d s := by
    blk_ext [idx t]
  refine Eq.trans ?_ (congrArg _ ei.symm)
  obtain ⟨j, hj⟩ : ∃ j : Fin 2048, j.val = h.val * 256 + 128 + d.val := ⟨⟨h.val * 256 + 128 + d.val, by omega⟩, rfl⟩
  refine ((congrFun (after0_10 m c t) y).trans (point10 m c t y r j hr (by omega))).trans ?_
  rw [v_at _ _ _ b h d s j hj, ykv_at m c t r j b s hb hs]

/-- The first result: the queries. -/
theorem final8 (c : Dev nD) : (dats m 0 c).arrAt 8 (cfgs 0).N = val_main_v91 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  have ht : t.val < 64 := (idx t).2.2.2.2.2.2.2.2.2.2.2
  have y0 : (y 0 : ℕ) < 1 := (y 0).isLt
  have y1 : (y 1 : ℕ) < 8 := (y 1).isLt
  have y2 : (y 2 : ℕ) < 256 := (y 2).isLt
  have y3 : (y 3 : ℕ) < 512 := (y 3).isLt
  obtain ⟨b, hb⟩ : ∃ b : Fin 2, b.val = t.val / 32 := ⟨⟨t.val / 32, by omega⟩, rfl⟩
  obtain ⟨h, hh⟩ : ∃ h : Fin 8, h.val = y 1 := ⟨⟨(y 1 : ℕ), y1⟩, rfl⟩
  obtain ⟨d, hd⟩ : ∃ d : Fin 256, d.val = y 2 := ⟨⟨(y 2 : ℕ), by omega⟩, rfl⟩
  obtain ⟨r, hr⟩ : ∃ r : Fin 512, r.val = y 3 := ⟨⟨(y 3 : ℕ), by omega⟩, rfl⟩
  obtain ⟨s, hs⟩ : ∃ s : Fin 16384, s.val = t.val % 32 * 512 + r.val := ⟨⟨t.val % 32 * 512 + r.val, by omega⟩, rfl⟩
  have ei : (win0_8.blk t).view.emb y = ix4 b h d s := by
    blk_ext [idx t]
  refine Eq.trans ?_ (congrArg _ ei.symm)
  obtain ⟨j, hj⟩ : ∃ j : Fin 2048, j.val = h.val * 256 + d.val := ⟨⟨h.val * 256 + d.val, by omega⟩, rfl⟩
  obtain ⟨j2, hj2⟩ : ∃ j2 : Fin 2048, d.val < 192 → j2.val = h.val * 256 + d.val + 64 := ⟨⟨(h.val * 256 + d.val + 64) % 2048, by omega⟩, fun _ => by simp only []; omega⟩
  obtain ⟨k, hk⟩ : ∃ k : Fin 128, k.val = d.val % 128 := ⟨⟨d.val % 128, by omega⟩, rfl⟩
  obtain ⟨k2, hk2⟩ : ∃ k2 : Fin 128, k2.val = (d.val + 64) % 128 := ⟨⟨(d.val + 64) % 128, by omega⟩, rfl⟩
  obtain ⟨e, he⟩ : ∃ e : Fin 32, e.val = d.val % 32 := ⟨⟨d.val % 32, by omega⟩, rfl⟩
  obtain ⟨row, hrow⟩ : ∃ row : Fin 32768, row.val = t.val * 512 + r.val := ⟨⟨t.val * 512 + r.val, by omega⟩, rfl⟩
  obtain ⟨l, hl⟩ : ∃ l : Fin 1536, d.val < 192 → l.val = h.val * 192 + d.val := ⟨⟨(h.val * 192 + d.val) % 1536, by omega⟩, fun _ => by simp only []; omega⟩
  obtain ⟨l2, hl2⟩ : ∃ l2 : Fin 1536, 128 ≤ d.val → d.val < 192 → l2.val = if d.val < 160 then h.val * 192 + d.val + 32 else h.val * 192 + d.val - 32 := by
    by_cases h160 : d.val < 160
    · exact ⟨⟨h.val * 192 + d.val + 32, by omega⟩, fun _ _ => by rw [if_pos h160]⟩
    · exact ⟨⟨(h.val * 192 + d.val - 32) % 1536, by omega⟩, fun _ _ => by rw [if_neg h160]; simp only []; omega⟩
  refine ((congrFun (after0_8 m c t) y).trans (point8 m c t y r j j2 k k2 hr (by omega) (fun _ => by omega) (by omega) (by omega))).trans ?_
  rw [q_at _ _ _ _ b h d s l l2 e hl (fun _ _ => by rw [hl2 (by omega) (by omega), if_pos (by omega)])
    (fun _ _ => by rw [hl2 (by omega) (by omega), if_neg (by omega)]) he, ← hd]
  refine congrArg (· * Ideal.ofBits FTy.f32 1037384597#32) ?_
  by_cases h128 : d.val < 128
  · rw [if_pos h128, if_pos h128]
    exact yq_at m c t r j b s l hb hs (by rw [hl (by omega), hj]; split <;> omega)
  · rw [if_neg h128, if_neg h128]
    by_cases h192 : d.val < 192
    · have hw := yq_at m c t r j b s l hb hs (by rw [hl (by omega), hj]; split <;> omega)
      have hw2 := yq_at m c t r j2 b s l2 hb hs (by rw [hl2 (by omega) (by omega), hj2 (by omega)]; repeat' split
                                                    all_goals omega)
      have hc := (cs_at m c t r k row hrow).trans (csArr_at _ row k b s e (by omega) (by omega) (by omega))
      have hc2 := (cs_at m c t r k2 row hrow).trans (csArr_at _ row k2 b s e (by omega) (by omega) (by omega))
      rw [if_pos (show k.val < 64 by omega)] at hc
      rw [if_neg (show ¬ k2.val < 64 by omega)] at hc2
      rw [if_pos h192]
      by_cases h160 : d.val < 160
      · rw [if_pos (show k2.val < 96 by omega)] at hc2
        rw [if_pos h160, hw, hw2, hc, hc2, mul_neg, ← sub_eq_add_neg]
      · rw [if_neg (show ¬ k2.val < 96 by omega)] at hc2
        rw [if_neg h160, if_pos h192, hw, hw2, hc, hc2]
    · rw [if_neg h192, if_neg h192, if_neg (show ¬ d.val < 160 by omega)]

/-- The second result: the keys. -/
theorem final9 (hp : Cert.Pre_PrepIdeal_rotary_columns m) (c : Dev nD) : (dats m 0 c).arrAt 9 (cfgs 0).N = val_main_v93 (F := Ideal) (m ((c : Thread nD τ).loc main_arg0)) (m ((c : Thread nD τ).loc main_arg1)) (m ((c : Thread nD τ).loc main_arg4)) (m ((c : Thread nD τ).loc main_arg5)) := by
  refine (dats m 0 c).arrAt_eq_of_covers 9 _ (by decide +kernel) fun t _ y => ?_
  have ht : t.val < 64 := (idx t).2.2.2.2.2.2.2.2.2.2.2
  have y0 : (y 0 : ℕ) < 1 := (y 0).isLt
  have y1 : (y 1 : ℕ) < 8 := (y 1).isLt
  have y2 : (y 2 : ℕ) < 512 := (y 2).isLt
  have y3 : (y 3 : ℕ) < 256 := (y 3).isLt
  obtain ⟨b, hb⟩ : ∃ b : Fin 2, b.val = t.val / 32 := ⟨⟨t.val / 32, by omega⟩, rfl⟩
  obtain ⟨h, hh⟩ : ∃ h : Fin 8, h.val = y 1 := ⟨⟨(y 1 : ℕ), y1⟩, rfl⟩
  obtain ⟨d, hd⟩ : ∃ d : Fin 256, d.val = y 3 := ⟨⟨(y 3 : ℕ), by omega⟩, rfl⟩
  obtain ⟨r, hr⟩ : ∃ r : Fin 512, r.val = y 2 := ⟨⟨(y 2 : ℕ), by omega⟩, rfl⟩
  obtain ⟨s, hs⟩ : ∃ s : Fin 16384, s.val = t.val % 32 * 512 + r.val := ⟨⟨t.val % 32 * 512 + r.val, by omega⟩, rfl⟩
  have ei : (win0_9.blk t).view.emb y = ix4 b h s d := by
    blk_ext [idx t]
  refine Eq.trans ?_ (congrArg _ ei.symm)
  obtain ⟨j, hj⟩ : ∃ j : Fin 2048, j.val = h.val * 256 + d.val := ⟨⟨h.val * 256 + d.val, by omega⟩, rfl⟩
  obtain ⟨k, hk⟩ : ∃ k : Fin 128, k.val = d.val % 128 := ⟨⟨d.val % 128, by omega⟩, rfl⟩
  obtain ⟨k2, hk2⟩ : ∃ k2 : Fin 128, k2.val = (k.val + 64) % 128 := ⟨⟨(k.val + 64) % 128, by omega⟩, rfl⟩
  obtain ⟨e, he⟩ : ∃ e : Fin 32, e.val = d.val % 32 := ⟨⟨d.val % 32, by omega⟩, rfl⟩
  obtain ⟨row, hrow⟩ : ∃ row : Fin 32768, row.val = t.val * 512 + r.val := ⟨⟨t.val * 512 + r.val, by omega⟩, rfl⟩
  obtain ⟨g1, hg1⟩ : ∃ g : Fin 5888, g.val = 5632 + e.val := ⟨⟨5632 + e.val, by omega⟩, rfl⟩
  obtain ⟨g2, hg2⟩ : ∃ g : Fin 5888, g.val = 5664 + e.val := ⟨⟨5664 + e.val, by omega⟩, rfl⟩
  obtain ⟨g3, hg3⟩ : ∃ g : Fin 5888, g.val = 5632 + k.val := ⟨⟨5632 + k.val, by omega⟩, rfl⟩
  obtain ⟨g4, hg4⟩ : ∃ g : Fin 5888, g.val = 5632 + k2.val := ⟨⟨5632 + k2.val, by omega⟩, rfl⟩
  refine ((congrFun (after0_9 m c t) y).trans (point9 m c t y r j k hr (by omega) (by omega))).trans ?_
  rw [k_at _ _ _ _ b h s d j e hj he, ← hd]
  by_cases h128 : d.val < 128
  · rw [if_pos h128, if_pos h128]
    exact ykv_at m c t r j b s hb hs
  · rw [if_neg h128, if_neg h128, khi_at m c t r k k2 hk2]
    by_cases h192 : d.val < 192
    · have hc := (cs_at m c t r k row hrow).trans (csArr_at _ row k b s e (by omega) (by omega) (by omega))
      have hc2 := (cs_at m c t r k2 row hrow).trans (csArr_at _ row k2 b s e (by omega) (by omega) (by omega))
      have hu := kr_at m c t r k row g3 hrow hg3
      have hu2 := kr_at m c t r k2 row g4 hrow hg4
      rw [if_pos (show k.val < 64 by omega)] at hc
      rw [if_neg (show ¬ k2.val < 64 by omega)] at hc2
      rw [if_pos (show k.val < 64 by omega), hc, hc2, hu, hu2]
      by_cases h160 : d.val < 160
      · rw [if_pos h160, k_lo _ _ b s e row g1 g2 (by omega) hg1 hg2, if_pos (show k2.val < 96 by omega), mul_neg, ← sub_eq_add_neg,
          again_hi _ _ _ _ _ _ (hp c).1 row g4 g2 (by omega) (by omega), show g3 = g1 from Fin.ext (by omega)]
      · rw [if_neg h160, if_pos h192, k_hi _ _ b s e row g2 g1 (by omega) hg2 hg1, if_neg (show ¬ k2.val < 96 by omega),
          again_lo _ _ _ _ _ _ (hp c).2 row g4 g1 (by omega) (by omega), show g3 = g2 from Fin.ext (by omega)]
    · rw [if_neg (show ¬ k.val < 64 by omega), if_neg (show ¬ d.val < 160 by omega), if_neg h192]
      by_cases h1 : d.val = 192
      · rw [if_pos h1, if_pos (show k.val = 64 by omega)]
      · rw [if_neg h1, if_neg (show ¬ k.val = 64 by omega)]

end Cert.PrepIdeal.Result

end
-- ==== Proof.lean ====
module

public import proofs.«01_k».proof.Defs
public import proofs.«01_k».proof.Proof.K.Launch
public import proofs.«01_k».proof.Proof.KI.Launch
public import proofs.«01_k».proof.Proof.KI.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_attention_arguments
public import proofs.«01_k».proof.Proof.Gen.Ffn.Frame
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.InProj.Frame
public import proofs.«01_k».proof.Proof.Gen.InProjIdeal.Frame
public import proofs.«01_k».proof.Proof.Gen.InProjIdeal.Value
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.Prep.Frame
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.Pre_rotary_columns
public import proofs.«01_k».proof.Proof.Ffn
public import proofs.«01_k».proof.Proof.InProj
public import proofs.«01_k».proof.Proof.OutProj
public import proofs.«01_k».proof.Proof.Prep.Final
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

/-- The precondition makes the arguments reals, with the keys' column of ones and the queries' rows of zeros. -/
theorem reals (m : (ℓ : Loc Cert.KernelIdeal.nD Cert.KernelIdeal.τ Cert.KernelIdeal.sig) → Buf (Elt Ideal) ℓ) (h : Cert.Pre_KernelIdeal_attention_arguments m)
    (c : Dev Cert.KernelIdeal.nD) : Cert.ReferenceIdeal.Attn.Reals (m ((c.tc : Thread _ _).loc Cert.KernelIdeal.main_arg0)) (m ((c.tc : Thread _ _).loc Cert.KernelIdeal.main_arg1)) (m ((c.tc : Thread _ _).loc Cert.KernelIdeal.main_arg2))
      (fun b n r q => EReal.toReal (m ((c.tc : Thread _ _).loc Cert.KernelIdeal.main_arg0) (ix4 b n r q)))
      (fun b n j r => EReal.toReal (m ((c.tc : Thread _ _).loc Cert.KernelIdeal.main_arg1) (ix4 b n j r)))
      (fun b n d j => EReal.toReal (m ((c.tc : Thread _ _).loc Cert.KernelIdeal.main_arg2) (ix4 b n d j))) where
  q := Cert.KernelIdeal.Attn.real_q _ _ _ (h c).1
  k := Cert.KernelIdeal.Attn.real_k _ _ _ (h c).2.1
  v := Cert.KernelIdeal.Attn.real_v _ _ _ (h c).2.2.1
  one b n j := (congrArg EReal.toReal (Cert.KernelIdeal.Attn.one_k _ _ _ (h c).2.2.2.1 b n j)).trans EReal.toReal_one
  zero b n r q hr := (congrArg EReal.toReal (Cert.KernelIdeal.Attn.zero_q _ _ _ (h c).2.2.2.2 b n r q hr)).trans EReal.toReal_zero

/-- The reference's term is the result array. -/
theorem reference_eq (x0 : FVec Ideal Cert.ReferenceIdeal.S2x8x256x16384 .bf16) (x1 : FVec Ideal Cert.ReferenceIdeal.S2x8x16384x256 .bf16) (x2 : FVec Ideal Cert.ReferenceIdeal.S2x8x128x16384 .bf16)
    {Q : Fin 2 → Fin 8 → Fin 256 → Fin 16384 → ℝ} {K : Fin 2 → Fin 8 → Fin 16384 → Fin 256 → ℝ} {V : Fin 2 → Fin 8 → Fin 128 → Fin 16384 → ℝ}
    (A : Cert.ReferenceIdeal.Attn.Reals x0 x1 x2 Q K V) :
    Cert.ReferenceIdeal.Read.val_main_v19 (F := Ideal) x0 x1 x2 = Cert.KernelIdeal.Attn.result Q K V := by
  funext i
  have e : i = ix3 (i 0) (i 1) (i 2) := by
    funext a; fin_cases a <;> rfl
  have h := Cert.ReferenceIdeal.Attn.v19_at A (i 0) (i 1) (i 2)
  rw [e]
  exact h

/-- The reference's run, ending with every counter at zero and its arguments unchanged. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems rfl r.2⟩) (Cert.ReferenceIdeal.Value.run m g)

/-- The feed-forward call's run over the extended reals: its result is the reference's array of the arguments, which stay as they were. -/
theorem run_Ffn (m : (ℓ : Loc Cert.FfnIdeal.nD Cert.FfnIdeal.τ Cert.FfnIdeal.sig) → Buf (Elt Ideal) ℓ) (g : Dev Cert.FfnIdeal.nD → PrngReg) :
    θ_run (Cert.FfnIdeal.defs (F := Ideal)) (onTc (τ := Cert.FfnIdeal.τ) (Cert.FfnIdeal.main (F := Ideal))) ⟨m, fun _ => 0, g⟩ (fun r => ∀ c : Dev Cert.FfnIdeal.nD,
      r.2.mem ((c.tc : Thread Cert.FfnIdeal.nD Cert.FfnIdeal.τ).loc Cert.FfnIdeal.main_v0) = Cert.FfnReferenceIdeal.Read.val_main_v38 (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))
      ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0) ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1) ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2) ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3) ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4) ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)) :=
  (θ_run Cert.FfnIdeal.defs _ _).mono (fun r h c => ⟨(Cert.FfnIdeal.Value.post6 m r h c).trans (Cert.FfnIdeal.Result.final m c), Cert.FfnIdeal.Value.kept_main_arg0 m r h c, Cert.FfnIdeal.Value.kept_main_arg1 m r h c, Cert.FfnIdeal.Value.kept_main_arg2 m r h c, Cert.FfnIdeal.Value.kept_main_arg3 m r h c, Cert.FfnIdeal.Value.kept_main_arg4 m r h c, Cert.FfnIdeal.Value.kept_main_arg5 m r h c⟩)
    (Cert.FfnIdeal.Gen.run_main m g)

/-- The input projection's run over the extended reals: its result is the reference's array of the arguments, which stay as they were. -/
theorem run_InProj (m : (ℓ : Loc Cert.InProjIdeal.nD Cert.InProjIdeal.τ Cert.InProjIdeal.sig) → Buf (Elt Ideal) ℓ) (g : Dev Cert.InProjIdeal.nD → PrngReg) :
    θ_run (Cert.InProjIdeal.defs (F := Ideal)) (onTc (τ := Cert.InProjIdeal.τ) (Cert.InProjIdeal.main (F := Ideal))) ⟨m, fun _ => 0, g⟩ (fun r => ∀ c : Dev Cert.InProjIdeal.nD,
      r.2.mem ((c.tc : Thread Cert.InProjIdeal.nD Cert.InProjIdeal.τ).loc Cert.InProjIdeal.main_v0) = Cert.InProjReferenceIdeal.Read.val_main_v13 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))
      ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0) ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1) ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)) :=
  (θ_run Cert.InProjIdeal.defs _ _).mono (fun r h c => ⟨(Cert.InProjIdeal.Value.post3 m r h c).trans (Cert.InProjIdeal.Result.final m c), Cert.InProjIdeal.Value.kept_main_arg0 m r h c, Cert.InProjIdeal.Value.kept_main_arg1 m r h c, Cert.InProjIdeal.Value.kept_main_arg2 m r h c⟩)
    (Cert.InProjIdeal.Gen.run_main m g)

/-- The output projection's run over the extended reals: its result is the reference's array of the arguments, which stay as they were. -/
theorem run_OutProj (m : (ℓ : Loc Cert.OutProjIdeal.nD Cert.OutProjIdeal.τ Cert.OutProjIdeal.sig) → Buf (Elt Ideal) ℓ) (g : Dev Cert.OutProjIdeal.nD → PrngReg) :
    θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
      r.2.mem ((c.tc : Thread Cert.OutProjIdeal.nD Cert.OutProjIdeal.τ).loc Cert.OutProjIdeal.main_v0) = Cert.OutProjReferenceIdeal.Read.val_main_v6 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3))
      ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0) ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1) ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2) ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)) :=
  (θ_run Cert.OutProjIdeal.defs _ _).mono (fun r h c => ⟨(Cert.OutProjIdeal.Value.post4 m r h c).trans (Cert.OutProjIdeal.Result.final m c), Cert.OutProjIdeal.Value.kept_main_arg0 m r h c, Cert.OutProjIdeal.Value.kept_main_arg1 m r h c, Cert.OutProjIdeal.Value.kept_main_arg2 m r h c, Cert.OutProjIdeal.Value.kept_main_arg3 m r h c⟩)
    (Cert.OutProjIdeal.Gen.run_main m g)

/-- The run over the extended reals of the call that prepares the attention's arguments: its three results are the reference's arrays of the
arguments, which stay as they were. -/
theorem run_Prep (m : (ℓ : Loc Cert.PrepIdeal.nD Cert.PrepIdeal.τ Cert.PrepIdeal.sig) → Buf (Elt Ideal) ℓ) (g : Dev Cert.PrepIdeal.nD → PrngReg) (h0 : Cert.Pre_PrepIdeal_rotary_columns m) :
    θ_run (Cert.PrepIdeal.defs (F := Ideal)) (onTc (τ := Cert.PrepIdeal.τ) (Cert.PrepIdeal.main (F := Ideal))) ⟨m, fun _ => 0, g⟩ (fun r => ∀ c : Dev Cert.PrepIdeal.nD,
      r.2.mem ((c.tc : Thread Cert.PrepIdeal.nD Cert.PrepIdeal.τ).loc Cert.PrepIdeal.main_v33_0) = Cert.PrepReferenceIdeal.Read.val_main_v91 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3))
      ∧ r.2.mem ((c.tc : Thread Cert.PrepIdeal.nD Cert.PrepIdeal.τ).loc Cert.PrepIdeal.main_v33_1) = Cert.PrepReferenceIdeal.Read.val_main_v93 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))
      ∧ r.2.mem ((c.tc : Thread Cert.PrepIdeal.nD Cert.PrepIdeal.τ).loc Cert.PrepIdeal.main_v33_2) = Cert.PrepReferenceIdeal.Read.val_main_v96 (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg4)) (m ((c.tc : Thread Cert.PrepIdeal.nD Cert.PrepIdeal.τ).loc Cert.PrepIdeal.main_arg5))
      ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0) ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1) ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2) ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3) ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4) ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)) :=
  (θ_run Cert.PrepIdeal.defs _ _).mono (fun r h c => ⟨(Cert.PrepIdeal.Value.post8 m r h c).trans (Cert.PrepIdeal.Result.final8 m c), (Cert.PrepIdeal.Value.post9 m r h c).trans (Cert.PrepIdeal.Result.final9 m h0 c),
      (Cert.PrepIdeal.Value.post10 m r h c).trans (Cert.PrepIdeal.Result.final10 m c), Cert.PrepIdeal.Value.kept_main_arg0 m r h c, Cert.PrepIdeal.Value.kept_main_arg1 m r h c, Cert.PrepIdeal.Value.kept_main_arg2 m r h c, Cert.PrepIdeal.Value.kept_main_arg3 m r h c, Cert.PrepIdeal.Value.kept_main_arg4 m r h c, Cert.PrepIdeal.Value.kept_main_arg5 m r h c⟩)
    (Cert.PrepIdeal.Gen.run_main m g)

/-- The reference's run, ending with every counter at zero and its arguments unchanged. -/
theorem frame_prep (m : (ℓ : Loc Cert.PrepReferenceIdeal.nD Cert.PrepReferenceIdeal.τ Cert.PrepReferenceIdeal.sig) → Buf (Elt Ideal) ℓ) (g : Dev Cert.PrepReferenceIdeal.nD → PrngReg) :
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0) ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1) ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2) ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3) ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4) ∧ r.2.mem ((c.tc : Thread Cert.PrepReferenceIdeal.nD Cert.PrepReferenceIdeal.τ).loc Cert.PrepReferenceIdeal.main_arg5) = m ((c.tc : Thread Cert.PrepReferenceIdeal.nD Cert.PrepReferenceIdeal.τ).loc Cert.PrepReferenceIdeal.main_arg5))
      ∧ r.2.sem = fun _ => 0) :=
  (θ_run Cert.PrepReferenceIdeal.defs _ _).mono (fun r h => ⟨fun c => (h c).2.2.2, sem_eq_zero_of_no_sems rfl r.2⟩) (Cert.PrepReferenceIdeal.Value.run m g)

/-- Every claim of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.InProj.Gen.facts, Cert.InProjIdeal.Gen.facts, Cert.InProjReferenceIdeal.Gen.facts, Cert.OutProj.Gen.facts, Cert.OutProjIdeal.Gen.facts, Cert.OutProjReferenceIdeal.Gen.facts, Cert.Prep.Gen.facts, Cert.PrepIdeal.Gen.facts, Cert.PrepReferenceIdeal.Gen.facts, Cert.Pre_attention_arguments.Gen.facts, Cert.Pre_rotary_columns.Gen.facts,
  fun m ρ _ => Cert.Kernel.Attn.run_frame m ρ, fun m ρ _ => Cert.KernelIdeal.Attn.run_frame m ρ, fun m ρ _ => Cert.KernelIdeal.Attn.run_frame m ρ,
  fun m ρ _ => frame_reference m ρ, fun m ρ _ => frame_reference m ρ,
  fun m ρ _ => Cert.Ffn.Gen.frame m ρ,
  fun m ρ _ => Cert.FfnIdeal.Gen.frame m ρ,
  fun m ρ _ => (θ_run Cert.FfnReferenceIdeal.defs _ _).mono (fun r h => ⟨fun c => (h c).2, sem_eq_zero_of_no_sems rfl r.2⟩) (Cert.FfnReferenceIdeal.Value.run m ρ),
  fun m ρ _ => Cert.InProj.Gen.frame m ρ,
  fun m ρ _ => Cert.InProjIdeal.Gen.frame m ρ,
  fun m ρ _ => (θ_run Cert.InProjReferenceIdeal.defs _ _).mono (fun r h => ⟨fun c => (h c).2, sem_eq_zero_of_no_sems rfl r.2⟩) (Cert.InProjReferenceIdeal.Value.run m ρ),
  fun m ρ _ => Cert.OutProj.Gen.frame m ρ,
  fun m ρ _ => Cert.OutProjIdeal.Gen.frame m ρ,
  fun m ρ _ => (θ_run Cert.OutProjReferenceIdeal.defs _ _).mono (fun r h => ⟨fun c => (h c).2, sem_eq_zero_of_no_sems rfl r.2⟩) (Cert.OutProjReferenceIdeal.Value.run m ρ),
  fun m ρ _ => Cert.Prep.Gen.frame m ρ,
  fun m ρ _ => Cert.PrepIdeal.Gen.frame m ρ, fun m ρ _ => Cert.PrepIdeal.Gen.frame m ρ,
  fun m ρ _ => frame_prep m ρ, fun m ρ _ => frame_prep m ρ,
  trivial,
  fun m g m' g' h hm => ⟨fun c => Cert.KernelIdeal.Attn.result _ _ _, Cert.KernelIdeal.Attn.run_result m g (reals m h),
    (θ_run Cert.ReferenceIdeal.defs _ _).mono (fun r hr c => ⟨(hr c).1.trans (by
      rw [(hm c).1, (hm c).2.1, (hm c).2.2, Cert.ReferenceIdeal.Read.val_main_v19_eq]
      exact reference_eq _ _ _ (reals m h c)), (hr c).2⟩) (Cert.ReferenceIdeal.Value.run m' g')⟩,
  trivial,
  fun m g m' g' _ hm => ⟨fun c => _, run_Ffn m g,
    (θ_run Cert.FfnReferenceIdeal.defs _ _).mono (fun r hr c => ⟨(hr c).1.trans (by
      rw [Cert.FfnReferenceIdeal.Read.val_main_v38_eq, (hm c).1, (hm c).2.1, (hm c).2.2.1, (hm c).2.2.2.1, (hm c).2.2.2.2.1, (hm c).2.2.2.2.2]), (hr c).2⟩) (Cert.FfnReferenceIdeal.Value.run m' g')⟩,
  trivial,
  fun m g m' g' _ hm => ⟨fun c => _, run_InProj m g,
    (θ_run Cert.InProjReferenceIdeal.defs _ _).mono (fun r hr c => ⟨(hr c).1.trans (by
      rw [(hm c).1, (hm c).2.1, (hm c).2.2]; rfl), (hr c).2⟩) (Cert.InProjReferenceIdeal.Value.run m' g')⟩,
  trivial,
  fun m g m' g' _ hm => ⟨fun c => _, run_OutProj m g,
    (θ_run Cert.OutProjReferenceIdeal.defs _ _).mono (fun r hr c => ⟨(hr c).1.trans (by
      rw [(hm c).1, (hm c).2.1, (hm c).2.2.1, (hm c).2.2.2]; rfl), (hr c).2⟩) (Cert.OutProjReferenceIdeal.Value.run m' g')⟩,
  trivial,
  fun m g m' g' h hm => ⟨fun c => _, fun c => _, fun c => _, run_Prep m g h,
    (θ_run Cert.PrepReferenceIdeal.defs _ _).mono (fun r hr c => by
      obtain ⟨e0, e1, e2, e3, e4, e5⟩ := hm c
      exact ⟨(hr c).1.trans (by rw [Cert.PrepReferenceIdeal.Read.val_main_v91_eq, e0, e1, e2, e3]),
        (hr c).2.1.trans (by rw [Cert.PrepReferenceIdeal.Read.val_main_v93_eq, e0, e1, e4, e5]),
        (hr c).2.2.1.trans (by rw [Cert.PrepReferenceIdeal.Read.val_main_v96_eq, e0, e4, e5]), (hr c).2.2.2⟩) (Cert.PrepReferenceIdeal.Value.run m' g')⟩⟩

end Cert.Proof

end
